-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_summed [hPre_gates_summed : Cert.Pre_gates_summed.Facts] (m : (ℓ : Loc Cert.KernelIdeal.nD Cert.KernelIdeal.τ Cert.KernelIdeal.sig) → Buf (Elt Ideal) ℓ) : Prop :=
  ∀ c : Dev Cert.KernelIdeal.nD,
    (Cert.Pre_gates_summed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_summed [hPre_gates_summed : Cert.Pre_gates_summed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_summed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gates_summed [hKernelIdeal : Cert.KernelIdeal.Facts] [hPre_gates_summed : Cert.Pre_gates_summed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_summed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gates_summed [hReferenceIdeal : Cert.ReferenceIdeal.Facts] [hPre_gates_summed : Cert.Pre_gates_summed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_summed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_gates_summed [hKernelIdeal : Cert.KernelIdeal.Facts] [hReferenceIdeal : Cert.ReferenceIdeal.Facts] [hPre_gates_summed : Cert.Pre_gates_summed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_summed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_v189) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)) (v5 : (c : Dev Cert.Kernel3Ideal.nD) → Buf (Elt Ideal) ((c.tc : Thread Cert.Kernel3Ideal.nD Cert.Kernel3Ideal.τ).loc Cert.Kernel3Ideal.main_v1_5)) (v6 : (c : Dev Cert.Kernel3Ideal.nD) → Buf (Elt Ideal) ((c.tc : Thread Cert.Kernel3Ideal.nD Cert.Kernel3Ideal.τ).loc Cert.Kernel3Ideal.main_v1_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_v1_5) = v5 c
          ∧ r.2.mem ((c.tc : Thread Cert.Kernel3Ideal.nD Cert.Kernel3Ideal.τ).loc Cert.Kernel3Ideal.main_v1_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_v66) = v2 c
          ∧ r.2.mem ((c.tc : Thread Cert.Reference3Ideal.nD Cert.Reference3Ideal.τ).loc Cert.Reference3Ideal.main_v67) = v3 c
          ∧ r.2.mem ((c.tc : Thread Cert.Reference3Ideal.nD Cert.Reference3Ideal.τ).loc Cert.Reference3Ideal.main_v68) = v4 c
          ∧ r.2.mem ((c.tc : Thread Cert.Reference3Ideal.nD Cert.Reference3Ideal.τ).loc Cert.Reference3Ideal.main_v69) = v5 c
          ∧ r.2.mem ((c.tc : Thread Cert.Reference3Ideal.nD Cert.Reference3Ideal.τ).loc Cert.Reference3Ideal.main_v70) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gates_summed : Cert.Pre_gates_summed.Facts),
    quiescent_Kernel (hKernel := hKernel)
    ∧ quiescent_KernelIdeal (hKernelIdeal := hKernelIdeal)
    ∧ quiescent_KernelIdeal_pre_gates_summed (hKernelIdeal := hKernelIdeal) (hPre_gates_summed := hPre_gates_summed)
    ∧ quiescent_ReferenceIdeal (hReferenceIdeal := hReferenceIdeal)
    ∧ quiescent_ReferenceIdeal_pre_gates_summed (hReferenceIdeal := hReferenceIdeal) (hPre_gates_summed := hPre_gates_summed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_gates_summed (hKernelIdeal := hKernelIdeal) (hReferenceIdeal := hReferenceIdeal) (hPre_gates_summed := hPre_gates_summed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_gates_summed.lean ====
abbrev S8x1024x256 : Shape := ⟨3, ![8, 1024, 256]⟩
abbrev S8x256x1024 : Shape := ⟨3, ![8, 256, 1024]⟩
abbrev S8x16x256 : Shape := ⟨3, ![8, 16, 256]⟩
abbrev S8x4x256 : Shape := ⟨3, ![8, 4, 256]⟩
abbrev S_ : Shape := ⟨0, ![]⟩

class Facts : Prop where
  slices_S8x16x256_S8x4x256_0_4_0 : S8x16x256.Slices ![0, 4, 0] S8x4x256
  bcast_S_S_ : S_.BroadcastsInDim S_ (![] : Fin 0 → Fin S_.rank)
  reduceWindows_S8x4x256_S8x4x256_w1s1p0_0_w1s1p0_0_w256s1p255_0 : S8x4x256.ReduceWindows (![1, 1, 256] : Fin 3 → Nat) ![1, 1, 1] ![0, 0, 255] ![0, 0, 0] S8x4x256
  h_S_ : 0 < S_.numel
  slices_S8x16x256_S8x4x256_0_12_0 : S8x16x256.Slices ![0, 12, 0] S8x4x256
  bcast_S_S8x16x256 : S_.BroadcastsInDim S8x16x256 (![] : Fin 0 → Fin S8x16x256.rank)
  reducesTo_S8x16x256_S_d0_1_2 : S8x16x256.ReducesTo [0, 1, 2] S_
  slices_S8x16x256_S8x4x256_0_0_0 : S8x16x256.Slices ![0, 0, 0] S8x4x256
  reducesTo_S8x4x256_S_d0_1_2 : S8x4x256.ReducesTo [0, 1, 2] S_
  slices_S8x16x256_S8x4x256_0_8_0 : S8x16x256.Slices ![0, 8, 0] S8x4x256

variable [Facts]

def fn_cumsum_0 {F : FTy → Type} [FloatOps F] (arg0 : FVec F S8x4x256 .f32) : FVec F S8x4x256 .f32 :=
  let cst : FVec F S_ .f32 := constant S_ .f32 0x00000000#32
  let v0 : FVec F S_ .f32 := broadcastInDim S_ ![] bcast_S_S_ cst
  let v1 : FVec F S8x4x256 .f32 := (fun x v => Host.reduceWindowAdd ![1, 1, 256] ![1, 1, 1] ![0, 0, 255] ![0, 0, 0] x v reduceWindows_S8x4x256_S8x4x256_w1s1p0_0_w1s1p0_0_w256s1p255_0 h_S_) arg0 v0
  v1

def fn_cumsum {F : FTy → Type} [FloatOps F] (arg0 : FVec F S8x4x256 .f32) : FVec F S8x4x256 .f32 :=
  let v0 : FVec F S8x4x256 .f32 := fn_cumsum_0 (F := F) arg0
  v0

def fn_flip {F : FTy → Type} [FloatOps F] (arg0 : FVec F S8x4x256 .f32) : FVec F S8x4x256 .f32 :=
  let v0 : FVec F S8x4x256 .f32 := Host.reverse [2] arg0
  v0

def fn {F : FTy → Type} [FloatOps F] (main_arg0 : FVec F S8x1024x256 .bf16) (main_arg1 : FVec F S8x256x1024 .bf16) (main_arg2 : FVec F S8x16x256 .f32) (main_arg3 : FVec F S8x16x256 .f32) : IVec S_ 1 :=
  let main_v0 : FVec F S8x4x256 .f32 := (extractStridedSlice S8x4x256 ![0, 4, 0] · slices_S8x16x256_S8x4x256_0_4_0) main_arg2
  let main_v1 : FVec F S8x4x256 .f32 := fn_cumsum (F := F) main_v0
  let main_v2 : FVec F S8x4x256 .f32 := (extractStridedSlice S8x4x256 ![0, 12, 0] · slices_S8x16x256_S8x4x256_0_12_0) main_arg2
  let main_v3 : FVec F S8x4x256 .f32 := fn_flip (F := F) main_v2
  let main_v4 : FVec F S8x4x256 .f32 := fn_cumsum (F := F) main_v3
  let main_v5 : FVec F S8x4x256 .f32 := fn_flip (F := F) main_v4
  let main_v6 : FVec F S8x16x256 .f32 := Host.absf main_arg2
  let main_cst : FVec F S_ .f32 := constant S_ .f32 0x7F800000#32
  let main_v7 : FVec F S8x16x256 .f32 := broadcastInDim S8x16x256 ![] bcast_S_S8x16x256 main_cst
  let main_v8 : IVec S8x16x256 1 := cmpf .olt main_v6 main_v7
  let main_c : IVec S_ 1 := constantI S_ 1 1#1
  let main_v9 : IVec S_ 1 := (fun x v => Host.reduce IntOp.andi x v reducesTo_S8x16x256_S_d0_1_2 h_S_) main_v8 main_c
  let main_v10 : FVec F S8x4x256 .f32 := (extractStridedSlice S8x4x256 ![0, 0, 0] · slices_S8x16x256_S8x4x256_0_0_0) main_arg3
  let main_v11 : IVec S8x4x256 1 := cmpf .oeq main_v10 main_v1
  let main_c_0 : IVec S_ 1 := constantI S_ 1 1#1
  let main_v12 : IVec S_ 1 := (fun x v => Host.reduce IntOp.andi x v reducesTo_S8x4x256_S_d0_1_2 h_S_) main_v11 main_c_0
  let main_v13 : IVec S_ 1 := andi main_v9 main_v12
  let main_v14 : FVec F S8x4x256 .f32 := (extractStridedSlice S8x4x256 ![0, 8, 0] · slices_S8x16x256_S8x4x256_0_8_0) main_arg3
  let main_v15 : IVec S8x4x256 1 := cmpf .oeq main_v14 main_v5
  let main_c_1 : IVec S_ 1 := constantI S_ 1 1#1
  let main_v16 : IVec S_ 1 := (fun x v => Host.reduce IntOp.andi x v reducesTo_S8x4x256_S_d0_1_2 h_S_) main_v15 main_c_1
  let main_v17 : IVec S_ 1 := andi main_v13 main_v16
  main_v17
-- ==== Kernel.lean ====
abbrev S8x1024x256 : Shape := ⟨3, ![8, 1024, 256]⟩
abbrev S8x256x1024 : Shape := ⟨3, ![8, 256, 1024]⟩
abbrev S8x16x256 : Shape := ⟨3, ![8, 16, 256]⟩
abbrev S8x2x4x256x256 : Shape := ⟨5, ![8, 2, 4, 256, 256]⟩
abbrev S8x2x4x8x256 : Shape := ⟨5, ![8, 2, 4, 8, 256]⟩
abbrev S8x2x4x128 : Shape := ⟨4, ![8, 2, 4, 128]⟩
abbrev S1x1024x256 : Shape := ⟨3, ![1, 1024, 256]⟩
abbrev S1x256x1024 : Shape := ⟨3, ![1, 256, 1024]⟩
abbrev S1x16x256 : Shape := ⟨3, ![1, 16, 256]⟩
abbrev S1x2x4x256x256 : Shape := ⟨5, ![1, 2, 4, 256, 256]⟩
abbrev S1x2x4x8x256 : Shape := ⟨5, ![1, 2, 4, 8, 256]⟩
abbrev S1x2x4x128 : Shape := ⟨4, ![1, 2, 4, 128]⟩
abbrev S2x4x256x256 : Shape := ⟨4, ![2, 4, 256, 256]⟩
abbrev S2x4x8x256 : Shape := ⟨4, ![2, 4, 8, 256]⟩
abbrev S2x4x128 : Shape := ⟨3, ![2, 4, 128]⟩
abbrev S16x256 : Shape := ⟨2, ![16, 256]⟩
abbrev S4x256 : Shape := ⟨2, ![4, 256]⟩
abbrev S4x1 : Shape := ⟨2, ![4, 1]⟩
abbrev S1x4x128 : Shape := ⟨3, ![1, 4, 128]⟩
abbrev S4x128 : Shape := ⟨2, ![4, 128]⟩
abbrev S4 : Shape := ⟨1, ![4]⟩
abbrev S8x256 : Shape := ⟨2, ![8, 256]⟩
abbrev S1024x256 : Shape := ⟨2, ![1024, 256]⟩
abbrev S256x256 : Shape := ⟨2, ![256, 256]⟩
abbrev S256x1024 : Shape := ⟨2, ![256, 1024]⟩
abbrev S1x4x256x256 : Shape := ⟨4, ![1, 4, 256, 256]⟩
abbrev S4x256x256 : Shape := ⟨3, ![4, 256, 256]⟩
abbrev S1x256x256 : Shape := ⟨3, ![1, 256, 256]⟩
abbrev S1x4x8x256 : Shape := ⟨4, ![1, 4, 8, 256]⟩
abbrev S4x8x256 : Shape := ⟨3, ![4, 8, 256]⟩
abbrev S1x8x256 : Shape := ⟨3, ![1, 8, 256]⟩
abbrev S1x256 : Shape := ⟨2, ![1, 256]⟩
abbrev S1x1 : Shape := ⟨2, ![1, 1]⟩
abbrev S1x128 : Shape := ⟨2, ![1, 128]⟩

abbrev nBuf : Space → Nat
  | .hbm => 7
  | .vmem => 25
  | .smem => 0
  | _ => 0

abbrev bufTy : (tb : Table) → Fin (tcTables nBuf tb) → BufTy
  | .hbm, ⟨0, _⟩ => ⟨S8x1024x256, .bf16⟩
  | .hbm, ⟨1, _⟩ => ⟨S8x256x1024, .bf16⟩
  | .hbm, ⟨2, _⟩ => ⟨S8x16x256, .f32⟩
  | .hbm, ⟨3, _⟩ => ⟨S8x16x256, .f32⟩
  | .hbm, ⟨4, _⟩ => ⟨S8x2x4x256x256, .f32⟩
  | .hbm, ⟨5, _⟩ => ⟨S8x2x4x8x256, .f32⟩
  | .hbm, ⟨6, _⟩ => ⟨S8x2x4x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x16x256, .f32⟩
  | .local _ .vmem, ⟨5, _⟩ => ⟨S1x16x256, .f32⟩
  | .local _ .vmem, ⟨6, _⟩ => ⟨S1x16x256, .f32⟩
  | .local _ .vmem, ⟨7, _⟩ => ⟨S1x16x256, .f32⟩
  | .local _ .vmem, ⟨8, _⟩ => ⟨S1x1024x256, .bf16⟩
  | .local _ .vmem, ⟨9, _⟩ => ⟨S1x1024x256, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x16x256, .f32⟩
  | .local _ .vmem, ⟨13, _⟩ => ⟨S1x16x256, .f32⟩
  | .local _ .vmem, ⟨14, _⟩ => ⟨S1x16x256, .f32⟩
  | .local _ .vmem, ⟨15, _⟩ => ⟨S1x16x256, .f32⟩
  | .local _ .vmem, ⟨16, _⟩ => ⟨S1x2x4x256x256, .f32⟩
  | .local _ .vmem, ⟨17, _⟩ => ⟨S1x2x4x256x256, .f32⟩
  | .local _ .vmem, ⟨18, _⟩ => ⟨S1x2x4x8x256, .f32⟩
  | .local _ .vmem, ⟨19, _⟩ => ⟨S1x2x4x8x256, .f32⟩
  | .local _ .vmem, ⟨20, _⟩ => ⟨S1x2x4x128, .f32⟩
  | .local _ .vmem, ⟨21, _⟩ => ⟨S1x2x4x128, .f32⟩
  | .local _ .vmem, ⟨22, _⟩ => ⟨S2x4x256x256, .f32⟩
  | .local _ .vmem, ⟨23, _⟩ => ⟨S2x4x8x256, .f32⟩
  | .local _ .vmem, ⟨24, _⟩ => ⟨S2x4x128, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_385 : BitVec 32 := 0#32
  let v413 : BitVec 1 := Scalar.cmpi .eq arg1 c0_i32_385
  let v414 : BitVec 32 := Scalar.extui v413
  let c0_i32_386 : BitVec 32 := 0#32
  let v415 : BitVec 1 := Scalar.cmpi .ne v414 c0_i32_386
  v415

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, c0_i32_0.toNat, v0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x4x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8x1024x256 : Shape := ⟨3, ![8, 1024, 256]⟩
abbrev S8x256x1024 : Shape := ⟨3, ![8, 256, 1024]⟩
abbrev S8x16x256 : Shape := ⟨3, ![8, 16, 256]⟩
abbrev S8x256x4x256 : Shape := ⟨4, ![8, 256, 4, 256]⟩
abbrev S8x256x16 : Shape := ⟨3, ![8, 256, 16]⟩
abbrev S8x256x4x4 : Shape := ⟨4, ![8, 256, 4, 4]⟩
abbrev S8x256x1x4 : Shape := ⟨4, ![8, 256, 1, 4]⟩
abbrev S8x256x4 : Shape := ⟨3, ![8, 256, 4]⟩
abbrev S_ : Shape := ⟨0, ![]⟩
abbrev S8x4x256x256 : Shape := ⟨4, ![8, 4, 256, 256]⟩
abbrev S8x4x256 : Shape := ⟨3, ![8, 4, 256]⟩
abbrev S8x4 : Shape := ⟨2, ![8, 4]⟩
abbrev S8x128x4x256 : Shape := ⟨4, ![8, 128, 4, 256]⟩
abbrev S8x4x128x256 : Shape := ⟨4, ![8, 4, 128, 256]⟩
abbrev S8x128x4 : Shape := ⟨3, ![8, 128, 4]⟩
abbrev S8x4x128 : Shape := ⟨3, ![8, 4, 128]⟩
abbrev S8x4x1 : Shape := ⟨3, ![8, 4, 1]⟩
abbrev S8x4x128x1 : Shape := ⟨4, ![8, 4, 128, 1]⟩
abbrev S8x4x1x1 : Shape := ⟨4, ![8, 4, 1, 1]⟩
abbrev S8x1x4x256x256 : Shape := ⟨5, ![8, 1, 4, 256, 256]⟩
abbrev S8x2x4x256x256 : Shape := ⟨5, ![8, 2, 4, 256, 256]⟩
abbrev S8x1x4x256 : Shape := ⟨4, ![8, 1, 4, 256]⟩
abbrev S8x2x4x256 : Shape := ⟨4, ![8, 2, 4, 256]⟩
abbrev S8x1x4 : Shape := ⟨3, ![8, 1, 4]⟩
abbrev S8x2x4 : Shape := ⟨3, ![8, 2, 4]⟩
abbrev S8x2x4x1x256 : Shape := ⟨5, ![8, 2, 4, 1, 256]⟩
abbrev S8x2x4x8x256 : Shape := ⟨5, ![8, 2, 4, 8, 256]⟩
abbrev S8x2x4x1 : Shape := ⟨4, ![8, 2, 4, 1]⟩
abbrev S8x2x4x128 : Shape := ⟨4, ![8, 2, 4, 128]⟩

abbrev nBuf : Space → Nat
  | .hbm => 216
  | .vmem => 0
  | .smem => 0
  | _ => 0

abbrev hbmTy0_0 (i : Nat) : BufTy := match i % 128 with
  | 0 => ⟨S8x1024x256, .bf16⟩
  | 1 => ⟨S8x256x1024, .bf16⟩
  | 2 => ⟨S8x16x256, .f32⟩
  | 3 => ⟨S8x16x256, .f32⟩
  | 4 => ⟨S8x256x1024, .bf16⟩
  | 5 => ⟨S8x256x1024, .f32⟩
  | 6 => ⟨S8x256x4x256, .f32⟩
  | 7 => ⟨S8x256x1024, .f32⟩
  | 8 => ⟨S8x256x4x256, .f32⟩
  | 9 => ⟨S8x256x16, .f32⟩
  | 10 => ⟨S8x256x4x4, .f32⟩
  | 11 => ⟨S8x256x1x4, .f32⟩
  | 12 => ⟨S8x256x4, .f32⟩
  | 13 => ⟨S8x256x1x4, .f32⟩
  | 14 => ⟨S8x256x4, .f32⟩
  | 15 => ⟨S_, .f32⟩
  | 16 => ⟨S8x4x256x256, .f32⟩
  | 17 => ⟨S_, .f32⟩
  | 18 => ⟨S8x4x256, .f32⟩
  | 19 => ⟨S_, .f32⟩
  | 20 => ⟨S8x4, .f32⟩
  | 21 => ⟨S8x128x4x256, .f32⟩
  | 22 => ⟨S8x4x128x256, .f32⟩
  | 23 => ⟨S8x128x4x256, .f32⟩
  | 24 => ⟨S8x4x128x256, .f32⟩
  | 25 => ⟨S8x128x4, .f32⟩
  | 26 => ⟨S8x4x128, .f32⟩
  | 27 => ⟨S8x128x4, .f32⟩
  | 28 => ⟨S8x4x128, .f32⟩
  | 29 => ⟨S_, .f32⟩
  | 30 => ⟨S_, .f32⟩
  | 31 => ⟨S8x4x128, .f32⟩
  | 32 => ⟨S8x4x1, .f32⟩
  | 33 => ⟨S8x4, .f32⟩
  | 34 => ⟨S8x4x1, .f32⟩
  | 35 => ⟨S8x4x128, .f32⟩
  | 36 => ⟨S8x4x128, .f32⟩
  | 37 => ⟨S8x4x128, .f32⟩
  | 38 => ⟨S8x4, .f32⟩
  | 39 => ⟨S_, .f32⟩
  | 40 => ⟨S8x4, .f32⟩
  | 41 => ⟨S8x4, .f32⟩
  | 42 => ⟨S8x4, .f32⟩
  | 43 => ⟨S8x4, .f32⟩
  | 44 => ⟨S8x4, .f32⟩
  | 45 => ⟨S8x4x1, .f32⟩
  | 46 => ⟨S8x4x128, .f32⟩
  | 47 => ⟨S8x4x128, .f32⟩
  | 48 => ⟨S8x4x128, .f32⟩
  | 49 => ⟨S8x4x128x1, .f32⟩
  | 50 => ⟨S8x4x128x256, .f32⟩
  | 51 => ⟨S8x4x128x256, .f32⟩
  | 52 => ⟨S8x4x1x1, .f32⟩
  | 53 => ⟨S8x4x256x256, .f32⟩
  | 54 => ⟨S8x4x256x256, .f32⟩
  | 55 => ⟨S8x4x256x256, .f32⟩
  | 56 => ⟨S8x4x256x256, .f32⟩
  | 57 => ⟨S8x4x1, .f32⟩
  | 58 => ⟨S8x4x256, .f32⟩
  | 59 => ⟨S8x4x256, .f32⟩
  | 60 => ⟨S_, .f32⟩
  | 61 => ⟨S8x4x256, .f32⟩
  | 62 => ⟨S8x4x256, .f32⟩
  | 63 => ⟨S8x128x4x256, .f32⟩
  | 64 => ⟨S8x4x128x256, .f32⟩
  | 65 => ⟨S8x128x4x256, .f32⟩
  | 66 => ⟨S8x4x128x256, .f32⟩
  | 67 => ⟨S8x128x4, .f32⟩
  | 68 => ⟨S8x4x128, .f32⟩
  | 69 => ⟨S8x128x4, .f32⟩
  | 70 => ⟨S8x4x128, .f32⟩
  | 71 => ⟨S_, .f32⟩
  | 72 => ⟨S_, .f32⟩
  | 73 => ⟨S8x4x128, .f32⟩
  | 74 => ⟨S8x4x1, .f32⟩
  | 75 => ⟨S8x4, .f32⟩
  | 76 => ⟨S8x4x1, .f32⟩
  | 77 => ⟨S8x4x128, .f32⟩
  | 78 => ⟨S8x4x128, .f32⟩
  | 79 => ⟨S8x4x128, .f32⟩
  | 80 => ⟨S8x4, .f32⟩
  | 81 => ⟨S_, .f32⟩
  | 82 => ⟨S8x4, .f32⟩
  | 83 => ⟨S8x4, .f32⟩
  | 84 => ⟨S8x4, .f32⟩
  | 85 => ⟨S8x4, .f32⟩
  | 86 => ⟨S8x4, .f32⟩
  | 87 => ⟨S8x4x1, .f32⟩
  | 88 => ⟨S8x4x128, .f32⟩
  | 89 => ⟨S8x4x128, .f32⟩
  | 90 => ⟨S8x4x128, .f32⟩
  | 91 => ⟨S8x4x128x1, .f32⟩
  | 92 => ⟨S8x4x128x256, .f32⟩
  | 93 => ⟨S8x4x128x256, .f32⟩
  | 94 => ⟨S8x4x1x1, .f32⟩
  | 95 => ⟨S8x4x256x256, .f32⟩
  | 96 => ⟨S8x4x256x256, .f32⟩
  | 97 => ⟨S8x4x256x256, .f32⟩
  | 98 => ⟨S8x4x256x256, .f32⟩
  | 99 => ⟨S8x4x1, .f32⟩
  | 100 => ⟨S8x4x256, .f32⟩
  | 101 => ⟨S8x4x256, .f32⟩
  | 102 => ⟨S_, .f32⟩
  | 103 => ⟨S8x4x256, .f32⟩
  | 104 => ⟨S8x4x256, .f32⟩
  | 105 => ⟨S8x256x4x256, .f32⟩
  | 106 => ⟨S8x256x4x256, .f32⟩
  | 107 => ⟨S8x256x1x4, .f32⟩
  | 108 => ⟨S8x256x4, .f32⟩
  | 109 => ⟨S8x256x4, .f32⟩
  | 110 => ⟨S8x256x1x4, .f32⟩
  | 111 => ⟨S8x256x4, .f32⟩
  | 112 => ⟨S8x256x4, .f32⟩
  | 113 => ⟨S_, .f32⟩
  | 114 => ⟨S8x4x256x256, .f32⟩
  | 115 => ⟨S_, .f32⟩
  | 116 => ⟨S8x4x256, .f32⟩
  | 117 => ⟨S_, .f32⟩
  | 118 => ⟨S8x4, .f32⟩
  | 119 => ⟨S8x128x4x256, .f32⟩
  | 120 => ⟨S8x4x128x256, .f32⟩
  | 121 => ⟨S8x128x4x256, .f32⟩
  | 122 => ⟨S8x4x128x256, .f32⟩
  | 123 => ⟨S8x128x4, .f32⟩
  | 124 => ⟨S8x4x128, .f32⟩
  | 125 => ⟨S8x128x4, .f32⟩
  | 126 => ⟨S8x4x128, .f32⟩
  | 127 => ⟨S_, .f32⟩
  | _ => ⟨S8x1024x256, .bf16⟩

abbrev hbmTy0_1 (i : Nat) : BufTy := match i % 128 with
  | 0 => ⟨S_, .f32⟩
  | 1 => ⟨S8x4x128, .f32⟩
  | 2 => ⟨S8x4x1, .f32⟩
  | 3 => ⟨S8x4, .f32⟩
  | 4 => ⟨S8x4x1, .f32⟩
  | 5 => ⟨S8x4x128, .f32⟩
  | 6 => ⟨S8x4x128, .f32⟩
  | 7 => ⟨S8x4x128, .f32⟩
  | 8 => ⟨S8x4, .f32⟩
  | 9 => ⟨S_, .f32⟩
  | 10 => ⟨S8x4, .f32⟩
  | 11 => ⟨S8x4, .f32⟩
  | 12 => ⟨S8x4, .f32⟩
  | 13 => ⟨S8x4, .f32⟩
  | 14 => ⟨S8x4, .f32⟩
  | 15 => ⟨S8x4x1, .f32⟩
  | 16 => ⟨S8x4x128, .f32⟩
  | 17 => ⟨S8x4x128, .f32⟩
  | 18 => ⟨S8x4x128, .f32⟩
  | 19 => ⟨S8x4x128x1, .f32⟩
  | 20 => ⟨S8x4x128x256, .f32⟩
  | 21 => ⟨S8x4x128x256, .f32⟩
  | 22 => ⟨S8x4x1x1, .f32⟩
  | 23 => ⟨S8x4x256x256, .f32⟩
  | 24 => ⟨S8x4x256x256, .f32⟩
  | 25 => ⟨S8x4x256x256, .f32⟩
  | 26 => ⟨S8x4x256x256, .f32⟩
  | 27 => ⟨S8x4x1, .f32⟩
  | 28 => ⟨S8x4x256, .f32⟩
  | 29 => ⟨S8x4x256, .f32⟩
  | 30 => ⟨S_, .f32⟩
  | 31 => ⟨S8x4x256, .f32⟩
  | 32 => ⟨S8x4x256, .f32⟩
  | 33 => ⟨S8x128x4x256, .f32⟩
  | 34 => ⟨S8x4x128x256, .f32⟩
  | 35 => ⟨S8x128x4x256, .f32⟩
  | 36 => ⟨S8x4x128x256, .f32⟩
  | 37 => ⟨S8x128x4, .f32⟩
  | 38 => ⟨S8x4x128, .f32⟩
  | 39 => ⟨S8x128x4, .f32⟩
  | 40 => ⟨S8x4x128, .f32⟩
  | 41 => ⟨S_, .f32⟩
  | 42 => ⟨S_, .f32⟩
  | 43 => ⟨S8x4x128, .f32⟩
  | 44 => ⟨S8x4x1, .f32⟩
  | 45 => ⟨S8x4, .f32⟩
  | 46 => ⟨S8x4x1, .f32⟩
  | 47 => ⟨S8x4x128, .f32⟩
  | 48 => ⟨S8x4x128, .f32⟩
  | 49 => ⟨S8x4x128, .f32⟩
  | 50 => ⟨S8x4, .f32⟩
  | 51 => ⟨S_, .f32⟩
  | 52 => ⟨S8x4, .f32⟩
  | 53 => ⟨S8x4, .f32⟩
  | 54 => ⟨S8x4, .f32⟩
  | 55 => ⟨S8x4, .f32⟩
  | 56 => ⟨S8x4, .f32⟩
  | 57 => ⟨S8x4x1, .f32⟩
  | 58 => ⟨S8x4x128, .f32⟩
  | 59 => ⟨S8x4x128, .f32⟩
  | 60 => ⟨S8x4x128, .f32⟩
  | 61 => ⟨S8x4x128x1, .f32⟩
  | 62 => ⟨S8x4x128x256, .f32⟩
  | 63 => ⟨S8x4x128x256, .f32⟩
  | 64 => ⟨S8x4x1x1, .f32⟩
  | 65 => ⟨S8x4x256x256, .f32⟩
  | 66 => ⟨S8x4x256x256, .f32⟩
  | 67 => ⟨S8x4x256x256, .f32⟩
  | 68 => ⟨S8x4x256x256, .f32⟩
  | 69 => ⟨S8x4x1, .f32⟩
  | 70 => ⟨S8x4x256, .f32⟩
  | 71 => ⟨S8x4x256, .f32⟩
  | 72 => ⟨S_, .f32⟩
  | 73 => ⟨S8x4x256, .f32⟩
  | 74 => ⟨S8x4x256, .f32⟩
  | 75 => ⟨S8x1x4x256x256, .f32⟩
  | 76 => ⟨S8x1x4x256x256, .f32⟩
  | 77 => ⟨S8x2x4x256x256, .f32⟩
  | 78 => ⟨S8x1x4x256, .f32⟩
  | 79 => ⟨S8x1x4x256, .f32⟩
  | 80 => ⟨S8x2x4x256, .f32⟩
  | 81 => ⟨S8x1x4, .f32⟩
  | 82 => ⟨S8x1x4, .f32⟩
  | 83 => ⟨S8x2x4, .f32⟩
  | 84 => ⟨S8x2x4x1x256, .f32⟩
  | 85 => ⟨S8x2x4x8x256, .f32⟩
  | 86 => ⟨S8x2x4x1, .f32⟩
  | 87 => ⟨S8x2x4x128, .f32⟩
  | _ => ⟨S8x1024x256, .bf16⟩

abbrev hbmTy (i : Nat) : BufTy := match i / 128 with
  | 0 => hbmTy0_0 i
  | 1 => hbmTy0_1 i
  | _ => ⟨S8x1024x256, .bf16⟩

abbrev bufTy : (tb : Table) → Fin (tcTables nBuf tb) → BufTy
  | .hbm, ⟨i, _⟩ => hbmTy i
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_call0_cst : Ref sig .tc := ⟨.hbm, 29, rfl⟩
abbrev main_call0_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_3 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_call1_call0_cst : Ref sig .tc := ⟨.hbm, 71, rfl⟩
abbrev main_call1_call0_v0 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_4 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_5 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_cst_6 : Ref sig .tc := ⟨.hbm, 113, rfl⟩
abbrev main_v98 : Ref sig .tc := ⟨.hbm, 114, rfl⟩
abbrev main_cst_7 : Ref sig .tc := ⟨.hbm, 115, rfl⟩
abbrev main_v99 : Ref sig .tc := ⟨.hbm, 116, rfl⟩
abbrev main_cst_8 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_call6_call0_cst : Ref sig .tc := ⟨.hbm, 127, rfl⟩
abbrev main_call6_call0_v0 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_9 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_cst_10 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_call7_call0_cst : Ref sig .tc := ⟨.hbm, 169, rfl⟩
abbrev main_call7_call0_v0 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_cst_11 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_cst_12 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩

abbrev nD : Nat := 1
abbrev τ : Topo := Topo.v7x

variable {F : FTy → Type} [FloatOps F]
-- ==== Kernel2.lean ====
abbrev S8x8192x1024 : Shape := ⟨3, ![8, 8192, 1024]⟩
abbrev S64x4096x256 : Shape := ⟨3, ![64, 4096, 256]⟩
abbrev S8x3x1024 : Shape := ⟨3, ![8, 3, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S1x1024x1024 : Shape := ⟨3, ![1, 1024, 1024]⟩
abbrev S64x64x256 : Shape := ⟨3, ![64, 64, 256]⟩
abbrev S1x3x1024 : Shape := ⟨3, ![1, 3, 1024]⟩
abbrev S1x64x128 : Shape := ⟨3, ![1, 64, 128]⟩
abbrev S64x128 : Shape := ⟨2, ![64, 128]⟩
abbrev S1x256x1024 : Shape := ⟨3, ![1, 256, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S1x1x1024 : Shape := ⟨3, ![1, 1, 1024]⟩

abbrev nBuf : Space → Nat
  | .hbm => 17
  | .vmem => 24
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S64x4096x256, .bf16⟩
  | .hbm, ⟨5, _⟩ => ⟨S8x8192x1024, .bf16⟩
  | .hbm, ⟨6, _⟩ => ⟨S8x8192x1024, .f32⟩
  | .hbm, ⟨7, _⟩ => ⟨S8x3x1024, .f32⟩
  | .hbm, ⟨8, _⟩ => ⟨S1024, .f32⟩
  | .hbm, ⟨9, _⟩ => ⟨S1024x1024, .bf16⟩
  | .hbm, ⟨10, _⟩ => ⟨S1024, .f32⟩
  | .hbm, ⟨11, _⟩ => ⟨S2048x1024, .bf16⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S64x64x256, .bf16⟩
  | .local _ .vmem, ⟨9, _⟩ => ⟨S64x64x256, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1x3x1024, .f32⟩
  | .local _ .vmem, ⟨15, _⟩ => ⟨S1x3x1024, .f32⟩
  | .local _ .vmem, ⟨16, _⟩ => ⟨S1x1024, .f32⟩
  | .local _ .vmem, ⟨17, _⟩ => ⟨S1024x1024, .bf16⟩
  | .local _ .vmem, ⟨18, _⟩ => ⟨S1x1024, .f32⟩
  | .local _ .vmem, ⟨19, _⟩ => ⟨S2048x1024, .bf16⟩
  | .local _ .vmem, ⟨20, _⟩ => ⟨S1x1024, .f32⟩
  | .local _ .vmem, ⟨21, _⟩ => ⟨S1x1024x1024, .f32⟩
  | .local _ .vmem, ⟨22, _⟩ => ⟨S1x1024x1024, .f32⟩
  | .local _ .vmem, ⟨23, _⟩ => ⟨S1024x1024, .bf16⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x8192x1024 : Shape := ⟨3, ![8, 8192, 1024]⟩
abbrev S64x4096x256 : Shape := ⟨3, ![64, 4096, 256]⟩
abbrev S8x3x1024 : Shape := ⟨3, ![8, 3, 1024]⟩
abbrev S1024 : Shape := ⟨1, ![1024]⟩
abbrev S1024x1024 : Shape := ⟨2, ![1024, 1024]⟩
abbrev S2048x1024 : Shape := ⟨2, ![2048, 1024]⟩
abbrev S8x8192x4x256 : Shape := ⟨4, ![8, 8192, 4, 256]⟩
abbrev S_ : Shape := ⟨0, ![]⟩
abbrev S8x8192x4 : Shape := ⟨3, ![8, 8192, 4]⟩
abbrev S8x8192x4x1 : Shape := ⟨4, ![8, 8192, 4, 1]⟩
abbrev S1x1x1024 : Shape := ⟨3, ![1, 1, 1024]⟩
abbrev S64x8x8x64x16x16 : Shape := ⟨6, ![64, 8, 8, 64, 16, 16]⟩
abbrev S8x8x16x64x64x16 : Shape := ⟨6, ![8, 8, 16, 64, 64, 16]⟩
abbrev S8x8192x2048 : Shape := ⟨3, ![8, 8192, 2048]⟩
abbrev S8x1x1024 : Shape := ⟨3, ![8, 1, 1024]⟩
abbrev S8x1024 : Shape := ⟨2, ![8, 1024]⟩
abbrev S8x8192 : Shape := ⟨2, ![8, 8192]⟩
abbrev S8x8192x1 : Shape := ⟨3, ![8, 8192, 1]⟩

abbrev nBuf : Space → Nat
  | .hbm => 137
  | .vmem => 0
  | .smem => 0
  | _ => 0

abbrev hbmTy0_0 (i : Nat) : BufTy := match i % 128 with
  | 0 => ⟨S8x8192x1024, .bf16⟩
  | 1 => ⟨S8x8192x1024, .bf16⟩
  | 2 => ⟨S8x8192x1024, .bf16⟩
  | 3 => ⟨S8x8192x1024, .bf16⟩
  | 4 => ⟨S64x4096x256, .bf16⟩
  | 5 => ⟨S8x8192x1024, .bf16⟩
  | 6 => ⟨S8x8192x1024, .f32⟩
  | 7 => ⟨S8x3x1024, .f32⟩
  | 8 => ⟨S1024, .f32⟩
  | 9 => ⟨S1024x1024, .bf16⟩
  | 10 => ⟨S1024, .f32⟩
  | 11 => ⟨S2048x1024, .bf16⟩
  | 12 => ⟨S1024, .f32⟩
  | 13 => ⟨S8x8192x1024, .f32⟩
  | 14 => ⟨S8x8192x1024, .f32⟩
  | 15 => ⟨S8x8192x1024, .f32⟩
  | 16 => ⟨S8x8192x4x256, .f32⟩
  | 17 => ⟨S8x8192x1024, .f32⟩
  | 18 => ⟨S8x8192x1024, .f32⟩
  | 19 => ⟨S8x8192x1024, .f32⟩
  | 20 => ⟨S_, .f32⟩
  | 21 => ⟨S8x8192x1024, .f32⟩
  | 22 => ⟨S8x8192x1024, .f32⟩
  | 23 => ⟨S_, .f32⟩
  | 24 => ⟨S8x8192x1024, .f32⟩
  | 25 => ⟨S8x8192x1024, .f32⟩
  | 26 => ⟨S8x8192x4x256, .f32⟩
  | 27 => ⟨S8x8192x4x256, .f32⟩
  | 28 => ⟨S_, .f32⟩
  | 29 => ⟨S8x8192x4, .f32⟩
  | 30 => ⟨S8x8192x4x1, .f32⟩
  | 31 => ⟨S_, .f32⟩
  | 32 => ⟨S8x8192x4x1, .f32⟩
  | 33 => ⟨S8x8192x4x1, .f32⟩
  | 34 => ⟨S8x8192x4x256, .f32⟩
  | 35 => ⟨S8x8192x4x256, .f32⟩
  | 36 => ⟨S8x8192x4x256, .f32⟩
  | 37 => ⟨S_, .f32⟩
  | 38 => ⟨S8x8192x4, .f32⟩
  | 39 => ⟨S8x8192x4x1, .f32⟩
  | 40 => ⟨S_, .f32⟩
  | 41 => ⟨S8x8192x4x1, .f32⟩
  | 42 => ⟨S8x8192x4x1, .f32⟩
  | 43 => ⟨S8x8192x4x256, .f32⟩
  | 44 => ⟨S8x8192x4x256, .f32⟩
  | 45 => ⟨S_, .f32⟩
  | 46 => ⟨S8x8192x4x1, .f32⟩
  | 47 => ⟨S8x8192x4x1, .f32⟩
  | 48 => ⟨S8x8192x4x1, .f32⟩
  | 49 => ⟨S8x8192x4x256, .f32⟩
  | 50 => ⟨S8x8192x4x256, .f32⟩
  | 51 => ⟨S8x8192x1024, .f32⟩
  | 52 => ⟨S1x1x1024, .f32⟩
  | 53 => ⟨S8x8192x1024, .f32⟩
  | 54 => ⟨S8x8192x1024, .f32⟩
  | 55 => ⟨S8x8192x1024, .f32⟩
  | 56 => ⟨S8x8192x1024, .f32⟩
  | 57 => ⟨S8x8192x1024, .f32⟩
  | 58 => ⟨S_, .f32⟩
  | 59 => ⟨S8x8192x1024, .f32⟩
  | 60 => ⟨S8x8192x1024, .f32⟩
  | 61 => ⟨S_, .f32⟩
  | 62 => ⟨S8x8192x1024, .f32⟩
  | 63 => ⟨S8x8192x1024, .f32⟩
  | 64 => ⟨S8x8192x1024, .f32⟩
  | 65 => ⟨S8x8192x1024, .f32⟩
  | 66 => ⟨S64x8x8x64x16x16, .bf16⟩
  | 67 => ⟨S8x8x16x64x64x16, .bf16⟩
  | 68 => ⟨S8x8192x1024, .bf16⟩
  | 69 => ⟨S8x8192x1024, .bf16⟩
  | 70 => ⟨S8x8192x1024, .bf16⟩
  | 71 => ⟨S_, .bf16⟩
  | 72 => ⟨S8x8192x1024, .bf16⟩
  | 73 => ⟨S8x8192x1024, .bf16⟩
  | 74 => ⟨S8x8192x1024, .bf16⟩
  | 75 => ⟨S_, .bf16⟩
  | 76 => ⟨S8x8192x1024, .bf16⟩
  | 77 => ⟨S8x8192x1024, .bf16⟩
  | 78 => ⟨S8x8192x1024, .bf16⟩
  | 79 => ⟨S_, .bf16⟩
  | 80 => ⟨S8x8192x1024, .bf16⟩
  | 81 => ⟨S8x8192x1024, .bf16⟩
  | 82 => ⟨S_, .bf16⟩
  | 83 => ⟨S8x8192x1024, .bf16⟩
  | 84 => ⟨S8x8192x1024, .bf16⟩
  | 85 => ⟨S8x8192x1024, .bf16⟩
  | 86 => ⟨S8x8192x1024, .f32⟩
  | 87 => ⟨S1024x1024, .f32⟩
  | 88 => ⟨S8x8192x1024, .f32⟩
  | 89 => ⟨S1x1x1024, .f32⟩
  | 90 => ⟨S8x8192x1024, .f32⟩
  | 91 => ⟨S8x8192x1024, .f32⟩
  | 92 => ⟨S8x8192x1024, .f32⟩
  | 93 => ⟨S8x8192x1024, .f32⟩
  | 94 => ⟨S_, .f32⟩
  | 95 => ⟨S8x8192x1024, .f32⟩
  | 96 => ⟨S8x8192x1024, .f32⟩
  | 97 => ⟨S_, .f32⟩
  | 98 => ⟨S8x8192x1024, .f32⟩
  | 99 => ⟨S8x8192x1024, .f32⟩
  | 100 => ⟨S8x8192x1024, .f32⟩
  | 101 => ⟨S8x8192x1024, .f32⟩
  | 102 => ⟨S8x8192x1024, .f32⟩
  | 103 => ⟨S8x8192x1024, .f32⟩
  | 104 => ⟨S_, .f32⟩
  | 105 => ⟨S8x8192x1024, .f32⟩
  | 106 => ⟨S8x8192x1024, .f32⟩
  | 107 => ⟨S_, .f32⟩
  | 108 => ⟨S8x8192x1024, .f32⟩
  | 109 => ⟨S8x8192x1024, .f32⟩
  | 110 => ⟨S8x8192x1024, .f32⟩
  | 111 => ⟨S8x8192x1024, .f32⟩
  | 112 => ⟨S8x8192x2048, .f32⟩
  | 113 => ⟨S2048x1024, .f32⟩
  | 114 => ⟨S8x8192x1024, .f32⟩
  | 115 => ⟨S8x1x1024, .f32⟩
  | 116 => ⟨S8x1024, .f32⟩
  | 117 => ⟨S8x1x1024, .f32⟩
  | 118 => ⟨S8x8192x1024, .f32⟩
  | 119 => ⟨S8x8192x1024, .f32⟩
  | 120 => ⟨S8x8192x1024, .f32⟩
  | 121 => ⟨S8x8192x1024, .f32⟩
  | 122 => ⟨S_, .f32⟩
  | 123 => ⟨S8x8192, .f32⟩
  | 124 => ⟨S8x8192x1, .f32⟩
  | 125 => ⟨S_, .f32⟩
  | 126 => ⟨S8x8192x1, .f32⟩
  | 127 => ⟨S8x8192x1, .f32⟩
  | _ => ⟨S8x8192x1024, .bf16⟩

abbrev hbmTy0_1 (i : Nat) : BufTy := match i % 128 with
  | 0 => ⟨S_, .f32⟩
  | 1 => ⟨S8x8192x1, .f32⟩
  | 2 => ⟨S8x8192x1, .f32⟩
  | 3 => ⟨S8x8192x1, .f32⟩
  | 4 => ⟨S8x8192x1024, .f32⟩
  | 5 => ⟨S8x8192x1024, .f32⟩
  | 6 => ⟨S1x1x1024, .f32⟩
  | 7 => ⟨S8x8192x1024, .f32⟩
  | 8 => ⟨S8x8192x1024, .f32⟩
  | _ => ⟨S8x8192x1024, .bf16⟩

abbrev hbmTy (i : Nat) : BufTy := match i / 128 with
  | 0 => hbmTy0_0 i
  | 1 => hbmTy0_1 i
  | _ => ⟨S8x8192x1024, .bf16⟩

abbrev bufTy : (tb : Table) → Fin (tcTables nBuf tb) → BufTy
  | .hbm, ⟨i, _⟩ => hbmTy i
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_12 : Ref sig .tc := ⟨.hbm, 122, rfl⟩
abbrev main_v80 : Ref sig .tc := ⟨.hbm, 123, rfl⟩
abbrev main_v81 : Ref sig .tc := ⟨.hbm, 124, rfl⟩
abbrev main_cst_13 : Ref sig .tc := ⟨.hbm, 125, rfl⟩
abbrev main_v82 : Ref sig .tc := ⟨.hbm, 126, rfl⟩
abbrev main_v83 : Ref sig .tc := ⟨.hbm, 127, rfl⟩
abbrev main_cst_14 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x3x1024 : Shape := ⟨3, ![8, 3, 1024]⟩
abbrev S1024 : Shape := ⟨1, ![1024]⟩
abbrev S1024x2048 : Shape := ⟨2, ![1024, 2048]⟩
abbrev S1024x5248 : Shape := ⟨2, ![1024, 5248]⟩
abbrev S3x2048 : Shape := ⟨2, ![3, 2048]⟩
abbrev S1x128 : Shape := ⟨2, ![1, 128]⟩
abbrev S1x1024 : Shape := ⟨2, ![1, 1024]⟩
abbrev S8x1024x8192 : Shape := ⟨3, ![8, 1024, 8192]⟩
abbrev S64x4096x256 : Shape := ⟨3, ![64, 4096, 256]⟩
abbrev S8x16x8192 : Shape := ⟨3, ![8, 16, 8192]⟩
abbrev S1x512x1024 : Shape := ⟨3, ![1, 512, 1024]⟩
abbrev S1x16x1024 : Shape := ⟨3, ![1, 16, 1024]⟩
abbrev S1x3x1024 : Shape := ⟨3, ![1, 3, 1024]⟩
abbrev S1x1024x512 : Shape := ⟨3, ![1, 1024, 512]⟩
abbrev S64x64x128 : Shape := ⟨3, ![64, 64, 128]⟩
abbrev S1x16x512 : Shape := ⟨3, ![1, 16, 512]⟩
abbrev S544x1024 : Shape := ⟨2, ![544, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S1024x128 : Shape := ⟨2, ![1024, 128]⟩
abbrev S512x128 : Shape := ⟨2, ![512, 128]⟩
abbrev S128x512 : Shape := ⟨2, ![128, 512]⟩
abbrev S16x512 : Shape := ⟨2, ![16, 512]⟩
abbrev S16x256 : Shape := ⟨2, ![16, 256]⟩
abbrev S256x256 : Shape := ⟨2, ![256, 256]⟩
abbrev S4x256 : Shape := ⟨2, ![4, 256]⟩
abbrev S1x16x256 : Shape := ⟨3, ![1, 16, 256]⟩
abbrev S1024x1024 : Shape := ⟨2, ![1024, 1024]⟩
abbrev S64x128 : Shape := ⟨2, ![64, 128]⟩
abbrev S1x64x128 : Shape := ⟨3, ![1, 64, 128]⟩
abbrev S8x1024 : Shape := ⟨2, ![8, 1024]⟩
abbrev S504x1024 : Shape := ⟨2, ![504, 1024]⟩
abbrev S3x1024 : Shape := ⟨2, ![3, 1024]⟩
abbrev S1024x512 : Shape := ⟨2, ![1024, 512]⟩

abbrev nBuf : Space → Nat
  | .hbm => 17
  | .vmem => 32
  | .smem => 0
  | _ => 0

abbrev bufTy : (tb : Table) → Fin (tcTables nBuf tb) → BufTy
  | .hbm, ⟨0, _⟩ => ⟨S8x8192x1024, .f32⟩
  | .hbm, ⟨1, _⟩ => ⟨S8x3x1024, .f32⟩
  | .hbm, ⟨2, _⟩ => ⟨S1024, .f32⟩
  | .hbm, ⟨3, _⟩ => ⟨S1024x2048, .bf16⟩
  | .hbm, ⟨4, _⟩ => ⟨S1024x5248, .bf16⟩
  | .hbm, ⟨5, _⟩ => ⟨S3x2048, .f32⟩
  | .hbm, ⟨6, _⟩ => ⟨S1x128, .f32⟩
  | .hbm, ⟨7, _⟩ => ⟨S1x1024, .f32⟩
  | .hbm, ⟨8, _⟩ => ⟨S8x8192x1024, .bf16⟩
  | .hbm, ⟨9, _⟩ => ⟨S8x1024x8192, .bf16⟩
  | .hbm, ⟨10, _⟩ => ⟨S8x8192x1024, .bf16⟩
  | .hbm, ⟨11, _⟩ => ⟨S8x8192x1024, .bf16⟩
  | .hbm, ⟨12, _⟩ => ⟨S8x8192x1024, .bf16⟩
  | .hbm, ⟨13, _⟩ => ⟨S64x4096x256, .bf16⟩
  | .hbm, ⟨14, _⟩ => ⟨S8x8192x1024, .bf16⟩
  | .hbm, ⟨15, _⟩ => ⟨S8x16x8192, .f32⟩
  | .hbm, ⟨16, _⟩ => ⟨S8x16x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x3x1024, .f32⟩
  | .local _ .vmem, ⟨7, _⟩ => ⟨S1x3x1024, .f32⟩
  | .local _ .vmem, ⟨8, _⟩ => ⟨S1x1024, .f32⟩
  | .local _ .vmem, ⟨9, _⟩ => ⟨S1024x2048, .bf16⟩
  | .local _ .vmem, ⟨10, _⟩ => ⟨S1024x5248, .bf16⟩
  | .local _ .vmem, ⟨11, _⟩ => ⟨S3x2048, .f32⟩
  | .local _ .vmem, ⟨12, _⟩ => ⟨S1x128, .f32⟩
  | .local _ .vmem, ⟨13, _⟩ => ⟨S1x512x1024, .bf16⟩
  | .local _ .vmem, ⟨14, _⟩ => ⟨S1x512x1024, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S64x64x128, .bf16⟩
  | .local _ .vmem, ⟨24, _⟩ => ⟨S64x64x128, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x16x512, .f32⟩
  | .local _ .vmem, ⟨28, _⟩ => ⟨S1x16x512, .f32⟩
  | .local _ .vmem, ⟨29, _⟩ => ⟨S1x16x512, .f32⟩
  | .local _ .vmem, ⟨30, _⟩ => ⟨S1x16x512, .f32⟩
  | .local _ .vmem, ⟨31, _⟩ => ⟨S544x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩
abbrev main_v1_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let v18 : BitVec 32 := Scalar.addi v17 arg0
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![c0_i32_10.toNat, v18.toNat, v28.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5248 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x64x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S8x8192x1024 : Shape := ⟨3, ![8, 8192, 1024]⟩
abbrev S8x3x1024 : Shape := ⟨3, ![8, 3, 1024]⟩
abbrev S1024 : Shape := ⟨1, ![1024]⟩
abbrev S1024x2048 : Shape := ⟨2, ![1024, 2048]⟩
abbrev S1024x5248 : Shape := ⟨2, ![1024, 5248]⟩
abbrev S3x2048 : Shape := ⟨2, ![3, 2048]⟩
abbrev S1x128 : Shape := ⟨2, ![1, 128]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x1024 : Shape := ⟨2, ![8, 1024]⟩
abbrev S8x8192x2048 : Shape := ⟨3, ![8, 8192, 2048]⟩
abbrev S8x8194x2048 : Shape := ⟨3, ![8, 8194, 2048]⟩
abbrev S1x2048 : Shape := ⟨2, ![1, 2048]⟩
abbrev S2048 : Shape := ⟨1, ![2048]⟩
abbrev S1x1x2048 : Shape := ⟨3, ![1, 1, 2048]⟩
abbrev S8x8192x5248 : Shape := ⟨3, ![8, 8192, 5248]⟩
abbrev S8x8x16x64x64x16 : Shape := ⟨6, ![8, 8, 16, 64, 64, 16]⟩
abbrev S64x8x8x64x16x16 : Shape := ⟨6, ![64, 8, 8, 64, 16, 16]⟩
abbrev S64x4096x256 : Shape := ⟨3, ![64, 4096, 256]⟩
abbrev S8x1024x8192 : Shape := ⟨3, ![8, 1024, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x3x1024, .f32⟩
  | .hbm, ⟨2, _⟩ => ⟨S1024, .f32⟩
  | .hbm, ⟨3, _⟩ => ⟨S1024x2048, .bf16⟩
  | .hbm, ⟨4, _⟩ => ⟨S1024x5248, .bf16⟩
  | .hbm, ⟨5, _⟩ => ⟨S3x2048, .f32⟩
  | .hbm, ⟨6, _⟩ => ⟨S1x128, .f32⟩
  | .hbm, ⟨7, _⟩ => ⟨S8x8192x1024, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S8x8192x1, .f32⟩
  | .hbm, ⟨18, _⟩ => ⟨S8x8192x1024, .f32⟩
  | .hbm, ⟨19, _⟩ => ⟨S8x8192x1024, .f32⟩
  | .hbm, ⟨20, _⟩ => ⟨S1x1x1024, .f32⟩
  | .hbm, ⟨21, _⟩ => ⟨S8x8192x1024, .f32⟩
  | .hbm, ⟨22, _⟩ => ⟨S8x8192x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x8192x1024, .f32⟩
  | .hbm, ⟨30, _⟩ => ⟨S8x8192x1024, .f32⟩
  | .hbm, ⟨31, _⟩ => ⟨S8x1x1024, .f32⟩
  | .hbm, ⟨32, _⟩ => ⟨S8x1024, .f32⟩
  | .hbm, ⟨33, _⟩ => ⟨S8x1x1024, .f32⟩
  | .hbm, ⟨34, _⟩ => ⟨S8x8192x1024, .f32⟩
  | .hbm, ⟨35, _⟩ => ⟨S8x8192x1024, .f32⟩
  | .hbm, ⟨36, _⟩ => ⟨S1024x2048, .f32⟩
  | .hbm, ⟨37, _⟩ => ⟨S8x8192x2048, .f32⟩
  | .hbm, ⟨38, _⟩ => ⟨S_, .i32⟩
  | .hbm, ⟨39, _⟩ => ⟨S_, .f32⟩
  | .hbm, ⟨40, _⟩ => ⟨S8x8194x2048, .f32⟩
  | .hbm, ⟨41, _⟩ => ⟨S1x2048, .f32⟩
  | .hbm, ⟨42, _⟩ => ⟨S2048, .f32⟩
  | .hbm, ⟨43, _⟩ => ⟨S8x8192x2048, .f32⟩
  | .hbm, ⟨44, _⟩ => ⟨S1x1x2048, .f32⟩
  | .hbm, ⟨45, _⟩ => ⟨S8x8192x2048, .f32⟩
  | .hbm, ⟨46, _⟩ => ⟨S8x8192x2048, .f32⟩
  | .hbm, ⟨47, _⟩ => ⟨S1x2048, .f32⟩
  | .hbm, ⟨48, _⟩ => ⟨S2048, .f32⟩
  | .hbm, ⟨49, _⟩ => ⟨S8x8192x2048, .f32⟩
  | .hbm, ⟨50, _⟩ => ⟨S1x1x2048, .f32⟩
  | .hbm, ⟨51, _⟩ => ⟨S8x8192x2048, .f32⟩
  | .hbm, ⟨52, _⟩ => ⟨S8x8192x2048, .f32⟩
  | .hbm, ⟨53, _⟩ => ⟨S8x8192x2048, .f32⟩
  | .hbm, ⟨54, _⟩ => ⟨S1x2048, .f32⟩
  | .hbm, ⟨55, _⟩ => ⟨S2048, .f32⟩
  | .hbm, ⟨56, _⟩ => ⟨S8x8192x2048, .f32⟩
  | .hbm, ⟨57, _⟩ => ⟨S1x1x2048, .f32⟩
  | .hbm, ⟨58, _⟩ => ⟨S8x8192x2048, .f32⟩
  | .hbm, ⟨59, _⟩ => ⟨S8x8192x2048, .f32⟩
  | .hbm, ⟨60, _⟩ => ⟨S8x8192x2048, .f32⟩
  | .hbm, ⟨61, _⟩ => ⟨S8x8192x2048, .f32⟩
  | .hbm, ⟨62, _⟩ => ⟨S8x8192x2048, .f32⟩
  | .hbm, ⟨63, _⟩ => ⟨S_, .f32⟩
  | .hbm, ⟨64, _⟩ => ⟨S8x8192x2048, .f32⟩
  | .hbm, ⟨65, _⟩ => ⟨S8x8192x2048, .f32⟩
  | .hbm, ⟨66, _⟩ => ⟨S_, .f32⟩
  | .hbm, ⟨67, _⟩ => ⟨S8x8192x2048, .f32⟩
  | .hbm, ⟨68, _⟩ => ⟨S8x8192x2048, .f32⟩
  | .hbm, ⟨69, _⟩ => ⟨S8x8192x2048, .f32⟩
  | .hbm, ⟨70, _⟩ => ⟨S8x8192x1024, .f32⟩
  | .hbm, ⟨71, _⟩ => ⟨S8x8192x1024, .f32⟩
  | .hbm, ⟨72, _⟩ => ⟨S_, .f32⟩
  | .hbm, ⟨73, _⟩ => ⟨S8x8192x1024, .f32⟩
  | .hbm, ⟨74, _⟩ => ⟨S8x8192x1024, .f32⟩
  | .hbm, ⟨75, _⟩ => ⟨S1024x5248, .f32⟩
  | .hbm, ⟨76, _⟩ => ⟨S8x8192x5248, .f32⟩
  | .hbm, ⟨77, _⟩ => ⟨S8x8192x1024, .f32⟩
  | .hbm, ⟨78, _⟩ => ⟨S8x8192x1024, .f32⟩
  | .hbm, ⟨79, _⟩ => ⟨S8x8192x1024, .f32⟩
  | .hbm, ⟨80, _⟩ => ⟨S8x8192x1024, .f32⟩
  | .hbm, ⟨81, _⟩ => ⟨S8x8192x1024, .f32⟩
  | .hbm, ⟨82, _⟩ => ⟨S8x8x16x64x64x16, .f32⟩
  | .hbm, ⟨83, _⟩ => ⟨S64x8x8x64x16x16, .f32⟩
  | .hbm, ⟨84, _⟩ => ⟨S64x4096x256, .f32⟩
  | .hbm, ⟨85, _⟩ => ⟨S8x8192x1024, .bf16⟩
  | .hbm, ⟨86, _⟩ => ⟨S8x1024x8192, .f32⟩
  | .hbm, ⟨87, _⟩ => ⟨S8x1024x8192, .bf16⟩
  | .hbm, ⟨88, _⟩ => ⟨S8x8192x1024, .bf16⟩
  | .hbm, ⟨89, _⟩ => ⟨S8x8192x1024, .bf16⟩
  | .hbm, ⟨90, _⟩ => ⟨S8x8192x1024, .bf16⟩
  | .hbm, ⟨91, _⟩ => ⟨S64x4096x256, .bf16⟩
  | .hbm, ⟨92, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_3 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Proof.State.Loads.lean ====
module

public import Idealize.ShloMosaic.Lib.Pipeline.ValueKit
public import Idealize.ShloMosaic.Lib.Pipeline.ReadBack
public import Idealize.ShloMosaic.Lib.Pointwise

/-! Loads and stores through a slice whose leading axis of size one is dropped: where they read and write. -/

@[expose] public section

set_option maxRecDepth 16384
noncomputable section
namespace Cert.Loads
open Idealize.ShloMosaic Idealize.ShloMosaic.TcCoe Idealize.SL.Sem

variable {sig : RefSig} {κ : Kind} {sp : Space} {e : EltTy} {Val : EltTy → Type}

/-- A matrix loaded from the one slab of a whole block of rank three, at row `p` and column `q`. -/
theorem block_at {M N R C p q : ℕ} (v : Memref sig κ sp ⟨3, ![1, M, N]⟩ e) (h : v.IsWhole)
    (X : (⟨3, ![1, M, N]⟩ : Shape).Idx → Val e)
    (i1 : ∀ a, (![0, 0, 0] : Fin 3 → ℕ) a + (![1, M, N] : Fin 3 → ℕ) a ≤ (⟨3, ![1, M, N]⟩ : Shape).size a)
    (i2 : ∀ a, (![p, q] : Fin 2 → ℕ) a + (![R, C] : Fin 2 → ℕ) a ≤ (⟨2, ![M, N]⟩ : Shape).size a)
    (h0 : (![1, M, N] : Fin 3 → ℕ) 0 = 1) (hs : ∀ i : Fin 2, (![1, M, N] : Fin 3 → ℕ) i.succ = (![M, N] : Fin 2 → ℕ) i)
    (h1 : ∀ a, (Rect.unit (s := ⟨3, ![1, M, N]⟩) ![0, 0, 0] ![1, M, N] i1).stride a = 1)
    (hR : (Rect.unit (s := ⟨2, ![M, N]⟩) ![p, q] ![R, C] i2).toLoadRect.shape.numel
      = ((Rect.unit (s := ⟨3, ![1, M, N]⟩) ![0, 0, 0] ![1, M, N] i1).withinL
          (((Rect.unit (s := ⟨2, ![M, N]⟩) ![p, q] ![R, C] i2).toLoadRect).consLift ![1, M, N] h0 hs) h1).shape.numel)
    (a : Fin R) (b : Fin C) :
    LoadRect.valAlong hR (v.view.readAt Val ((Rect.unit (s := ⟨3, ![1, M, N]⟩) ![0, 0, 0] ![1, M, N] i1).withinL
          (((Rect.unit (s := ⟨2, ![M, N]⟩) ![p, q] ![R, C] i2).toLoadRect).consLift ![1, M, N] h0 hs) h1) (h.unread X)) (ix2 a b)
      = X (ix3 0 ⟨p + a.val, by have := i2 0; have := a.2; simp at *; omega⟩ ⟨q + b.val, by have := i2 1; have := b.2; simp at *; omega⟩) := by
  show v.view.read Val (h.unread X) _ = _
  rw [Memref.IsWhole.read_unread]
  refine congrArg X ?_
  have key := Shape.reshapeEquiv_cons_one (d := (![R, C] : Fin 2 → ℕ)) hR (ix2 a b)
  have key' : Shape.reshapeEquiv hR (ix2 a b) = (Fin.cons ⟨0, Nat.one_pos⟩ (ix2 a b) : (⟨3, Fin.cons 1 ![R, C]⟩ : Shape).Idx) := key
  rw [key']
  funext d
  match d with
  | ⟨0, _⟩ => exact Fin.ext rfl
  | ⟨1, _⟩ => exact Fin.ext (by show (0 + p) + 1 * a.val = p + a.val; omega)
  | ⟨2, _⟩ => exact Fin.ext (by show (0 + q) + 1 * b.val = q + b.val; omega)

/-- A load, through any matching of indices, of a buffer that one constant fills. -/
theorem fill_at {s : Shape} [∀ e, Nonempty (Val e)] (v : View sig κ sp s e) {off : Fin s.rank → ℕ}
    (inb : ∀ a, off a + s.size a ≤ s.size a) (h : ∀ a, off a = 0) (Z : s.Idx → Val e) (z0 : Val e) (hZ : Z = fun _ => z0)
    (B : LoadRect s) (y : B.shape.Idx) :
    v.readCov [⟨Rect.unit off (no_index s.size) inb, Z⟩] B y = z0 := by
  subst hZ
  rw [View.readCov_eq_canon', View.canon_cons_unit_lit inb _ [] h]

/-- The same, at the row and the column the caller names. -/
theorem block_eq {M N R C p q : ℕ} (v : Memref sig κ sp ⟨3, ![1, M, N]⟩ e) (h : v.IsWhole)
    (X : (⟨3, ![1, M, N]⟩ : Shape).Idx → Val e)
    (i1 : ∀ a, (![0, 0, 0] : Fin 3 → ℕ) a + (![1, M, N] : Fin 3 → ℕ) a ≤ (⟨3, ![1, M, N]⟩ : Shape).size a)
    (i2 : ∀ a, (![p, q] : Fin 2 → ℕ) a + (![R, C] : Fin 2 → ℕ) a ≤ (⟨2, ![M, N]⟩ : Shape).size a)
    (h0 : (![1, M, N] : Fin 3 → ℕ) 0 = 1) (hs : ∀ i : Fin 2, (![1, M, N] : Fin 3 → ℕ) i.succ = (![M, N] : Fin 2 → ℕ) i)
    (h1 : ∀ a, (Rect.unit (s := ⟨3, ![1, M, N]⟩) ![0, 0, 0] ![1, M, N] i1).stride a = 1)
    (hR : (Rect.unit (s := ⟨2, ![M, N]⟩) ![p, q] ![R, C] i2).toLoadRect.shape.numel
      = ((Rect.unit (s := ⟨3, ![1, M, N]⟩) ![0, 0, 0] ![1, M, N] i1).withinL
          (((Rect.unit (s := ⟨2, ![M, N]⟩) ![p, q] ![R, C] i2).toLoadRect).consLift ![1, M, N] h0 hs) h1).shape.numel)
    (a : Fin R) (b : Fin C) {z : Val e} (r : Fin M) (c : Fin N) (hX : X (ix3 0 r c) = z) (hr : p + a.val = r.val) (hc : q + b.val = c.val) :
    LoadRect.valAlong hR (v.view.readAt Val ((Rect.unit (s := ⟨3, ![1, M, N]⟩) ![0, 0, 0] ![1, M, N] i1).withinL
          (((Rect.unit (s := ⟨2, ![M, N]⟩) ![p, q] ![R, C] i2).toLoadRect).consLift ![1, M, N] h0 hs) h1) (h.unread X)) (ix2 a b)
      = z := by
  rw [← hX]
  refine (block_at v h X i1 i2 h0 hs h1 hR a b).trans (congrArg X ?_)
  congr 1
  · exact Fin.ext hr
  · exact Fin.ext hc

/-- A store through a slice at slab `d`, row `h`: it puts its payload where `G` wants it, and it covers that row. -/
theorem piece3 {A M N d h : ℕ} (G : (⟨3, ![A, M, N]⟩ : Shape).Idx → Val e)
    (i1 : ∀ a, (![d, 0, 0] : Fin 3 → ℕ) a + (![1, M, N] : Fin 3 → ℕ) a ≤ (⟨3, ![A, M, N]⟩ : Shape).size a)
    (i2 : ∀ a, (![h, 0] : Fin 2 → ℕ) a + (![1, N] : Fin 2 → ℕ) a ≤ (⟨2, ![M, N]⟩ : Shape).size a)
    (h0 : (![1, M, N] : Fin 3 → ℕ) 0 = 1) (hs : ∀ i : Fin 2, (![1, M, N] : Fin 3 → ℕ) i.succ = (![M, N] : Fin 2 → ℕ) i)
    (h1 : ∀ a, (Rect.unit (s := ⟨3, ![A, M, N]⟩) ![d, 0, 0] ![1, M, N] i1).stride a = 1)
    (hR : ((Rect.unit (s := ⟨3, ![A, M, N]⟩) ![d, 0, 0] ![1, M, N] i1).within
          ((Rect.unit (s := ⟨2, ![M, N]⟩) ![h, 0] ![1, N] i2).consLift ![1, M, N] h0 hs) h1).shape.numel
        = (Rect.unit (s := ⟨2, ![M, N]⟩) ![h, 0] ![1, N] i2).shape.numel)
    (w : (⟨2, ![1, N]⟩ : Shape).Idx → Val e) (hd : d < A) (hh : h < M)
    (hw : ∀ b : Fin N, w (ix2 0 b) = G (ix3 ⟨d, hd⟩ ⟨h, hh⟩ b)) :
    ∀ x, (Rect.payAlong hR w) x = G (((Rect.unit (s := ⟨3, ![A, M, N]⟩) ![d, 0, 0] ![1, M, N] i1).within
          ((Rect.unit (s := ⟨2, ![M, N]⟩) ![h, 0] ![1, N] i2).consLift ![1, M, N] h0 hs) h1).emb x) := by
  intro x
  have hx0 : (x 0).val = 0 := by have := (x 0).2; change _ < 1 at this; omega
  have hx1 : (x 1).val = 0 := by have := (x 1).2; change _ < 1 at this; omega
  refine (Rect.payAlong_consLift (Rect.unit (s := ⟨2, ![M, N]⟩) ![h, 0] ![1, N] i2) ![1, M, N] h0 hs w hR x
    (ix2 0 ⟨(x 2).val, (x 2).2⟩) ?_).trans ((hw _).trans ?_)
  · intro i
    match i with
    | ⟨0, _⟩ => exact hx1.symm
    | ⟨1, _⟩ => rfl
  · refine congrArg G ?_
    funext a
    match a with
    | ⟨0, _⟩ => exact Fin.ext (by show d = (d + 0) + 1 * (x 0).val; omega)
    | ⟨1, _⟩ => exact Fin.ext (by show h = (0 + h) + 1 * (x 1).val; omega)
    | ⟨2, _⟩ => exact Fin.ext (by show (x 2).val = (0 + 0) + 1 * (x 2).val; omega)

/-- The same one rank up: a store at slab `d`, matrix `h`. -/
theorem piece4 {A M R N d h : ℕ} (G : (⟨4, ![A, M, R, N]⟩ : Shape).Idx → Val e)
    (i1 : ∀ a, (![d, 0, 0, 0] : Fin 4 → ℕ) a + (![1, M, R, N] : Fin 4 → ℕ) a ≤ (⟨4, ![A, M, R, N]⟩ : Shape).size a)
    (i2 : ∀ a, (![h, 0, 0] : Fin 3 → ℕ) a + (![1, R, N] : Fin 3 → ℕ) a ≤ (⟨3, ![M, R, N]⟩ : Shape).size a)
    (h0 : (![1, M, R, N] : Fin 4 → ℕ) 0 = 1) (hs : ∀ i : Fin 3, (![1, M, R, N] : Fin 4 → ℕ) i.succ = (![M, R, N] : Fin 3 → ℕ) i)
    (h1 : ∀ a, (Rect.unit (s := ⟨4, ![A, M, R, N]⟩) ![d, 0, 0, 0] ![1, M, R, N] i1).stride a = 1)
    (hR : ((Rect.unit (s := ⟨4, ![A, M, R, N]⟩) ![d, 0, 0, 0] ![1, M, R, N] i1).within
          ((Rect.unit (s := ⟨3, ![M, R, N]⟩) ![h, 0, 0] ![1, R, N] i2).consLift ![1, M, R, N] h0 hs) h1).shape.numel
        = (Rect.unit (s := ⟨3, ![M, R, N]⟩) ![h, 0, 0] ![1, R, N] i2).shape.numel)
    (w : (⟨3, ![1, R, N]⟩ : Shape).Idx → Val e) (hd : d < A) (hh : h < M)
    (hw : ∀ (a : Fin R) (b : Fin N), w (ix3 0 a b) = G (ix4 ⟨d, hd⟩ ⟨h, hh⟩ a b)) :
    ∀ x, (Rect.payAlong hR w) x = G (((Rect.unit (s := ⟨4, ![A, M, R, N]⟩) ![d, 0, 0, 0] ![1, M, R, N] i1).within
          ((Rect.unit (s := ⟨3, ![M, R, N]⟩) ![h, 0, 0] ![1, R, N] i2).consLift ![1, M, R, N] h0 hs) h1).emb x) := by
  intro x
  have hx0 : (x 0).val = 0 := by have := (x 0).2; change _ < 1 at this; omega
  have hx1 : (x 1).val = 0 := by have := (x 1).2; change _ < 1 at this; omega
  refine (Rect.payAlong_consLift (Rect.unit (s := ⟨3, ![M, R, N]⟩) ![h, 0, 0] ![1, R, N] i2) ![1, M, R, N] h0 hs w hR x
    (ix3 0 ⟨(x 2).val, (x 2).2⟩ ⟨(x 3).val, (x 3).2⟩) ?_).trans ((hw _ _).trans ?_)
  · intro i
    match i with
    | ⟨0, _⟩ => exact hx1.symm
    | ⟨1, _⟩ => rfl
    | ⟨2, _⟩ => rfl
  · refine congrArg G ?_
    funext a
    match a with
    | ⟨0, _⟩ => exact Fin.ext (by show d = (d + 0) + 1 * (x 0).val; omega)
    | ⟨1, _⟩ => exact Fin.ext (by show h = (0 + h) + 1 * (x 1).val; omega)
    | ⟨2, _⟩ => exact Fin.ext (by show (x 2).val = (0 + 0) + 1 * (x 2).val; omega)
    | ⟨3, _⟩ => exact Fin.ext (by show (x 3).val = (0 + 0) + 1 * (x 3).val; omega)

/-- The row that a store at slab `d`, row `h` covers. -/
theorem mem3 {A M N d h : ℕ}
    (i1 : ∀ a, (![d, 0, 0] : Fin 3 → ℕ) a + (![1, M, N] : Fin 3 → ℕ) a ≤ (⟨3, ![A, M, N]⟩ : Shape).size a)
    (i2 : ∀ a, (![h, 0] : Fin 2 → ℕ) a + (![1, N] : Fin 2 → ℕ) a ≤ (⟨2, ![M, N]⟩ : Shape).size a)
    (h0 : (![1, M, N] : Fin 3 → ℕ) 0 = 1) (hs : ∀ i : Fin 2, (![1, M, N] : Fin 3 → ℕ) i.succ = (![M, N] : Fin 2 → ℕ) i)
    (h1 : ∀ a, (Rect.unit (s := ⟨3, ![A, M, N]⟩) ![d, 0, 0] ![1, M, N] i1).stride a = 1)
    (y0 : Fin A) (y1 : Fin M) (y2 : Fin N) (hy0 : y0.val = d) (hy1 : y1.val = h) :
    (ix3 y0 y1 y2 : (⟨3, ![A, M, N]⟩ : Shape).Idx) ∈ ((Rect.unit (s := ⟨3, ![A, M, N]⟩) ![d, 0, 0] ![1, M, N] i1).within
          ((Rect.unit (s := ⟨2, ![M, N]⟩) ![h, 0] ![1, N] i2).consLift ![1, M, N] h0 hs) h1).set := by
  refine (LoadRect.mem_set _).mpr fun a => ?_
  match a with
  | ⟨0, _⟩ => exact ⟨0, Nat.one_pos, by show y0.val = (d + 0) + 1 * 0; omega⟩
  | ⟨1, _⟩ => exact ⟨0, Nat.one_pos, by show y1.val = (0 + h) + 1 * 0; omega⟩
  | ⟨2, _⟩ => exact ⟨y2.val, y2.2, by show y2.val = (0 + 0) + 1 * y2.val; omega⟩

/-- The matrix that a store at slab `d`, matrix `h` covers. -/
theorem mem4 {A M R N d h : ℕ}
    (i1 : ∀ a, (![d, 0, 0, 0] : Fin 4 → ℕ) a + (![1, M, R, N] : Fin 4 → ℕ) a ≤ (⟨4, ![A, M, R, N]⟩ : Shape).size a)
    (i2 : ∀ a, (![h, 0, 0] : Fin 3 → ℕ) a + (![1, R, N] : Fin 3 → ℕ) a ≤ (⟨3, ![M, R, N]⟩ : Shape).size a)
    (h0 : (![1, M, R, N] : Fin 4 → ℕ) 0 = 1) (hs : ∀ i : Fin 3, (![1, M, R, N] : Fin 4 → ℕ) i.succ = (![M, R, N] : Fin 3 → ℕ) i)
    (h1 : ∀ a, (Rect.unit (s := ⟨4, ![A, M, R, N]⟩) ![d, 0, 0, 0] ![1, M, R, N] i1).stride a = 1)
    (y0 : Fin A) (y1 : Fin M) (y2 : Fin R) (y3 : Fin N) (hy0 : y0.val = d) (hy1 : y1.val = h) :
    (ix4 y0 y1 y2 y3 : (⟨4, ![A, M, R, N]⟩ : Shape).Idx) ∈ ((Rect.unit (s := ⟨4, ![A, M, R, N]⟩) ![d, 0, 0, 0] ![1, M, R, N] i1).within
          ((Rect.unit (s := ⟨3, ![M, R, N]⟩) ![h, 0, 0] ![1, R, N] i2).consLift ![1, M, R, N] h0 hs) h1).set := by
  refine (LoadRect.mem_set _).mpr fun a => ?_
  match a with
  | ⟨0, _⟩ => exact ⟨0, Nat.one_pos, by show y0.val = (d + 0) + 1 * 0; omega⟩
  | ⟨1, _⟩ => exact ⟨0, Nat.one_pos, by show y1.val = (0 + h) + 1 * 0; omega⟩
  | ⟨2, _⟩ => exact ⟨y2.val, y2.2, by show y2.val = (0 + 0) + 1 * y2.val; omega⟩
  | ⟨3, _⟩ => exact ⟨y3.val, y3.2, by show y3.val = (0 + 0) + 1 * y3.val; omega⟩

end Cert.Loads
end
-- ==== Proof.State.Core.lean ====
module

public import Idealize.ShloMosaic.Lib.Pipeline.ValueKit
public import Idealize.ShloMosaic.Lib.Pointwise

/-! The recurrence over one chunk of a sequence, and why two chunks of half the length make one of the whole length. -/

@[expose] public section

noncomputable section
namespace Cert.State
open Idealize.ShloMosaic

variable {n : ℕ}

/-- The running maximum after a chunk: of the decayed old maximum `B` and every position's exponent `g s`. -/
def mx (g : Fin n → EReal) (B : EReal) : EReal := max B (Finset.univ.fold max ⊥ g)

/-- The sum of the positions' contributions, each at its weight `exp (g s - maximum)`. -/
def contrib (g : Fin n → EReal) (B : EReal) (k v : Fin n → EReal) : EReal := ∑ s, k s * Ideal.exp (g s - mx g B) * v s

/-- One entry of the memory after a chunk: the old entry `C0` decayed, and the positions' contributions. -/
def acc (g : Fin n → EReal) (B C0 : EReal) (k v : Fin n → EReal) : EReal :=
  Ideal.exp (B - mx g B) * C0 + contrib g B k v

/-- The first half of the positions. -/
def lo (s : Fin 128) : Fin 256 := ⟨s.val, by omega⟩
/-- The second half of the positions. -/
def hi (s : Fin 128) : Fin 256 := ⟨128 + s.val, by omega⟩

theorem sum_halves (f : Fin 256 → EReal) : ∑ s, f s = ∑ s, f (lo s) + ∑ s, f (hi s) := by
  have := Fin.sum_univ_two_halves 128 128 rfl f
  exact this

theorem fold_sup (g : Fin n → EReal) : Finset.univ.fold max ⊥ g = Finset.univ.sup g := rfl

theorem sup_halves (f : Fin 256 → EReal) :
    Finset.univ.sup f = max (Finset.univ.sup fun s => f (lo s)) (Finset.univ.sup fun s => f (hi s)) := by
  apply le_antisymm
  · refine Finset.sup_le fun s _ => ?_
    by_cases h : s.val < 128
    · refine le_max_of_le_left ?_
      exact Finset.le_sup (f := fun s => f (lo s)) (Finset.mem_univ (⟨s.val, h⟩ : Fin 128))
    · refine le_max_of_le_right ?_
      have e : s = hi ⟨s.val - 128, by omega⟩ := Fin.ext (by simp [hi]; omega)
      rw [e]
      exact Finset.le_sup (f := fun s => f (hi s)) (Finset.mem_univ _)
  · exact max_le (Finset.sup_le fun s _ => Finset.le_sup (Finset.mem_univ _)) (Finset.sup_le fun s _ => Finset.le_sup (Finset.mem_univ _))

/-- A nonnegative real factor goes inside a sum of extended reals. -/
theorem coe_mul_sum {ι : Type*} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- The maximum of real exponents and a real number is a real number. -/
theorem mx_real (g : Fin n → ℝ) (B : ℝ) : ∃ M : ℝ, mx (fun s => (g s : EReal)) B = M := by
  have h1 : mx (fun s => (g s : EReal)) B ≠ ⊥ := by
    intro h
    have : (B : EReal) ≤ ⊥ := h ▸ le_max_left _ _
    exact EReal.coe_ne_bot B (le_bot_iff.mp this)
  have h2 : mx (fun s => (g s : EReal)) B ≠ ⊤ := by
    refine ne_of_lt (max_lt (EReal.coe_lt_top B) ?_)
    rw [fold_sup]
    exact (Finset.sup_lt_iff bot_lt_top).mpr fun s _ => EReal.coe_lt_top _
  exact ⟨_, (EReal.coe_toReal h2 h1).symm⟩

/-- Adding a real number to every exponent adds it to their supremum. -/
theorem add_sup [NeZero n] (c : ℝ) (g : Fin n → ℝ) :
    (Finset.univ.sup fun s => ((c + g s : ℝ) : EReal)) = (c : EReal) + Finset.univ.sup fun s => (g s : EReal) := by
  have hne : (Finset.univ : Finset (Fin n)).Nonempty := ⟨0, Finset.mem_univ _⟩
  rw [← Finset.sup'_eq_sup hne, ← Finset.sup'_eq_sup hne]
  obtain ⟨i, _, hi⟩ := Finset.exists_mem_eq_sup' hne fun s => (g s : EReal)
  rw [hi]
  apply le_antisymm
  · refine Finset.sup'_le hne _ fun s _ => ?_
    rw [EReal.coe_add]
    exact add_le_add_right (hi ▸ Finset.le_sup' (fun s => (g s : EReal)) (Finset.mem_univ s)) _
  · rw [← EReal.coe_add]
    exact Finset.le_sup' (fun s => ((c + g s : ℝ) : EReal)) (Finset.mem_univ i)

/-- Over two halves the maximum is the second half's, with the first half's maximum carried in. -/
theorem mx_two (g : Fin 256 → EReal) (B : EReal) (g1 g2 : Fin 128 → ℝ) (B1 B2 : ℝ) (hlo : ∀ s, g (lo s) = ((B2 + g1 s : ℝ) : EReal))
    (hhi : ∀ s, g (hi s) = (g2 s : EReal)) (hB : B = ((B2 + B1 : ℝ) : EReal)) :
    mx g B = mx (fun s => (g2 s : EReal)) ((B2 : EReal) + mx (fun s => (g1 s : EReal)) B1) := by
  unfold mx
  simp only [fold_sup]
  rw [sup_halves, hB]
  simp only [hlo, hhi]
  rw [add_sup, EReal.coe_add, ← max_assoc]
  congr 1
  exact (Monotone.map_max (f := fun x => (B2 : EReal) + x) (fun _ _ h => add_le_add_right h _)).symm

/-- Over two halves the memory is the second half's, with the first half's memory carried in. -/
theorem acc_two (g : Fin 256 → EReal) (B : EReal) (g1 g2 : Fin 128 → ℝ) (B1 B2 : ℝ) (hlo : ∀ s, g (lo s) = ((B2 + g1 s : ℝ) : EReal))
    (hhi : ∀ s, g (hi s) = (g2 s : EReal)) (hB : B = ((B2 + B1 : ℝ) : EReal)) (k v : Fin 256 → EReal) :
    acc g B 0 k v
      = acc (fun s => (g2 s : EReal)) ((B2 : EReal) + mx (fun s => (g1 s : EReal)) B1)
          (acc (fun s => (g1 s : EReal)) B1 0 (fun s => k (lo s)) (fun s => v (lo s))) (fun s => k (hi s)) (fun s => v (hi s)) := by
  unfold acc contrib
  rw [mul_zero, mul_zero, zero_add, zero_add, sum_halves, mx_two g B g1 g2 B1 B2 hlo hhi hB]
  obtain ⟨M1, h1⟩ := mx_real g1 B1
  rw [h1, ← EReal.coe_add]
  obtain ⟨M2, h2⟩ := mx_real g2 (B2 + M1)
  rw [h2]
  simp only [hlo, hhi]
  simp only [← EReal.coe_sub, Ideal.exp_coe]
  rw [coe_mul_sum _ (Real.exp_pos _).le]
  congr 1
  refine Finset.sum_congr rfl fun s _ => ?_
  have e : Real.exp (B2 + g1 s - M2) = Real.exp (B2 + M1 - M2) * Real.exp (g1 s - M1) := by
    rw [← Real.exp_add]; congr 1; ring
  rw [e, EReal.coe_mul, ← mul_assoc (k (lo s)), mul_comm (k (lo s)), mul_assoc, mul_assoc, mul_assoc]

/-- The maximum does not change when the positions are read backwards. -/
theorem mx_rev (g : Fin n → EReal) (B : EReal) : mx (fun s => g s.rev) B = mx g B := by
  unfold mx
  rw [fold_sup, fold_sup]
  congr 1
  apply le_antisymm
  · exact Finset.sup_le fun s _ => Finset.le_sup (f := g) (Finset.mem_univ _)
  · refine Finset.sup_le fun s _ => ?_
    have := Finset.le_sup (f := fun s : Fin n => g s.rev) (Finset.mem_univ s.rev)
    simpa using this

/-- Nor does the memory. -/
theorem acc_rev (g : Fin n → EReal) (B C0 : EReal) (k v : Fin n → EReal) :
    acc (fun s => g s.rev) B C0 (fun s => k s.rev) (fun s => v s.rev) = acc g B C0 k v := by
  unfold acc contrib
  rw [mx_rev]
  congr 1
  exact Equiv.sum_comp Fin.revPerm (fun s => k s * Ideal.exp (g s - mx g B) * v s)

/-- The sums of a sequence up to each position. -/
def cum (f : Fin n → EReal) (s : Fin n) : EReal := ∑ r, if r.val ≤ s.val then f r else 0

theorem cum_lo (f : Fin 256 → EReal) (s : Fin 128) : cum f (lo s) = cum (fun r => f (lo r)) s := by
  unfold cum
  rw [sum_halves]
  have : ∑ r : Fin 128, (if (hi r).val ≤ (lo s).val then f (hi r) else 0) = 0 :=
    Finset.sum_eq_zero fun r _ => if_neg (by simp [hi, lo]; omega)
  rw [this, add_zero]
  rfl

theorem cum_hi (f : Fin 256 → EReal) (s : Fin 128) : cum f (hi s) = cum (fun r => f (lo r)) 127 + cum (fun r => f (hi r)) s := by
  unfold cum
  rw [sum_halves]
  congr 1
  · refine Finset.sum_congr rfl fun r _ => ?_
    rw [if_pos (by simp [hi, lo]; omega), if_pos (by show r.val ≤ 127; omega)]
  · refine Finset.sum_congr rfl fun r _ => ?_
    simp [hi]

theorem cum_real (f : Fin n → ℝ) (s : Fin n) : cum (fun r => (f r : EReal)) s = ((∑ r, if r.val ≤ s.val then f r else 0 : ℝ) : EReal) := by
  have h : ∀ t : Finset (Fin n), (∑ r ∈ t, if r.val ≤ s.val then (f r : EReal) else 0) = ((∑ r ∈ t, if r.val ≤ s.val then f r else 0 : ℝ) : EReal) := by
    classical
    intro t
    induction t using Finset.induction_on with
    | empty => simp
    | insert a t ha ih =>
      rw [Finset.sum_insert ha, Finset.sum_insert ha, ih, EReal.coe_add]
      congr 1
      split <;> rfl
  exact h _

/-- The exponents of a chunk: from the gates `li`, the sums `b` of the forget gates, and the chunk's whole sum `bL`. -/
def expo (li b : Fin n → EReal) (bL : EReal) (s : Fin n) : EReal := bL - b s + li s

/-- The two halves' exponents and sums, from the whole's, when the gates are real. -/
theorem halves (l f : Fin 256 → EReal) (hl : ∀ s, ∃ x : ℝ, l s = x) (hf : ∀ s, ∃ x : ℝ, f s = x) :
    ∃ (g1 g2 : Fin 128 → ℝ) (B1 B2 : ℝ),
      (∀ s, expo l (cum f) (cum f 255) (lo s) = ((B2 + g1 s : ℝ) : EReal)) ∧ (∀ s, expo l (cum f) (cum f 255) (hi s) = (g2 s : EReal))
      ∧ cum f 255 + 0 = ((B2 + B1 : ℝ) : EReal)
      ∧ (expo (fun s => l (lo s)) (cum fun s => f (lo s)) (cum (fun s => f (lo s)) 127) = fun s => (g1 s : EReal))
      ∧ (expo (fun s => l (hi s)) (cum fun s => f (hi s)) (cum (fun s => f (hi s)) 127) = fun s => (g2 s : EReal))
      ∧ cum (fun s => f (lo s)) 127 + 0 = (B1 : EReal) ∧ cum (fun s => f (hi s)) 127 = (B2 : EReal) := by
  choose l' hl using hl
  choose f' hf using hf
  obtain rfl : l = fun s => (l' s : EReal) := funext hl
  obtain rfl : f = fun s => (f' s : EReal) := funext hf
  have h255 : cum (fun s => (f' s : EReal)) 255 = cum (fun s => (f' (lo s) : EReal)) 127 + cum (fun s => (f' (hi s) : EReal)) 127 := cum_hi _ 127
  have e1 := cum_real fun s => f' (lo s)
  have e2 := cum_real fun s => f' (hi s)
  refine ⟨fun s => (∑ r, if r.val ≤ (127 : Fin 128).val then f' (lo r) else 0) - (∑ r, if r.val ≤ s.val then f' (lo r) else 0) + l' (lo s),
    fun s => (∑ r, if r.val ≤ (127 : Fin 128).val then f' (hi r) else 0) - (∑ r, if r.val ≤ s.val then f' (hi r) else 0) + l' (hi s),
    ∑ r, if r.val ≤ (127 : Fin 128).val then f' (lo r) else 0, ∑ r, if r.val ≤ (127 : Fin 128).val then f' (hi r) else 0, ?_, ?_, ?_, ?_, ?_, ?_, ?_⟩
  · intro s
    unfold expo
    rw [h255, cum_lo, e1, e2, e1, ← EReal.coe_add, ← EReal.coe_sub, ← EReal.coe_add]
    congr 1; ring
  · intro s
    unfold expo
    rw [h255, cum_hi, e1, e2, e2, ← EReal.coe_add, ← EReal.coe_add, ← EReal.coe_sub, ← EReal.coe_add]
    congr 1; ring
  · rw [h255, add_zero, e1, e2, ← EReal.coe_add, add_comm]
  · funext s; unfold expo; rw [e1, e1, ← EReal.coe_sub, ← EReal.coe_add]
  · funext s; unfold expo; rw [e2, e2, ← EReal.coe_sub, ← EReal.coe_add]
  · rw [add_zero, e1]
  · exact e2 127

/-- The maximum after a chunk of gates `li`, `lf` that starts from the maximum `m0`. -/
def mNew (li lf : Fin (n + 1) → EReal) (m0 : EReal) : EReal :=
  mx (expo li (cum lf) (cum lf (Fin.last n))) (cum lf (Fin.last n) + m0)

/-- One entry of the memory after a chunk that starts from the maximum `m0` and the entry `C0`. -/
def cNew (li lf : Fin (n + 1) → EReal) (m0 C0 : EReal) (k v : Fin (n + 1) → EReal) : EReal :=
  acc (expo li (cum lf) (cum lf (Fin.last n))) (cum lf (Fin.last n) + m0) C0 k v

/-- One chunk of 256 positions leaves the maximum that two of 128 leave. -/
theorem mNew_two (l f : Fin 256 → EReal) (hl : ∀ s, ∃ x : ℝ, l s = x) (hf : ∀ s, ∃ x : ℝ, f s = x) :
    mNew (n := 255) l f 0
      = mNew (n := 127) (fun s => l (hi s)) (fun s => f (hi s)) (mNew (n := 127) (fun s => l (lo s)) (fun s => f (lo s)) 0) := by
  obtain ⟨g1, g2, B1, B2, a1, a2, a3, a4, a5, a6, a7⟩ := halves l f hl hf
  show mx (expo l (cum f) (cum f 255)) (cum f 255 + 0)
    = mx (expo (fun s => l (hi s)) (cum fun s => f (hi s)) (cum (fun s => f (hi s)) 127))
        (cum (fun s => f (hi s)) 127 + mx (expo (fun s => l (lo s)) (cum fun s => f (lo s)) (cum (fun s => f (lo s)) 127)) (cum (fun s => f (lo s)) 127 + 0))
  rw [a4, a5, a6, a7]
  exact mx_two _ _ g1 g2 B1 B2 a1 a2 a3

/-- One chunk of 256 positions leaves the memory that two of 128 leave. -/
theorem cNew_two (l f : Fin 256 → EReal) (hl : ∀ s, ∃ x : ℝ, l s = x) (hf : ∀ s, ∃ x : ℝ, f s = x) (k v : Fin 256 → EReal) :
    cNew (n := 255) l f 0 0 k v
      = cNew (n := 127) (fun s => l (hi s)) (fun s => f (hi s)) (mNew (n := 127) (fun s => l (lo s)) (fun s => f (lo s)) 0)
          (cNew (n := 127) (fun s => l (lo s)) (fun s => f (lo s)) 0 0 (fun s => k (lo s)) (fun s => v (lo s))) (fun s => k (hi s)) (fun s => v (hi s)) := by
  obtain ⟨g1, g2, B1, B2, a1, a2, a3, a4, a5, a6, a7⟩ := halves l f hl hf
  show acc (expo l (cum f) (cum f 255)) (cum f 255 + 0) 0 k v
    = acc (expo (fun s => l (hi s)) (cum fun s => f (hi s)) (cum (fun s => f (hi s)) 127))
        (cum (fun s => f (hi s)) 127 + mx (expo (fun s => l (lo s)) (cum fun s => f (lo s)) (cum (fun s => f (lo s)) 127)) (cum (fun s => f (lo s)) 127 + 0))
        (acc (expo (fun s => l (lo s)) (cum fun s => f (lo s)) (cum (fun s => f (lo s)) 127)) (cum (fun s => f (lo s)) 127 + 0) 0 _ _) _ _
  rw [a4, a5, a6, a7]
  exact acc_two _ _ g1 g2 B1 B2 a1 a2 a3 k v

/-- The row of the gates that holds head `h` of direction `d`. -/
def gRow (d : Fin 2) (h : Fin 4) : Fin 16 := ⟨8 * d.val + h.val, by omega⟩
/-- The position at which direction `d` ends. -/
def lastPos (d : Fin 2) : Fin 256 := ⟨255 * (1 - d.val), by omega⟩
/-- Entry `a` of head `h` in the model dimension. -/
def chan (h : Fin 4) (a : Fin 256) : Fin 1024 := ⟨256 * h.val + a.val, by omega⟩

section
variable (gt gx : Fin 16 → Fin 256 → EReal) (kt : Fin 1024 → Fin 256 → EReal) (v : Fin 256 → Fin 1024 → EReal)

/-- The exponents of direction `d` and head `h`, from the gates and their given sums. -/
def kExpo (d : Fin 2) (h : Fin 4) : Fin 256 → EReal := expo (gt (gRow d h)) (gx (gRow d h)) (gx (gRow d h) (lastPos d))
/-- The chunk's whole sum over the zero maximum. -/
def kTop (d : Fin 2) (h : Fin 4) : EReal := gx (gRow d h) (lastPos d) + 0
/-- The maximum the call leaves. -/
def kMax (d : Fin 2) (h : Fin 4) : EReal := mx (kExpo gt gx d h) (kTop gx d h)
/-- The memory the call leaves: entry `a` of the key by entry `e` of the value. -/
def kMem (d : Fin 2) (h : Fin 4) (a e : Fin 256) : EReal :=
  acc (kExpo gt gx d h) (kTop gx d h) 0 (kt (chan h a)) fun s => v s (chan h e)
/-- The normaliser the call leaves. -/
def kNorm (d : Fin 2) (h : Fin 4) (a : Fin 256) : EReal := acc (kExpo gt gx d h) (kTop gx d h) 0 (kt (chan h a)) fun _ => 1
end

end Cert.State
end
-- ==== Proof.State.Payloads.lean ====
module

public import proofs.«01_k».proof.Proof.Gen.KernelIdeal.Value
public import proofs.«01_k».proof.Proof.State.Loads
public import proofs.«01_k».proof.Proof.State.Core

/-! What each stored value of the body is, entry by entry, from the values loaded. -/

@[expose] public section

set_option maxRecDepth 16384
noncomputable section
namespace Cert.KernelIdeal.StateK
open Idealize.ShloMosaic Idealize.ShloMosaic.TcCoe Idealize.SL.Sem
open Idealize.ShloMosaic.Pipeline (Dat)
open Cert.KernelIdeal Cert.KernelIdeal.Gen

theorem neg_inf : Ideal.ofBits FTy.f32 4286578688#32 = (⊥ : EReal) := by simp [Ideal.ofBits, Ideal.ieee]

section
variable (gt gx : Fin 16 → Fin 256 → EReal) (v5 v8 : Vec Ideal S4x256 .f32) (v12 : Vec Ideal S4x1 .f32) (h : Fin 4)

/-- The forward direction's new maximum, from loads that read its rows of the gates and of their sums. -/
theorem max_fwd (h5 : ∀ s, v5 (ix2 h s) = gt (State.gRow 0 h) s)
    (h8 : ∀ s, v8 (ix2 h s) = gx (State.gRow 0 h) s) (h12 : v12 (ix2 h 0) = (0 : EReal)) : k0_pay9 (F := Ideal) v5 v8 v12 (ix2 h 0) = State.kMax gt gx 0 h := by
  pointwise [k0_pay9, k0_pay8, k0_pay7]
  simp only [h5, h8, h12, neg_inf]
  rfl
/-- The factor by which the forward direction's memory decays. -/
theorem dec_fwd (h5 : ∀ s, v5 (ix2 h s) = gt (State.gRow 0 h) s)
    (h8 : ∀ s, v8 (ix2 h s) = gx (State.gRow 0 h) s) (h12 : v12 (ix2 h 0) = (0 : EReal)) :
    k0_pay10 (F := Ideal) v5 v8 v12 (ix2 h 0) = Ideal.exp (State.kTop gx 0 h - State.kMax gt gx 0 h) := by
  rw [← max_fwd gt gx v5 v8 v12 h h5 h8 h12]
  pointwise [k0_pay10, k0_pay7]
  simp only [h8, h12]
  rfl
/-- The weight of a position in the forward direction. -/
theorem gain_fwd (h5 : ∀ s, v5 (ix2 h s) = gt (State.gRow 0 h) s)
    (h8 : ∀ s, v8 (ix2 h s) = gx (State.gRow 0 h) s) (h12 : v12 (ix2 h 0) = (0 : EReal)) (s : Fin 256) :
    k0_pay11 (F := Ideal) v5 v8 v12 (ix2 h s) = Ideal.exp (State.kExpo gt gx 0 h s - State.kMax gt gx 0 h) := by
  rw [← max_fwd gt gx v5 v8 v12 h h5 h8 h12]
  pointwise [k0_pay11, k0_pay8, k0_pay7]
  simp only [h5, h8]
  rfl

/-- The backward direction's new maximum, from loads that read its rows of the gates and of their sums. -/
theorem max_bwd (h5 : ∀ s, v5 (ix2 h s) = gt (State.gRow 1 h) s)
    (h8 : ∀ s, v8 (ix2 h s) = gx (State.gRow 1 h) s) (h12 : v12 (ix2 h 0) = (0 : EReal)) : k0_pay14 (F := Ideal) v5 v8 v12 (ix2 h 0) = State.kMax gt gx 1 h := by
  pointwise [k0_pay14, k0_pay13, k0_pay12]
  simp only [h5, h8, h12, neg_inf]
  rfl
/-- The factor by which the backward direction's memory decays. -/
theorem dec_bwd (h5 : ∀ s, v5 (ix2 h s) = gt (State.gRow 1 h) s)
    (h8 : ∀ s, v8 (ix2 h s) = gx (State.gRow 1 h) s) (h12 : v12 (ix2 h 0) = (0 : EReal)) :
    k0_pay15 (F := Ideal) v5 v8 v12 (ix2 h 0) = Ideal.exp (State.kTop gx 1 h - State.kMax gt gx 1 h) := by
  rw [← max_bwd gt gx v5 v8 v12 h h5 h8 h12]
  pointwise [k0_pay15, k0_pay12]
  simp only [h8, h12]
  rfl
/-- The weight of a position in the backward direction. -/
theorem gain_bwd (h5 : ∀ s, v5 (ix2 h s) = gt (State.gRow 1 h) s)
    (h8 : ∀ s, v8 (ix2 h s) = gx (State.gRow 1 h) s) (h12 : v12 (ix2 h 0) = (0 : EReal)) (s : Fin 256) :
    k0_pay16 (F := Ideal) v5 v8 v12 (ix2 h s) = Ideal.exp (State.kExpo gt gx 1 h s - State.kMax gt gx 1 h) := by
  rw [← max_bwd gt gx v5 v8 v12 h h5 h8 h12]
  pointwise [k0_pay16, k0_pay13, k0_pay12]
  simp only [h5, h8]
  rfl
end

theorem mem0 (d : FVec Ideal S4x1 .f32) (g : FVec Ideal S4x256 .bf16) (k v : Vec Ideal S256x256 .bf16) (C : Vec Ideal S1x256x256 .f32) (a e : Fin 256) :
    k0_pay20 (F := Ideal) d g k v (k0_pay18 C) (ix3 0 a e) = (d (ix2 0 0) * C (ix3 0 a e) + ∑ x, k (ix2 a x) * g (ix2 0 x) * v (ix2 x e) : EReal) := by
  pointwise [k0_pay20, k0_pay19, k0_pay18]

theorem mem1 (d : FVec Ideal S4x1 .f32) (g : FVec Ideal S4x256 .bf16) (k v : Vec Ideal S256x256 .bf16) (C : Vec Ideal S1x256x256 .f32) (a e : Fin 256) :
    k0_pay27 (F := Ideal) (k0_pay26 d g k v C) (ix3 0 a e) = (d (ix2 1 0) * C (ix3 0 a e) + ∑ x, k (ix2 a x) * g (ix2 1 x) * v (ix2 x e) : EReal) := by
  pointwise [k0_pay27, k0_pay26, k0_pay25]

theorem mem2 (d : FVec Ideal S4x1 .f32) (g : FVec Ideal S4x256 .bf16) (k v : Vec Ideal S256x256 .bf16) (C : Vec Ideal S1x256x256 .f32) (a e : Fin 256) :
    k0_pay31 (F := Ideal) d g k v C (ix3 0 a e) = (d (ix2 2 0) * C (ix3 0 a e) + ∑ x, k (ix2 a x) * g (ix2 2 x) * v (ix2 x e) : EReal) := by
  pointwise [k0_pay31, k0_pay30]

theorem mem3 (d : FVec Ideal S4x1 .f32) (g : FVec Ideal S4x256 .bf16) (k v : Vec Ideal S256x256 .bf16) (C : Vec Ideal S1x256x256 .f32) (a e : Fin 256) :
    k0_pay38 (F := Ideal) (k0_pay37 d g k v C) (ix3 0 a e) = (d (ix2 3 0) * C (ix3 0 a e) + ∑ x, k (ix2 a x) * g (ix2 3 x) * v (ix2 x e) : EReal) := by
  pointwise [k0_pay38, k0_pay37, k0_pay36]

theorem mem4 (d : FVec Ideal S4x1 .f32) (g : FVec Ideal S4x256 .bf16) (k v : Vec Ideal S256x256 .bf16) (C : Vec Ideal S1x256x256 .f32) (a e : Fin 256) :
    k0_pay43 (F := Ideal) d g k v C (ix3 0 a e) = (d (ix2 0 0) * C (ix3 0 a e) + ∑ x, k (ix2 a x) * g (ix2 0 x) * v (ix2 x e) : EReal) := by
  pointwise [k0_pay43, k0_pay42]

theorem mem5 (d : FVec Ideal S4x1 .f32) (g : FVec Ideal S4x256 .bf16) (k v : Vec Ideal S256x256 .bf16) (C : Vec Ideal S1x256x256 .f32) (a e : Fin 256) :
    k0_pay51 (F := Ideal) v (k0_pay47 C) (k0_pay49 g k) (k0_pay50 d) (ix3 0 a e) = (d (ix2 1 0) * C (ix3 0 a e) + ∑ x, k (ix2 a x) * g (ix2 1 x) * v (ix2 x e) : EReal) := by
  pointwise [k0_pay51, k0_pay50, k0_pay49, k0_pay47]

theorem mem6 (d : FVec Ideal S4x1 .f32) (g : FVec Ideal S4x256 .bf16) (k v : Vec Ideal S256x256 .bf16) (C : Vec Ideal S1x256x256 .f32) (a e : Fin 256) :
    k0_pay55 (F := Ideal) d g k v C (ix3 0 a e) = (d (ix2 2 0) * C (ix3 0 a e) + ∑ x, k (ix2 a x) * g (ix2 2 x) * v (ix2 x e) : EReal) := by
  pointwise [k0_pay55, k0_pay54]

theorem mem7 (d : FVec Ideal S4x1 .f32) (g : FVec Ideal S4x256 .bf16) (k v : Vec Ideal S256x256 .bf16) (C : Vec Ideal S1x256x256 .f32) (a e : Fin 256) :
    k0_pay61 (F := Ideal) d g k v (k0_pay59 C) (ix3 0 a e) = (d (ix2 3 0) * C (ix3 0 a e) + ∑ x, k (ix2 a x) * g (ix2 3 x) * v (ix2 x e) : EReal) := by
  pointwise [k0_pay61, k0_pay60, k0_pay59]

theorem norm0 (d : FVec Ideal S4x1 .f32) (g : FVec Ideal S4x256 .bf16) (k : Vec Ideal S256x256 .bf16) (C : Vec Ideal S1x8x256 .f32) (a : Fin 8) (e : Fin 256) :
    k0_pay21 (F := Ideal) d g k0_pay17 k C (ix3 0 a e) = (d (ix2 0 0) * C (ix3 0 a e) + ∑ x, k (ix2 e x) * g (ix2 0 x) : EReal) := by
  pointwise [k0_pay21, k0_pay19, k0_pay17]

theorem norm1 (d : FVec Ideal S4x1 .f32) (g : FVec Ideal S4x256 .bf16) (k : Vec Ideal S256x256 .bf16) (C : Vec Ideal S1x8x256 .f32) (a : Fin 8) (e : Fin 256) :
    k0_pay28 (F := Ideal) d k0_pay17 (k0_pay24 C) (k0_pay25 g k) (ix3 0 a e) = (d (ix2 1 0) * C (ix3 0 a e) + ∑ x, k (ix2 e x) * g (ix2 1 x) : EReal) := by
  pointwise [k0_pay28, k0_pay25, k0_pay24, k0_pay17]

theorem norm2 (d : FVec Ideal S4x1 .f32) (g : FVec Ideal S4x256 .bf16) (k : Vec Ideal S256x256 .bf16) (C : Vec Ideal S1x8x256 .f32) (a : Fin 8) (e : Fin 256) :
    k0_pay32 (F := Ideal) d g k0_pay17 k C (ix3 0 a e) = (d (ix2 2 0) * C (ix3 0 a e) + ∑ x, k (ix2 e x) * g (ix2 2 x) : EReal) := by
  pointwise [k0_pay32, k0_pay30, k0_pay17]

theorem norm3 (d : FVec Ideal S4x1 .f32) (g : FVec Ideal S4x256 .bf16) (k : Vec Ideal S256x256 .bf16) (C : Vec Ideal S1x8x256 .f32) (a : Fin 8) (e : Fin 256) :
    k0_pay39 (F := Ideal) d k0_pay17 (k0_pay35 C) (k0_pay36 g k) (ix3 0 a e) = (d (ix2 3 0) * C (ix3 0 a e) + ∑ x, k (ix2 e x) * g (ix2 3 x) : EReal) := by
  pointwise [k0_pay39, k0_pay36, k0_pay35, k0_pay17]

theorem norm4 (d : FVec Ideal S4x1 .f32) (g : FVec Ideal S4x256 .bf16) (k : Vec Ideal S256x256 .bf16) (C : Vec Ideal S1x8x256 .f32) (a : Fin 8) (e : Fin 256) :
    k0_pay45 (F := Ideal) (k0_pay44 d g k0_pay41 k C) (ix3 0 a e) = (d (ix2 0 0) * C (ix3 0 a e) + ∑ x, k (ix2 e x) * g (ix2 0 x) : EReal) := by
  pointwise [k0_pay45, k0_pay44, k0_pay42, k0_pay41]

theorem norm5 (d : FVec Ideal S4x1 .f32) (g : FVec Ideal S4x256 .bf16) (k : Vec Ideal S256x256 .bf16) (C : Vec Ideal S1x8x256 .f32) (a : Fin 8) (e : Fin 256) :
    k0_pay52 (F := Ideal) d k0_pay41 (k0_pay48 C) (k0_pay49 g k) (ix3 0 a e) = (d (ix2 1 0) * C (ix3 0 a e) + ∑ x, k (ix2 e x) * g (ix2 1 x) : EReal) := by
  pointwise [k0_pay52, k0_pay49, k0_pay48, k0_pay41]

theorem norm6 (d : FVec Ideal S4x1 .f32) (g : FVec Ideal S4x256 .bf16) (k : Vec Ideal S256x256 .bf16) (C : Vec Ideal S1x8x256 .f32) (a : Fin 8) (e : Fin 256) :
    k0_pay57 (F := Ideal) (k0_pay56 d g k0_pay41 k C) (ix3 0 a e) = (d (ix2 2 0) * C (ix3 0 a e) + ∑ x, k (ix2 e x) * g (ix2 2 x) : EReal) := by
  pointwise [k0_pay57, k0_pay56, k0_pay54, k0_pay41]

theorem norm7 (d : FVec Ideal S4x1 .f32) (g : FVec Ideal S4x256 .bf16) (k : Vec Ideal S256x256 .bf16) (C : Vec Ideal S1x8x256 .f32) (a : Fin 8) (e : Fin 256) :
    k0_pay62 (F := Ideal) d g k0_pay41 k C (ix3 0 a e) = (d (ix2 3 0) * C (ix3 0 a e) + ∑ x, k (ix2 e x) * g (ix2 3 x) : EReal) := by
  pointwise [k0_pay62, k0_pay60, k0_pay41]

theorem top0 (M : FVec Ideal S4x1 .f32) (b : Fin 128) :
    k0_pay23 (F := Ideal) (k0_pay22 M) (ix2 0 b) = (M (ix2 0 0) : EReal) := by
  pointwise [k0_pay23, k0_pay22]

theorem top1 (M : FVec Ideal S4x1 .f32) (b : Fin 128) :
    k0_pay29 (F := Ideal) M (ix2 0 b) = (M (ix2 1 0) : EReal) := by
  pointwise [k0_pay29]

theorem top2 (M : FVec Ideal S4x1 .f32) (b : Fin 128) :
    k0_pay34 (F := Ideal) (k0_pay33 M) (ix2 0 b) = (M (ix2 2 0) : EReal) := by
  pointwise [k0_pay34, k0_pay33]

theorem top3 (M : FVec Ideal S4x1 .f32) (b : Fin 128) :
    k0_pay40 (F := Ideal) M (ix2 0 b) = (M (ix2 3 0) : EReal) := by
  pointwise [k0_pay40]

theorem top4 (M : FVec Ideal S4x1 .f32) (b : Fin 128) :
    k0_pay46 (F := Ideal) M (ix2 0 b) = (M (ix2 0 0) : EReal) := by
  pointwise [k0_pay46]

theorem top5 (M : FVec Ideal S4x1 .f32) (b : Fin 128) :
    k0_pay53 (F := Ideal) M (ix2 0 b) = (M (ix2 1 0) : EReal) := by
  pointwise [k0_pay53]

theorem top6 (M : FVec Ideal S4x1 .f32) (b : Fin 128) :
    k0_pay58 (F := Ideal) M (ix2 0 b) = (M (ix2 2 0) : EReal) := by
  pointwise [k0_pay58]

theorem top7 (M : FVec Ideal S4x1 .f32) (b : Fin 128) :
    k0_pay63 (F := Ideal) M (ix2 0 b) = (M (ix2 3 0) : EReal) := by
  pointwise [k0_pay63]

end Cert.KernelIdeal.StateK
end
-- ==== Proof.State.Blocks.lean ====
module

public import proofs.«01_k».proof.Proof.State.Payloads
public import Idealize.ShloMosaic.Lib.Pipeline.ReadBack

/-! What each window reads, and the values the call is to leave. -/

@[expose] public section

set_option maxRecDepth 16384
noncomputable section
namespace Cert.KernelIdeal.StateK
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Every window's block at a grid point is the batch entry of that number. -/
theorem idx : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0, 0, 0, 0] ∧ win0_9.index t = ![t.val, 0, 0, 0, 0] ∧ win0_10.index t = ![t.val, 0, 0, 0] :=
  (by decide +kernel : ∀ t : Fin grid0.N, _)

/-- The grid point as a batch entry. -/
def tb (t : Fin cfg0.N) : Fin 8 := ⟨t.val, t.2⟩

theorem blk0 (c : Dev nD) (t : Fin cfg0.N) (r : Fin 1024) (s : Fin 256) :
    iblk m c 0 t (ix3 0 r s) = V m c main_arg0 (ix3 (tb t) r s) := by
  blk_point [iblk, V, idx t, tb]
theorem blk1 (c : Dev nD) (t : Fin cfg0.N) (r : Fin 256) (s : Fin 1024) :
    iblk m c 1 t (ix3 0 r s) = V m c main_arg1 (ix3 (tb t) r s) := by
  blk_point [iblk, V, idx t, tb]
theorem blk2 (c : Dev nD) (t : Fin cfg0.N) (r : Fin 16) (s : Fin 256) :
    iblk m c 2 t (ix3 0 r s) = V m c main_arg2 (ix3 (tb t) r s) := by
  blk_point [iblk, V, idx t, tb]
theorem blk3 (c : Dev nD) (t : Fin cfg0.N) (r : Fin 16) (s : Fin 256) :
    iblk m c 3 t (ix3 0 r s) = V m c main_arg3 (ix3 (tb t) r s) := by
  blk_point [iblk, V, idx t, tb]
theorem blk4 (c : Dev nD) (t : Fin cfg0.N) (r : Fin 1024) (s : Fin 256) :
    iblk m c 4 t (ix3 0 r s) = V m c main_arg0 (ix3 (tb t) r s) := by
  blk_point [iblk, V, idx t, tb]
theorem blk5 (c : Dev nD) (t : Fin cfg0.N) (r : Fin 256) (s : Fin 1024) :
    iblk m c 5 t (ix3 0 r s) = V m c main_arg1 (ix3 (tb t) r s) := by
  blk_point [iblk, V, idx t, tb]
theorem blk6 (c : Dev nD) (t : Fin cfg0.N) (r : Fin 16) (s : Fin 256) :
    iblk m c 6 t (ix3 0 r s) = V m c main_arg2 (ix3 (tb t) r s) := by
  blk_point [iblk, V, idx t, tb]
theorem blk7 (c : Dev nD) (t : Fin cfg0.N) (r : Fin 16) (s : Fin 256) :
    iblk m c 7 t (ix3 0 r s) = V m c main_arg3 (ix3 (tb t) r s) := by
  blk_point [iblk, V, idx t, tb]

theorem pay1_at (v : Vec Ideal S2x4x256x256 .f32) (d : Fin 2) (h : Fin 4) (a e : Fin 256) :
    k0_pay1 (F := Ideal) v (ix5 0 d h a e) = v (ix4 d h a e) := by
  pointwise [k0_pay1]
theorem pay2_at (v : Vec Ideal S2x4x8x256 .f32) (d : Fin 2) (h : Fin 4) (a : Fin 8) (e : Fin 256) :
    k0_pay2 (F := Ideal) v (ix5 0 d h a e) = v (ix4 d h a e) := by
  pointwise [k0_pay2]
theorem pay3_at (v : Vec Ideal S2x4x128 .f32) (d : Fin 2) (h : Fin 4) (a : Fin 128) :
    k0_pay3 (F := Ideal) v (ix4 0 d h a) = v (ix3 d h a) := by
  pointwise [k0_pay3]
theorem fill4 : k0_pay4 (F := Ideal) = fun _ => (0 : EReal) := by
  funext j; pointwise [k0_pay4]
theorem fill5 : k0_pay5 (F := Ideal) = fun _ => (0 : EReal) := by
  funext j; pointwise [k0_pay5]
theorem fill6 : k0_pay6 (F := Ideal) = fun _ => (0 : EReal) := by
  funext j; pointwise [k0_pay6]

/-- The gates, of one batch entry. -/
def gtOf (c : Dev nD) (b : Fin 8) (r : Fin 16) (s : Fin 256) : EReal := V m c main_arg2 (ix3 b r s)
/-- Their sums. -/
def gxOf (c : Dev nD) (b : Fin 8) (r : Fin 16) (s : Fin 256) : EReal := V m c main_arg3 (ix3 b r s)
/-- The keys, with the model dimension first. -/
def ktOf (c : Dev nD) (b : Fin 8) (r : Fin 1024) (s : Fin 256) : EReal := V m c main_arg0 (ix3 b r s)
/-- The values. -/
def vOf (c : Dev nD) (b : Fin 8) (s : Fin 256) (r : Fin 1024) : EReal := V m c main_arg1 (ix3 b s r)

/-- The maxima, of one batch entry. -/
def G10 (c : Dev nD) (b : Fin 8) : FVec Ideal S2x4x128 .f32 := fun j => Cert.State.kMax (gtOf m c b) (gxOf m c b) (j 0) (j 1)

/-- The memories, of one batch entry. -/
def G8 (c : Dev nD) (b : Fin 8) : FVec Ideal S2x4x256x256 .f32 := fun j =>
  Cert.State.kMem (gtOf m c b) (gxOf m c b) (ktOf m c b) (vOf m c b) (j 0) (j 1) (j 2) (j 3)
/-- The normalisers, of one batch entry: the same row eight times. -/
def G9 (c : Dev nD) (b : Fin 8) : FVec Ideal S2x4x8x256 .f32 := fun j =>
  Cert.State.kNorm (gtOf m c b) (gxOf m c b) (ktOf m c b) (j 0) (j 1) (j 3)

theorem zero3 : ∀ a : Fin 3, (![0, 0, 0] : Fin 3 → ℕ) a = 0 := by decide
theorem zero4 : ∀ a : Fin 4, (![0, 0, 0, 0] : Fin 4 → ℕ) a = 0 := by decide

/-- Reading a whole array reads each entry where it stands. -/
theorem idx_whole {s : Shape} {off : Fin s.rank → ℕ} (inb : ∀ a, off a + s.size a ≤ s.size a) (h : ∀ a, off a = 0)
    (j : s.Idx) : (Rect.unit (s := s) off s.size inb).idx j = j := by
  funext a
  exact Fin.ext (by show off a + 1 * (j a).val = (j a).val; rw [h a]; omega)

/-- The eight rows of two directions of four heads, last first. -/
theorem cases8 {P : Fin 2 → Fin 4 → Prop} (a : P 1 3) (b : P 1 2) (c : P 1 1) (d : P 1 0) (e : P 0 3) (f : P 0 2) (g : P 0 1) (h : P 0 0) :
    ∀ i j, P i j := by
  intro i j
  match i, j with
  | 0, 0 => exact h
  | 0, 1 => exact g
  | 0, 2 => exact f
  | 0, 3 => exact e
  | 1, 0 => exact d
  | 1, 1 => exact c
  | 1, 2 => exact b
  | 1, 3 => exact a

/-- A memory entry from its decay, its weights and what it reads. -/
theorem mem_eq (gt gx : Fin 16 → Fin 256 → EReal) (kt : Fin 1024 → Fin 256 → EReal) (v : Fin 256 → Fin 1024 → EReal) (d : Fin 2) (h : Fin 4) (a e : Fin 256)
    {D C : EReal} {K W X : Fin 256 → EReal} (hD : D = Ideal.exp (State.kTop gx d h - State.kMax gt gx d h)) (hC : C = 0)
    (hK : ∀ s, K s = kt (State.chan h a) s) (hW : ∀ s, W s = Ideal.exp (State.kExpo gt gx d h s - State.kMax gt gx d h))
    (hX : ∀ s, X s = v s (State.chan h e)) : D * C + ∑ s, K s * W s * X s = State.kMem gt gx kt v d h a e := by
  subst hD hC
  obtain rfl : K = _ := funext hK
  obtain rfl : W = _ := funext hW
  obtain rfl : X = _ := funext hX
  rfl

/-- A normaliser entry from its decay, its weights and what it reads. -/
theorem norm_eq (gt gx : Fin 16 → Fin 256 → EReal) (kt : Fin 1024 → Fin 256 → EReal) (d : Fin 2) (h : Fin 4) (a : Fin 256)
    {D C : EReal} {K W : Fin 256 → EReal} (hD : D = Ideal.exp (State.kTop gx d h - State.kMax gt gx d h)) (hC : C = 0)
    (hK : ∀ s, K s = kt (State.chan h a) s) (hW : ∀ s, W s = Ideal.exp (State.kExpo gt gx d h s - State.kMax gt gx d h)) :
    D * C + ∑ s, K s * W s = State.kNorm gt gx kt d h a := by
  subst hD hC
  obtain rfl : K = _ := funext hK
  obtain rfl : W = _ := funext hW
  show _ = (_ : EReal) * 0 + ∑ s, _ * _ * (1 : EReal)
  simp only [mul_one]
  rfl

end Cert.KernelIdeal.StateK
end
-- ==== Proof.State.Out8.lean ====
module

public import proofs.«01_k».proof.Proof.State.Blocks

/-! The memories the call leaves. -/

@[expose] public section

set_option maxRecDepth 16384
noncomputable section
namespace Cert.KernelIdeal.StateK
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 400000 in
/-- The memories after the call. -/
theorem final8 (c : Dev nD) : (dats m 0 c).arrAt 8 (cfgs 0).N = fun j : S8x2x4x256x256.Idx => G8 m c (j 0) (ix4 (j 1) (j 2) (j 3) (j 4)) := by
  refine (dats m 0 c).arrAt_eq_of_covers 8 _ (by decide +kernel) fun t _ y => ?_
  blk_simp
  rw [after0_8]; unfold Gen.outsAt0; frame_out
  set_option backward.isDefEq.respectTransparency false in
  simp (disch := decide +kernel) only [View.readCov_skip]
  obtain ⟨z, d, h, a, e, rfl⟩ : ∃ (z : Fin 1) (d : Fin 2) (h : Fin 4) (a e : Fin 256), y = ix5 z d h a e := ⟨y 0, y 1, y 2, y 3, y 4, eq_ix5 y⟩
  obtain rfl := Subsingleton.elim z 0
  rw [pay1_at, View.readCov_eq_canon']
  beta_reduce
  rw [idx_whole _ zero4]
  refine (View.canon_append_of_piecesOf (G8 m c (tb t)) [_] [_, _, _, _, _, _, _, _] ⟨?_, ?_, ?_, ?_, ?_, ?_, ?_, ?_, trivial⟩ _ ?_).trans ?_
  · dsimp only
    refine Loads.piece4 (A := 2) (M := 4) (R := 256) (N := 256) (e := .f32) (Val := Elt Ideal) (G8 m c (tb t)) _ _ _ _ _ _ _ ?hd ?hh fun a e => ?_
    case hd => decide
    case hh => decide
    exact (mem7 _ _ _ _ _ _ _).trans (mem_eq (gtOf m c (tb t)) (gxOf m c (tb t)) (ktOf m c (tb t)) (vOf m c (tb t)) 1 3 a e (dec_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _)) (Loads.fill_at _ _ zero4 _ _ fill4 _ _)
      (fun s => Loads.block_eq _ _ _ _ _ _ _ _ _ _ _ _ _ (blk4 m c t _ s) rfl (Nat.zero_add _)) (fun s => gain_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _) s)
      (fun s => Loads.block_eq _ _ _ _ _ _ _ _ _ _ _ _ _ (blk5 m c t s _) (Nat.zero_add _) rfl))
  · dsimp only
    refine Loads.piece4 (A := 2) (M := 4) (R := 256) (N := 256) (e := .f32) (Val := Elt Ideal) (G8 m c (tb t)) _ _ _ _ _ _ _ ?hd ?hh fun a e => ?_
    case hd => decide
    case hh => decide
    exact (mem6 _ _ _ _ _ _ _).trans (mem_eq (gtOf m c (tb t)) (gxOf m c (tb t)) (ktOf m c (tb t)) (vOf m c (tb t)) 1 2 a e (dec_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _)) (Loads.fill_at _ _ zero4 _ _ fill4 _ _)
      (fun s => Loads.block_eq _ _ _ _ _ _ _ _ _ _ _ _ _ (blk4 m c t _ s) rfl (Nat.zero_add _)) (fun s => gain_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _) s)
      (fun s => Loads.block_eq _ _ _ _ _ _ _ _ _ _ _ _ _ (blk5 m c t s _) (Nat.zero_add _) rfl))
  · dsimp only
    refine Loads.piece4 (A := 2) (M := 4) (R := 256) (N := 256) (e := .f32) (Val := Elt Ideal) (G8 m c (tb t)) _ _ _ _ _ _ _ ?hd ?hh fun a e => ?_
    case hd => decide
    case hh => decide
    exact (mem5 _ _ _ _ _ _ _).trans (mem_eq (gtOf m c (tb t)) (gxOf m c (tb t)) (ktOf m c (tb t)) (vOf m c (tb t)) 1 1 a e (dec_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _)) (Loads.fill_at _ _ zero4 _ _ fill4 _ _)
      (fun s => Loads.block_eq _ _ _ _ _ _ _ _ _ _ _ _ _ (blk4 m c t _ s) rfl (Nat.zero_add _)) (fun s => gain_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _) s)
      (fun s => Loads.block_eq _ _ _ _ _ _ _ _ _ _ _ _ _ (blk5 m c t s _) (Nat.zero_add _) rfl))
  · dsimp only
    refine Loads.piece4 (A := 2) (M := 4) (R := 256) (N := 256) (e := .f32) (Val := Elt Ideal) (G8 m c (tb t)) _ _ _ _ _ _ _ ?hd ?hh fun a e => ?_
    case hd => decide
    case hh => decide
    exact (mem4 _ _ _ _ _ _ _).trans (mem_eq (gtOf m c (tb t)) (gxOf m c (tb t)) (ktOf m c (tb t)) (vOf m c (tb t)) 1 0 a e (dec_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _)) (Loads.fill_at _ _ zero4 _ _ fill4 _ _)
      (fun s => Loads.block_eq _ _ _ _ _ _ _ _ _ _ _ _ _ (blk4 m c t _ s) rfl (Nat.zero_add _)) (fun s => gain_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _) s)
      (fun s => Loads.block_eq _ _ _ _ _ _ _ _ _ _ _ _ _ (blk5 m c t s _) (Nat.zero_add _) rfl))
  · dsimp only
    refine Loads.piece4 (A := 2) (M := 4) (R := 256) (N := 256) (e := .f32) (Val := Elt Ideal) (G8 m c (tb t)) _ _ _ _ _ _ _ ?hd ?hh fun a e => ?_
    case hd => decide
    case hh => decide
    exact (mem3 _ _ _ _ _ _ _).trans (mem_eq (gtOf m c (tb t)) (gxOf m c (tb t)) (ktOf m c (tb t)) (vOf m c (tb t)) 0 3 a e (dec_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _)) (Loads.fill_at _ _ zero4 _ _ fill4 _ _)
      (fun s => Loads.block_eq _ _ _ _ _ _ _ _ _ _ _ _ _ (blk0 m c t _ s) rfl (Nat.zero_add _)) (fun s => gain_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _) s)
      (fun s => Loads.block_eq _ _ _ _ _ _ _ _ _ _ _ _ _ (blk1 m c t s _) (Nat.zero_add _) rfl))
  · dsimp only
    refine Loads.piece4 (A := 2) (M := 4) (R := 256) (N := 256) (e := .f32) (Val := Elt Ideal) (G8 m c (tb t)) _ _ _ _ _ _ _ ?hd ?hh fun a e => ?_
    case hd => decide
    case hh => decide
    exact (mem2 _ _ _ _ _ _ _).trans (mem_eq (gtOf m c (tb t)) (gxOf m c (tb t)) (ktOf m c (tb t)) (vOf m c (tb t)) 0 2 a e (dec_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _)) (Loads.fill_at _ _ zero4 _ _ fill4 _ _)
      (fun s => Loads.block_eq _ _ _ _ _ _ _ _ _ _ _ _ _ (blk0 m c t _ s) rfl (Nat.zero_add _)) (fun s => gain_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _) s)
      (fun s => Loads.block_eq _ _ _ _ _ _ _ _ _ _ _ _ _ (blk1 m c t s _) (Nat.zero_add _) rfl))
  · dsimp only
    refine Loads.piece4 (A := 2) (M := 4) (R := 256) (N := 256) (e := .f32) (Val := Elt Ideal) (G8 m c (tb t)) _ _ _ _ _ _ _ ?hd ?hh fun a e => ?_
    case hd => decide
    case hh => decide
    exact (mem1 _ _ _ _ _ _ _).trans (mem_eq (gtOf m c (tb t)) (gxOf m c (tb t)) (ktOf m c (tb t)) (vOf m c (tb t)) 0 1 a e (dec_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _)) (Loads.fill_at _ _ zero4 _ _ fill4 _ _)
      (fun s => Loads.block_eq _ _ _ _ _ _ _ _ _ _ _ _ _ (blk0 m c t _ s) rfl (Nat.zero_add _)) (fun s => gain_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _) s)
      (fun s => Loads.block_eq _ _ _ _ _ _ _ _ _ _ _ _ _ (blk1 m c t s _) (Nat.zero_add _) rfl))
  · dsimp only
    refine Loads.piece4 (A := 2) (M := 4) (R := 256) (N := 256) (e := .f32) (Val := Elt Ideal) (G8 m c (tb t)) _ _ _ _ _ _ _ ?hd ?hh fun a e => ?_
    case hd => decide
    case hh => decide
    exact (mem0 _ _ _ _ _ _ _).trans (mem_eq (gtOf m c (tb t)) (gxOf m c (tb t)) (ktOf m c (tb t)) (vOf m c (tb t)) 0 0 a e (dec_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _)) (Loads.fill_at _ _ zero4 _ _ fill4 _ _)
      (fun s => Loads.block_eq _ _ _ _ _ _ _ _ _ _ _ _ _ (blk0 m c t _ s) rfl (Nat.zero_add _)) (fun s => gain_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _) s)
      (fun s => Loads.block_eq _ _ _ _ _ _ _ _ _ _ _ _ _ (blk1 m c t s _) (Nat.zero_add _) rfl))
  · revert d h
    refine cases8 ?_ ?_ ?_ ?_ ?_ ?_ ?_ ?_
    · refine ⟨_, List.mem_cons_self, ?_⟩
      dsimp only
      exact Loads.mem4 _ _ _ _ _ _ _ _ _ rfl rfl
    · refine ⟨_, List.mem_cons_of_mem _ (List.mem_cons_self), ?_⟩
      dsimp only
      exact Loads.mem4 _ _ _ _ _ _ _ _ _ rfl rfl
    · refine ⟨_, List.mem_cons_of_mem _ (List.mem_cons_of_mem _ (List.mem_cons_self)), ?_⟩
      dsimp only
      exact Loads.mem4 _ _ _ _ _ _ _ _ _ rfl rfl
    · refine ⟨_, List.mem_cons_of_mem _ (List.mem_cons_of_mem _ (List.mem_cons_of_mem _ (List.mem_cons_self))), ?_⟩
      dsimp only
      exact Loads.mem4 _ _ _ _ _ _ _ _ _ rfl rfl
    · refine ⟨_, List.mem_cons_of_mem _ (List.mem_cons_of_mem _ (List.mem_cons_of_mem _ (List.mem_cons_of_mem _ (List.mem_cons_self)))), ?_⟩
      dsimp only
      exact Loads.mem4 _ _ _ _ _ _ _ _ _ rfl rfl
    · refine ⟨_, List.mem_cons_of_mem _ (List.mem_cons_of_mem _ (List.mem_cons_of_mem _ (List.mem_cons_of_mem _ (List.mem_cons_of_mem _ (List.mem_cons_self))))), ?_⟩
      dsimp only
      exact Loads.mem4 _ _ _ _ _ _ _ _ _ rfl rfl
    · refine ⟨_, List.mem_cons_of_mem _ (List.mem_cons_of_mem _ (List.mem_cons_of_mem _ (List.mem_cons_of_mem _ (List.mem_cons_of_mem _ (List.mem_cons_of_mem _ (List.mem_cons_self)))))), ?_⟩
      dsimp only
      exact Loads.mem4 _ _ _ _ _ _ _ _ _ rfl rfl
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
      dsimp only
      exact Loads.mem4 _ _ _ _ _ _ _ _ _ rfl rfl
  · have he : ((View.whole main_v0_0).slice (win0_8.rect t)).emb (ix5 0 d h a e) = ix5 (tb t) d h a e := by
      blk_ext [idx t, tb]
    have key : ∀ z : S8x2x4x256x256.Idx, z = ix5 (tb t) d h a e →
        G8 m c (tb t) (ix4 d h a e) = G8 m c (z 0) (ix4 (z 1) (z 2) (z 3) (z 4)) := by
      rintro _ rfl
      rfl
    exact key _ he

end Cert.KernelIdeal.StateK
end
-- ==== Proof.State.Out9.lean ====
module

public import proofs.«01_k».proof.Proof.State.Blocks

/-! The normalisers the call leaves. -/

@[expose] public section

set_option maxRecDepth 16384
noncomputable section
namespace Cert.KernelIdeal.StateK
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 400000 in
/-- The normalisers after the call. -/
theorem final9 (c : Dev nD) : (dats m 0 c).arrAt 9 (cfgs 0).N = fun j : S8x2x4x8x256.Idx => G9 m c (j 0) (ix4 (j 1) (j 2) (j 3) (j 4)) := by
  refine (dats m 0 c).arrAt_eq_of_covers 9 _ (by decide +kernel) fun t _ y => ?_
  blk_simp
  rw [after0_9]; unfold Gen.outsAt0; frame_out
  set_option backward.isDefEq.respectTransparency false in
  simp (disch := decide +kernel) only [View.readCov_skip]
  obtain ⟨z, d, h, a, e, rfl⟩ : ∃ (z : Fin 1) (d : Fin 2) (h : Fin 4) (a : Fin 8) (e : Fin 256), y = ix5 z d h a e := ⟨y 0, y 1, y 2, y 3, y 4, eq_ix5 y⟩
  obtain rfl := Subsingleton.elim z 0
  rw [pay2_at, View.readCov_eq_canon']
  beta_reduce
  rw [idx_whole _ zero4]
  refine (View.canon_append_of_piecesOf (G9 m c (tb t)) [_] [_, _, _, _, _, _, _, _] ⟨?_, ?_, ?_, ?_, ?_, ?_, ?_, ?_, trivial⟩ _ ?_).trans ?_
  · dsimp only
    refine Loads.piece4 (A := 2) (M := 4) (R := 8) (N := 256) (e := .f32) (Val := Elt Ideal) (G9 m c (tb t)) _ _ _ _ _ _ _ ?hd ?hh fun a b => ?_
    case hd => decide
    case hh => decide
    exact (norm7 _ _ _ _ _ _).trans (norm_eq (gtOf m c (tb t)) (gxOf m c (tb t)) (ktOf m c (tb t)) 1 3 b (dec_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _)) (Loads.fill_at _ _ zero4 _ _ fill5 _ _)
      (fun s => Loads.block_eq _ _ _ _ _ _ _ _ _ _ _ _ _ (blk4 m c t _ s) rfl (Nat.zero_add _)) (fun s => gain_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _) s))
  · dsimp only
    refine Loads.piece4 (A := 2) (M := 4) (R := 8) (N := 256) (e := .f32) (Val := Elt Ideal) (G9 m c (tb t)) _ _ _ _ _ _ _ ?hd ?hh fun a b => ?_
    case hd => decide
    case hh => decide
    exact (norm6 _ _ _ _ _ _).trans (norm_eq (gtOf m c (tb t)) (gxOf m c (tb t)) (ktOf m c (tb t)) 1 2 b (dec_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _)) (Loads.fill_at _ _ zero4 _ _ fill5 _ _)
      (fun s => Loads.block_eq _ _ _ _ _ _ _ _ _ _ _ _ _ (blk4 m c t _ s) rfl (Nat.zero_add _)) (fun s => gain_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _) s))
  · dsimp only
    refine Loads.piece4 (A := 2) (M := 4) (R := 8) (N := 256) (e := .f32) (Val := Elt Ideal) (G9 m c (tb t)) _ _ _ _ _ _ _ ?hd ?hh fun a b => ?_
    case hd => decide
    case hh => decide
    exact (norm5 _ _ _ _ _ _).trans (norm_eq (gtOf m c (tb t)) (gxOf m c (tb t)) (ktOf m c (tb t)) 1 1 b (dec_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _)) (Loads.fill_at _ _ zero4 _ _ fill5 _ _)
      (fun s => Loads.block_eq _ _ _ _ _ _ _ _ _ _ _ _ _ (blk4 m c t _ s) rfl (Nat.zero_add _)) (fun s => gain_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _) s))
  · dsimp only
    refine Loads.piece4 (A := 2) (M := 4) (R := 8) (N := 256) (e := .f32) (Val := Elt Ideal) (G9 m c (tb t)) _ _ _ _ _ _ _ ?hd ?hh fun a b => ?_
    case hd => decide
    case hh => decide
    exact (norm4 _ _ _ _ _ _).trans (norm_eq (gtOf m c (tb t)) (gxOf m c (tb t)) (ktOf m c (tb t)) 1 0 b (dec_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _)) (Loads.fill_at _ _ zero4 _ _ fill5 _ _)
      (fun s => Loads.block_eq _ _ _ _ _ _ _ _ _ _ _ _ _ (blk4 m c t _ s) rfl (Nat.zero_add _)) (fun s => gain_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _) s))
  · dsimp only
    refine Loads.piece4 (A := 2) (M := 4) (R := 8) (N := 256) (e := .f32) (Val := Elt Ideal) (G9 m c (tb t)) _ _ _ _ _ _ _ ?hd ?hh fun a b => ?_
    case hd => decide
    case hh => decide
    exact (norm3 _ _ _ _ _ _).trans (norm_eq (gtOf m c (tb t)) (gxOf m c (tb t)) (ktOf m c (tb t)) 0 3 b (dec_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _)) (Loads.fill_at _ _ zero4 _ _ fill5 _ _)
      (fun s => Loads.block_eq _ _ _ _ _ _ _ _ _ _ _ _ _ (blk0 m c t _ s) rfl (Nat.zero_add _)) (fun s => gain_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _) s))
  · dsimp only
    refine Loads.piece4 (A := 2) (M := 4) (R := 8) (N := 256) (e := .f32) (Val := Elt Ideal) (G9 m c (tb t)) _ _ _ _ _ _ _ ?hd ?hh fun a b => ?_
    case hd => decide
    case hh => decide
    exact (norm2 _ _ _ _ _ _).trans (norm_eq (gtOf m c (tb t)) (gxOf m c (tb t)) (ktOf m c (tb t)) 0 2 b (dec_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _)) (Loads.fill_at _ _ zero4 _ _ fill5 _ _)
      (fun s => Loads.block_eq _ _ _ _ _ _ _ _ _ _ _ _ _ (blk0 m c t _ s) rfl (Nat.zero_add _)) (fun s => gain_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _) s))
  · dsimp only
    refine Loads.piece4 (A := 2) (M := 4) (R := 8) (N := 256) (e := .f32) (Val := Elt Ideal) (G9 m c (tb t)) _ _ _ _ _ _ _ ?hd ?hh fun a b => ?_
    case hd => decide
    case hh => decide
    exact (norm1 _ _ _ _ _ _).trans (norm_eq (gtOf m c (tb t)) (gxOf m c (tb t)) (ktOf m c (tb t)) 0 1 b (dec_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _)) (Loads.fill_at _ _ zero4 _ _ fill5 _ _)
      (fun s => Loads.block_eq _ _ _ _ _ _ _ _ _ _ _ _ _ (blk0 m c t _ s) rfl (Nat.zero_add _)) (fun s => gain_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _) s))
  · dsimp only
    refine Loads.piece4 (A := 2) (M := 4) (R := 8) (N := 256) (e := .f32) (Val := Elt Ideal) (G9 m c (tb t)) _ _ _ _ _ _ _ ?hd ?hh fun a b => ?_
    case hd => decide
    case hh => decide
    exact (norm0 _ _ _ _ _ _).trans (norm_eq (gtOf m c (tb t)) (gxOf m c (tb t)) (ktOf m c (tb t)) 0 0 b (dec_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _)) (Loads.fill_at _ _ zero4 _ _ fill5 _ _)
      (fun s => Loads.block_eq _ _ _ _ _ _ _ _ _ _ _ _ _ (blk0 m c t _ s) rfl (Nat.zero_add _)) (fun s => gain_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _) s))
  · revert d h
    refine cases8 ?_ ?_ ?_ ?_ ?_ ?_ ?_ ?_
    · refine ⟨_, List.mem_cons_self, ?_⟩
      dsimp only
      exact Loads.mem4 _ _ _ _ _ _ _ _ _ rfl rfl
    · refine ⟨_, List.mem_cons_of_mem _ (List.mem_cons_self), ?_⟩
      dsimp only
      exact Loads.mem4 _ _ _ _ _ _ _ _ _ rfl rfl
    · refine ⟨_, List.mem_cons_of_mem _ (List.mem_cons_of_mem _ (List.mem_cons_self)), ?_⟩
      dsimp only
      exact Loads.mem4 _ _ _ _ _ _ _ _ _ rfl rfl
    · refine ⟨_, List.mem_cons_of_mem _ (List.mem_cons_of_mem _ (List.mem_cons_of_mem _ (List.mem_cons_self))), ?_⟩
      dsimp only
      exact Loads.mem4 _ _ _ _ _ _ _ _ _ rfl rfl
    · refine ⟨_, List.mem_cons_of_mem _ (List.mem_cons_of_mem _ (List.mem_cons_of_mem _ (List.mem_cons_of_mem _ (List.mem_cons_self)))), ?_⟩
      dsimp only
      exact Loads.mem4 _ _ _ _ _ _ _ _ _ rfl rfl
    · refine ⟨_, List.mem_cons_of_mem _ (List.mem_cons_of_mem _ (List.mem_cons_of_mem _ (List.mem_cons_of_mem _ (List.mem_cons_of_mem _ (List.mem_cons_self))))), ?_⟩
      dsimp only
      exact Loads.mem4 _ _ _ _ _ _ _ _ _ rfl rfl
    · refine ⟨_, List.mem_cons_of_mem _ (List.mem_cons_of_mem _ (List.mem_cons_of_mem _ (List.mem_cons_of_mem _ (List.mem_cons_of_mem _ (List.mem_cons_of_mem _ (List.mem_cons_self)))))), ?_⟩
      dsimp only
      exact Loads.mem4 _ _ _ _ _ _ _ _ _ rfl rfl
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
      dsimp only
      exact Loads.mem4 _ _ _ _ _ _ _ _ _ rfl rfl
  · have he : ((View.whole main_v0_1).slice (win0_9.rect t)).emb (ix5 0 d h a e) = ix5 (tb t) d h a e := by
      blk_ext [idx t, tb]
    have key : ∀ z : S8x2x4x8x256.Idx, z = ix5 (tb t) d h a e →
        G9 m c (tb t) (ix4 d h a e) = G9 m c (z 0) (ix4 (z 1) (z 2) (z 3) (z 4)) := by
      rintro _ rfl
      rfl
    exact key _ he

end Cert.KernelIdeal.StateK
end
-- ==== Proof.State.Out10.lean ====
module

public import proofs.«01_k».proof.Proof.State.Blocks

/-! The maxima the call leaves. -/

@[expose] public section

set_option maxRecDepth 16384
noncomputable section
namespace Cert.KernelIdeal.StateK
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 400000 in
/-- The maxima after the call. -/
theorem final10 (c : Dev nD) : (dats m 0 c).arrAt 10 (cfgs 0).N = fun j : S8x2x4x128.Idx => G10 m c (j 0) (ix3 (j 1) (j 2) (j 3)) := by
  refine (dats m 0 c).arrAt_eq_of_covers 10 _ (by decide +kernel) fun t _ y => ?_
  blk_simp
  rw [after0_10]; unfold Gen.outsAt0; frame_out
  obtain ⟨z, d, h, a, rfl⟩ : ∃ (z : Fin 1) (d : Fin 2) (h : Fin 4) (a : Fin 128), y = ix4 z d h a := ⟨y 0, y 1, y 2, y 3, eq_ix4 y⟩
  obtain rfl := Subsingleton.elim z 0
  rw [pay3_at, View.readCov_eq_canon']
  beta_reduce
  rw [idx_whole _ zero3]
  refine (View.canon_append_of_piecesOf (G10 m c (tb t)) [_] [_, _, _, _, _, _, _, _] ⟨?_, ?_, ?_, ?_, ?_, ?_, ?_, ?_, trivial⟩ _ ?_).trans ?_
  · dsimp only
    refine Loads.piece3 (A := 2) (M := 4) (N := 128) (e := .f32) (Val := Elt Ideal) (G10 m c (tb t)) _ _ _ _ _ _ _ ?hd ?hh fun b => ?_
    case hd => decide
    case hh => decide
    exact (top7 _ _).trans (max_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _))
  · dsimp only
    refine Loads.piece3 (A := 2) (M := 4) (N := 128) (e := .f32) (Val := Elt Ideal) (G10 m c (tb t)) _ _ _ _ _ _ _ ?hd ?hh fun b => ?_
    case hd => decide
    case hh => decide
    exact (top6 _ _).trans (max_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _))
  · dsimp only
    refine Loads.piece3 (A := 2) (M := 4) (N := 128) (e := .f32) (Val := Elt Ideal) (G10 m c (tb t)) _ _ _ _ _ _ _ ?hd ?hh fun b => ?_
    case hd => decide
    case hh => decide
    exact (top5 _ _).trans (max_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _))
  · dsimp only
    refine Loads.piece3 (A := 2) (M := 4) (N := 128) (e := .f32) (Val := Elt Ideal) (G10 m c (tb t)) _ _ _ _ _ _ _ ?hd ?hh fun b => ?_
    case hd => decide
    case hh => decide
    exact (top4 _ _).trans (max_bwd (gtOf m c (tb t)) (gxOf m c (tb t)) _ _ _ _ (fun s => Loads.block_eq _ _ _ _ _ _ _ _ _ _ _ _ _ (blk6 m c t _ s) rfl (Nat.zero_add _)) (fun s => Loads.block_eq _ _ _ _ _ _ _ _ _ _ _ _ _ (blk7 m c t _ s) rfl (Nat.zero_add _)) (Loads.fill_at _ _ zero3 _ _ fill6 _ _))
  · dsimp only
    refine Loads.piece3 (A := 2) (M := 4) (N := 128) (e := .f32) (Val := Elt Ideal) (G10 m c (tb t)) _ _ _ _ _ _ _ ?hd ?hh fun b => ?_
    case hd => decide
    case hh => decide
    exact (top3 _ _).trans (max_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _))
  · dsimp only
    refine Loads.piece3 (A := 2) (M := 4) (N := 128) (e := .f32) (Val := Elt Ideal) (G10 m c (tb t)) _ _ _ _ _ _ _ ?hd ?hh fun b => ?_
    case hd => decide
    case hh => decide
    exact (top2 _ _).trans (max_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _))
  · dsimp only
    refine Loads.piece3 (A := 2) (M := 4) (N := 128) (e := .f32) (Val := Elt Ideal) (G10 m c (tb t)) _ _ _ _ _ _ _ ?hd ?hh fun b => ?_
    case hd => decide
    case hh => decide
    exact (top1 _ _).trans (max_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _))
  · dsimp only
    refine Loads.piece3 (A := 2) (M := 4) (N := 128) (e := .f32) (Val := Elt Ideal) (G10 m c (tb t)) _ _ _ _ _ _ _ ?hd ?hh fun b => ?_
    case hd => decide
    case hh => decide
    exact (top0 _ _).trans (max_fwd (gtOf m c (tb t)) (gxOf m c (tb t)) _ _ _ _ (fun s => Loads.block_eq _ _ _ _ _ _ _ _ _ _ _ _ _ (blk2 m c t _ s) rfl (Nat.zero_add _)) (fun s => Loads.block_eq _ _ _ _ _ _ _ _ _ _ _ _ _ (blk3 m c t _ s) rfl (Nat.zero_add _)) (Loads.fill_at _ _ zero3 _ _ fill6 _ _))
  · revert d h
    refine cases8 ?_ ?_ ?_ ?_ ?_ ?_ ?_ ?_
    · refine ⟨_, List.mem_cons_self, ?_⟩
      dsimp only
      exact Loads.mem3 _ _ _ _ _ _ _ _ rfl rfl
    · refine ⟨_, List.mem_cons_of_mem _ (List.mem_cons_self), ?_⟩
      dsimp only
      exact Loads.mem3 _ _ _ _ _ _ _ _ rfl rfl
    · refine ⟨_, List.mem_cons_of_mem _ (List.mem_cons_of_mem _ (List.mem_cons_self)), ?_⟩
      dsimp only
      exact Loads.mem3 _ _ _ _ _ _ _ _ rfl rfl
    · refine ⟨_, List.mem_cons_of_mem _ (List.mem_cons_of_mem _ (List.mem_cons_of_mem _ (List.mem_cons_self))), ?_⟩
      dsimp only
      exact Loads.mem3 _ _ _ _ _ _ _ _ rfl rfl
    · refine ⟨_, List.mem_cons_of_mem _ (List.mem_cons_of_mem _ (List.mem_cons_of_mem _ (List.mem_cons_of_mem _ (List.mem_cons_self)))), ?_⟩
      dsimp only
      exact Loads.mem3 _ _ _ _ _ _ _ _ rfl rfl
    · refine ⟨_, List.mem_cons_of_mem _ (List.mem_cons_of_mem _ (List.mem_cons_of_mem _ (List.mem_cons_of_mem _ (List.mem_cons_of_mem _ (List.mem_cons_self))))), ?_⟩
      dsimp only
      exact Loads.mem3 _ _ _ _ _ _ _ _ rfl rfl
    · refine ⟨_, List.mem_cons_of_mem _ (List.mem_cons_of_mem _ (List.mem_cons_of_mem _ (List.mem_cons_of_mem _ (List.mem_cons_of_mem _ (List.mem_cons_of_mem _ (List.mem_cons_self)))))), ?_⟩
      dsimp only
      exact Loads.mem3 _ _ _ _ _ _ _ _ rfl rfl
    · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
      dsimp only
      exact Loads.mem3 _ _ _ _ _ _ _ _ rfl rfl
  · have he : ((View.whole main_v0_2).slice (win0_10.rect t)).emb (ix4 0 d h a) = ix4 (tb t) d h a := by
      blk_ext [idx t, tb]
    have key : ∀ z : S8x2x4x128.Idx, z = ix4 (tb t) d h a →
        G10 m c (tb t) (ix3 d h a) = G10 m c (z 0) (ix3 (z 1) (z 2) (z 3)) := by
      rintro _ rfl
      rfl
    exact key _ he

end Cert.KernelIdeal.StateK
end
-- ==== Proof.State.Cumsum.lean ====
module

public import proofs.«01_k».proof.Proof.State.Core
public import Idealize.ShloMosaic.Lib.Pointwise

/-! What `jnp.cumsum` along the last axis of a three-axis array computes: the sum up to each position. -/

@[expose] public section

noncomputable section
namespace Cert.State
open Idealize.ShloMosaic

/-- Adding up along a list from a start. -/
theorem foldl_add {α : Type*} (g : α → EReal) (l : List α) (v : EReal) : l.foldl (fun r n => r + g n) v = v + (l.map g).sum := by
  induction l generalizing v with
  | nil => simp
  | cons a l ih => rw [List.foldl_cons, ih, List.map_cons, List.sum_cons, add_assoc]

/-- The window that ends at `j`, over the array padded by all but one of its length, has the entries up to `j`. -/
theorem sum_window (N M j : ℕ) (hN : M + 1 = N) (hj : j < N) (X : ℕ → EReal) :
    ∑ w ∈ Finset.range N, (if M ≤ j + w then X (j + w - M) else 0) = ∑ s ∈ Finset.range N, if s ≤ j then X s else 0 := by
  rw [← Finset.sum_filter, ← Finset.sum_filter]
  refine Finset.sum_nbij' (fun w => j + w - M) (fun s => s + M - j) ?_ ?_ ?_ ?_ ?_
  · intro w hw; simp only [Finset.mem_filter, Finset.mem_range] at hw ⊢; omega
  · intro w hw; simp only [Finset.mem_filter, Finset.mem_range] at hw ⊢; omega
  · intro w hw; simp only [Finset.mem_filter, Finset.mem_range] at hw; show j + w - M + M - j = w; omega
  · intro w hw; simp only [Finset.mem_filter, Finset.mem_range] at hw; show j + (w + M - j) - M = w; omega
  · intro w _; rfl

theorem numel_row (N : ℕ) : (⟨3, ![1, 1, N]⟩ : Shape).numel = N := by
  show ∏ a : Fin 3, (![1, 1, N] : Fin 3 → ℕ) a = N
  rw [Fin.prod_univ_three]
  show 1 * 1 * N = N
  omega

/-- Position `n` of a `[1, 1, N]` row is its index `(0, 0, n)`. -/
theorem symm_row {N : ℕ} (n : Fin (⟨3, ![1, 1, N]⟩ : Shape).numel) :
    (⟨3, ![1, 1, N]⟩ : Shape).rowMajor.symm n = ix3 (0 : Fin 1) (0 : Fin 1) (n.cast (numel_row N)) :=
  (Shape.rowMajor _).symm_apply_eq.2 (Fin.ext (by
    rw [Shape.rowMajor_val_three]
    show n.val = (0 * 1 + 0) * N + n.val
    omega))

/-- `jnp.cumsum` along the last of three axes: entry `j` is the sum of the entries up to `j`. -/
theorem cumsum_last {A B N M : ℕ} (hN : M + 1 = N) (x : (⟨3, ![A, B, N]⟩ : Shape).Idx → EReal) (init : (⟨0, ![]⟩ : Shape).Idx → EReal)
    (hinit : ∀ i, init i = 0)
    (h : (⟨3, ![A, B, N]⟩ : Shape).ReduceWindows (![1, 1, N] : Fin 3 → ℕ) ![1, 1, 1] ![0, 0, M] ![0, 0, 0] ⟨3, ![A, B, N]⟩)
    (hu : 0 < (⟨0, ![]⟩ : Shape).numel) (a : Fin A) (b : Fin B) (j : Fin N) :
    Host.reduceWindowAdd (F := Ideal) (φ := .f32) (s := ⟨3, ![A, B, N]⟩) ![1, 1, N] ![1, 1, 1] ![0, 0, M] ![0, 0, 0] x init h hu (ix3 a b j)
      = cum (fun s => x (ix3 a b s)) j := by
  have ha := a.isLt
  have hb := b.isLt
  have hj := j.isLt
  show (List.finRange (⟨3, ![1, 1, N]⟩ : Shape).numel).foldl (fun r n => r + _) (init _) = _
  rw [foldl_add, hinit, zero_add, ← Fin.sum_univ_def]
  let X : ℕ → EReal := fun s => if h : s < N then x (ix3 a b ⟨s, h⟩) else 0
  refine (Finset.sum_congr rfl fun n _ => ?_ : _ = ∑ n : Fin (⟨3, ![1, 1, N]⟩ : Shape).numel,
    (fun w => if M ≤ j.val + w then X (j.val + w - M) else 0) n.val).trans ?_
  · have w0 : ((⟨3, ![1, 1, N]⟩ : Shape).rowMajor.symm n 0).val = 0 := by rw [symm_row]; rfl
    have w1 : ((⟨3, ![1, 1, N]⟩ : Shape).rowMajor.symm n 1).val = 0 := by rw [symm_row]; rfl
    have w2 : ((⟨3, ![1, 1, N]⟩ : Shape).rowMajor.symm n 2).val = n.val := by rw [symm_row]; rfl
    have hn : n.val < N := (n.cast (numel_row _)).isLt
    dsimp only
    split
    · next hin =>
      have h2 := hin 2
      change M ≤ j.val * 1 + ((⟨3, ![1, 1, N]⟩ : Shape).rowMajor.symm n 2).val
        ∧ j.val * 1 + ((⟨3, ![1, 1, N]⟩ : Shape).rowMajor.symm n 2).val - M < N at h2
      rw [w2] at h2
      rw [if_pos (by omega)]
      show _ = dite _ _ _
      rw [dif_pos (by omega)]
      refine congrArg x (funext fun i => Fin.ext ?_)
      match i with
      | ⟨0, _⟩ =>
        show a.val * 1 + ((⟨3, ![1, 1, N]⟩ : Shape).rowMajor.symm n 0).val - 0 = a.val
        rw [w0]; omega
      | ⟨1, _⟩ =>
        show b.val * 1 + ((⟨3, ![1, 1, N]⟩ : Shape).rowMajor.symm n 1).val - 0 = b.val
        rw [w1]; omega
      | ⟨2, _⟩ =>
        show j.val * 1 + ((⟨3, ![1, 1, N]⟩ : Shape).rowMajor.symm n 2).val - M = j.val + n.val - M
        rw [w2]; omega
    · next hin =>
      rw [if_neg fun hle => hin fun i => by
        match i with
        | ⟨0, _⟩ =>
          show 0 ≤ a.val * 1 + ((⟨3, ![1, 1, N]⟩ : Shape).rowMajor.symm n 0).val
            ∧ a.val * 1 + ((⟨3, ![1, 1, N]⟩ : Shape).rowMajor.symm n 0).val - 0 < A
          rw [w0]; omega
        | ⟨1, _⟩ =>
          show 0 ≤ b.val * 1 + ((⟨3, ![1, 1, N]⟩ : Shape).rowMajor.symm n 1).val
            ∧ b.val * 1 + ((⟨3, ![1, 1, N]⟩ : Shape).rowMajor.symm n 1).val - 0 < B
          rw [w1]; omega
        | ⟨2, _⟩ =>
          show M ≤ j.val * 1 + ((⟨3, ![1, 1, N]⟩ : Shape).rowMajor.symm n 2).val
            ∧ j.val * 1 + ((⟨3, ![1, 1, N]⟩ : Shape).rowMajor.symm n 2).val - M < N
          rw [w2]; omega]
  · refine (Fin.sum_univ_eq_sum_range (fun w => if M ≤ j.val + w then X (j.val + w - M) else 0) _).trans ?_
    rw [numel_row, sum_window N M j.val hN hj, ← Fin.sum_univ_eq_sum_range (fun s => if s ≤ j.val then X s else 0) N]
    refine Finset.sum_congr rfl fun s _ => ?_
    show ite _ (dite _ _ _) _ = _
    rw [dif_pos s.isLt]

end Cert.State
end
-- ==== Proof.State.Chunk.lean ====
module

public import proofs.«01_k».proof.Proof.Gen.ReferenceIdeal
public import Idealize.ShloMosaic.Lib.Pipeline.Frame
public import proofs.«01_k».proof.Proof.State.Cumsum

/-! The reference's scan over two chunks of 128 positions, named step by step, and each step read entry by entry. -/

@[expose] public section

set_option maxRecDepth 16384
noncomputable section
namespace Cert.ReferenceIdeal.StateR
open Idealize.ShloMosaic Idealize.ShloMosaic.TcCoe
open Cert.ReferenceIdeal Cert.ReferenceIdeal.Gen
open Cert.State (lo hi cum expo mNew cNew mx acc)

abbrev Gates := FVec Ideal S8x256x4 .f32
abbrev Rows := FVec Ideal S8x256x4x256 .f32
abbrev ChunkGates := FVec Ideal S8x4x128 .f32
abbrev ChunkRows := FVec Ideal S8x4x128x256 .f32
abbrev Tops := FVec Ideal S8x4 .f32

/-- The first chunk of the gates. -/
def gatesLo (x : Gates) : ChunkGates :=
  transpose S8x4x128 [0, 2, 1] (extractStridedSlice S8x128x4 ![0, 0, 0] x slices_S8x256x4_S8x128x4_0_0_0) transposes_S8x128x4_S8x4x128_0_2_1
/-- The second chunk of the gates. -/
def gatesHi (x : Gates) : ChunkGates :=
  transpose S8x4x128 [0, 2, 1] (extractStridedSlice S8x128x4 ![0, 128, 0] x slices_S8x256x4_S8x128x4_0_128_0) transposes_S8x128x4_S8x4x128_0_2_1
/-- The first chunk of the keys or the values. -/
def rowsLo (x : Rows) : ChunkRows :=
  transpose S8x4x128x256 [0, 2, 1, 3] (extractStridedSlice S8x128x4x256 ![0, 0, 0, 0] x slices_S8x256x4x256_S8x128x4x256_0_0_0_0) transposes_S8x128x4x256_S8x4x128x256_0_2_1_3
/-- The second chunk of the keys or the values. -/
def rowsHi (x : Rows) : ChunkRows :=
  transpose S8x4x128x256 [0, 2, 1, 3] (extractStridedSlice S8x128x4x256 ![0, 128, 0, 0] x slices_S8x256x4x256_S8x128x4x256_0_128_0_0) transposes_S8x128x4x256_S8x4x128x256_0_2_1_3
/-- The sums of a chunk's forget gates. -/
def sums (lf : ChunkGates) : ChunkGates :=
  Host.reduceWindowAdd ![1, 1, 128] ![1, 1, 1] ![0, 0, 127] ![0, 0, 0] lf (broadcastInDim S_ ![] bcast_S_S_ (constant S_ .f32 0x00000000#32)) reduceWindows_S8x4x128_S8x4x128_w1s1p0_0_w1s1p0_0_w128s1p127_0 h_S_
/-- The chunk's whole sum. -/
def last (b : ChunkGates) : Tops := shapeCast _ (extractStridedSlice S8x4x1 ![0, 0, 127] b slices_S8x4x128_S8x4x1_0_0_127) shapeCasts_S8x4x1_S8x4
/-- A number for each batch entry and head, at every position of the chunk. -/
def along (x : Tops) : ChunkGates := broadcastInDim S8x4x128 ![0, 1, 2] bcast_S8x4x1_S8x4x128_0_1_2 (broadcastInDim S8x4x1 ![0, 1] bcast_S8x4_S8x4x1_0_1 x)
/-- The exponents. -/
def exps (li b : ChunkGates) : ChunkGates := addf (subf (along (last b)) b) li
/-- The maximum after the chunk. -/
def tops (e b : ChunkGates) (m0 : Tops) : Tops :=
  maximumf (addf (last b) m0) (Host.reduce FloatOps.maximumf e (constant S_ .f32 0xFF800000#32) reducesTo_S8x4x128_S8x4_d2 h_S_)
/-- The keys at their weights. -/
def weigh (k : ChunkRows) (e : ChunkGates) (m1 : Tops) : ChunkRows :=
  mulf k (broadcastInDim S8x4x128x256 ![0, 1, 2, 3] bcast_S8x4x128x1_S8x4x128x256_0_1_2_3 (broadcastInDim S8x4x128x1 ![0, 1, 2] bcast_S8x4x128_S8x4x128x1_0_1_2 (Host.exp (subf e (along m1)))))
/-- The factor by which the memory decays. -/
def decay (b : ChunkGates) (m0 m1 : Tops) : Tops := Host.exp (subf (addf (last b) m0) m1)
/-- The memory after the chunk. -/
def mem (d : Tops) (C : FVec Ideal S8x4x256x256 .f32) (kw v : ChunkRows) : FVec Ideal S8x4x256x256 .f32 :=
  addf (mulf (broadcastInDim S8x4x256x256 ![0, 1, 2, 3] bcast_S8x4x1x1_S8x4x256x256_0_1_2_3 (broadcastInDim S8x4x1x1 ![0, 1] bcast_S8x4_S8x4x1x1_0_1 d)) C)
    (Host.dotGeneral dot_S8x4x128x256_S8x4x128x256_S8x4x256x256_2_2_3_3_01_01 none kw v)
/-- The normaliser after the chunk. -/
def norm (d : Tops) (N : FVec Ideal S8x4x256 .f32) (kw : ChunkRows) : FVec Ideal S8x4x256 .f32 :=
  addf (mulf (broadcastInDim S8x4x256 ![0, 1, 2] bcast_S8x4x1_S8x4x256_0_1_2 (broadcastInDim S8x4x1 ![0, 1] bcast_S8x4_S8x4x1_0_1 d)) N)
    (Host.reduceAdd kw (constant S_ .f32 0x00000000#32) reducesTo_S8x4x128x256_S8x4x256_d2 h_S_)

section
variable (b : Fin 8) (h : Fin 4) (s : Fin 128) (a e : Fin 256)

theorem gatesLo_at (x : Gates) : gatesLo x (ix3 b h s) = x (ix3 b (lo s) h) := by
  pointwise [gatesLo]
  blk_ext [lo]
theorem gatesHi_at (x : Gates) : gatesHi x (ix3 b h s) = x (ix3 b (hi s) h) := by
  pointwise [gatesHi]
  blk_ext [hi]
theorem rowsLo_at (x : Rows) : rowsLo x (ix4 b h s a) = x (ix4 b (lo s) h a) := by
  pointwise [rowsLo]
  blk_ext [lo]
theorem rowsHi_at (x : Rows) : rowsHi x (ix4 b h s a) = x (ix4 b (hi s) h a) := by
  pointwise [rowsHi]
  blk_ext [hi]
theorem sums_at (lf : ChunkGates) : sums lf (ix3 b h s) = cum (fun r => lf (ix3 b h r)) s :=
  Cert.State.cumsum_last rfl lf _ (fun i => by pointwise []) _ _ b h s
theorem last_at (x : ChunkGates) : last x (ix2 b h) = x (ix3 b h 127) := by
  pointwise [last]
theorem along_at (x : Tops) : along x (ix3 b h s) = x (ix2 b h) := by
  pointwise [along]
theorem neg_inf : Ideal.ofBits FTy.f32 4286578688#32 = (⊥ : EReal) := by simp [Ideal.ofBits, Ideal.ieee]
theorem exps_at (li x : ChunkGates) :
    exps li x (ix3 b h s) = expo (fun r => li (ix3 b h r)) (fun r => x (ix3 b h r)) (x (ix3 b h 127)) s := by
  show along (last x) (ix3 b h s) - x (ix3 b h s) + li (ix3 b h s) = _
  rw [along_at, last_at]
  rfl
theorem tops_at (y x : ChunkGates) (m0 : Tops) :
    tops y x m0 (ix2 b h) = mx (fun r => y (ix3 b h r)) (x (ix3 b h 127) + m0 (ix2 b h)) := by
  pointwise [tops]
  rw [last_at, neg_inf]
  rfl
theorem weigh_at (k : ChunkRows) (y : ChunkGates) (m1 : Tops) :
    weigh k y m1 (ix4 b h s a) = k (ix4 b h s a) * Ideal.exp (y (ix3 b h s) - m1 (ix2 b h)) := by
  pointwise [weigh]
  rw [along_at]
theorem decay_at (x : ChunkGates) (m0 m1 : Tops) :
    decay x m0 m1 (ix2 b h) = Ideal.exp (x (ix3 b h 127) + m0 (ix2 b h) - m1 (ix2 b h)) := by
  pointwise [decay]
  rw [last_at]
theorem mem_at (d : Tops) (C : FVec Ideal S8x4x256x256 .f32) (kw v : ChunkRows) :
    mem d C kw v (ix4 b h a e) = (d (ix2 b h) * C (ix4 b h a e) + ∑ r, kw (ix4 b h r a) * v (ix4 b h r e) : EReal) := by
  pointwise [mem]
theorem norm_at (d : Tops) (N : FVec Ideal S8x4x256 .f32) (kw : ChunkRows) :
    norm d N kw (ix3 b h a) = (d (ix2 b h) * N (ix3 b h a) + ∑ r, kw (ix4 b h r a) : EReal) := by
  pointwise [norm]
end

end Cert.ReferenceIdeal.StateR
end
-- ==== Proof.State.Scan.lean ====
module

public import proofs.«01_k».proof.Proof.State.Chunk

/-! The reference's scan over both chunks of one direction is one step over all 256 positions. -/

@[expose] public section

set_option maxRecDepth 16384
noncomputable section
namespace Cert.ReferenceIdeal.StateR
open Idealize.ShloMosaic Idealize.ShloMosaic.TcCoe
open Cert.ReferenceIdeal Cert.ReferenceIdeal.Gen
open Cert.State (lo hi cum expo mNew cNew mx acc contrib mNew_two cNew_two)

/-- The zeros the maxima start from. -/
def tops0 : Tops := broadcastInDim S8x4 ![] bcast_S_S8x4 (constant S_ .f32 0x00000000#32)
/-- The zeros the memories start from. -/
def mem0 : FVec Ideal S8x4x256x256 .f32 := broadcastInDim S8x4x256x256 ![] bcast_S_S8x4x256x256 (constant S_ .f32 0x00000000#32)
/-- The zeros the normalisers start from. -/
def norm0 : FVec Ideal S8x4x256 .f32 := broadcastInDim S8x4x256 ![] bcast_S_S8x4x256 (constant S_ .f32 0x00000000#32)

/-- A chunk's maximum, from its gates. -/
def topsOf (li lf : ChunkGates) (m0 : Tops) : Tops := tops (exps li (sums lf)) (sums lf) m0
/-- A chunk's weighted keys. -/
def weighOf (k : ChunkRows) (li lf : ChunkGates) (m0 : Tops) : ChunkRows := weigh k (exps li (sums lf)) (topsOf li lf m0)
/-- A chunk's decay. -/
def decayOf (li lf : ChunkGates) (m0 : Tops) : Tops := decay (sums lf) m0 (topsOf li lf m0)

section
variable (k v : Rows) (li lf : Gates)

/-- The maxima after the first chunk. -/
def scanM1 : Tops := topsOf (gatesLo li) (gatesLo lf) tops0
/-- The maxima after both. -/
def scanM : Tops := topsOf (gatesHi li) (gatesHi lf) (scanM1 li lf)
/-- The memories after both chunks. -/
def scanC : FVec Ideal S8x4x256x256 .f32 :=
  mem (decayOf (gatesHi li) (gatesHi lf) (scanM1 li lf))
    (mem (decayOf (gatesLo li) (gatesLo lf) tops0) mem0 (weighOf (rowsLo k) (gatesLo li) (gatesLo lf) tops0) (rowsLo v))
    (weighOf (rowsHi k) (gatesHi li) (gatesHi lf) (scanM1 li lf)) (rowsHi v)
/-- The normalisers after both chunks. -/
def scanN : FVec Ideal S8x4x256 .f32 :=
  norm (decayOf (gatesHi li) (gatesHi lf) (scanM1 li lf))
    (norm (decayOf (gatesLo li) (gatesLo lf) tops0) norm0 (weighOf (rowsLo k) (gatesLo li) (gatesLo lf) tops0))
    (weighOf (rowsHi k) (gatesHi li) (gatesHi lf) (scanM1 li lf))
end

section
variable (b : Fin 8) (h : Fin 4) (a e : Fin 256)

theorem tops0_at : tops0 (ix2 b h) = 0 := by pointwise [tops0]
theorem mem0_at : mem0 (ix4 b h a e) = 0 := by pointwise [mem0]
theorem norm0_at : norm0 (ix3 b h a) = 0 := by pointwise [norm0]

theorem exps_sums (l f : ChunkGates) (s : Fin 128) :
    exps l (sums f) (ix3 b h s) = expo (fun r => l (ix3 b h r)) (cum fun r => f (ix3 b h r)) (cum (fun r => f (ix3 b h r)) (Fin.last 127)) s := by
  rw [exps_at, sums_at]
  simp only [sums_at]
  rfl

theorem topsOf_at (l f : ChunkGates) (m0 : Tops) :
    topsOf l f m0 (ix2 b h) = mNew (n := 127) (fun r => l (ix3 b h r)) (fun r => f (ix3 b h r)) (m0 (ix2 b h)) := by
  unfold topsOf
  rw [tops_at, sums_at]
  simp only [exps_sums]
  rfl

theorem decayOf_at (l f : ChunkGates) (m0 : Tops) :
    decayOf l f m0 (ix2 b h) = Ideal.exp (cum (fun r => f (ix3 b h r)) (Fin.last 127) + m0 (ix2 b h)
      - mNew (n := 127) (fun r => l (ix3 b h r)) (fun r => f (ix3 b h r)) (m0 (ix2 b h))) := by
  unfold decayOf
  rw [decay_at, sums_at, topsOf_at]
  rfl

theorem weighOf_at (k : ChunkRows) (l f : ChunkGates) (m0 : Tops) (s : Fin 128) :
    weighOf k l f m0 (ix4 b h s a) = k (ix4 b h s a) * Ideal.exp (expo (fun r => l (ix3 b h r)) (cum fun r => f (ix3 b h r)) (cum (fun r => f (ix3 b h r)) (Fin.last 127)) s
      - mNew (n := 127) (fun r => l (ix3 b h r)) (fun r => f (ix3 b h r)) (m0 (ix2 b h))) := by
  unfold weighOf
  rw [weigh_at, exps_sums, topsOf_at]

/-- A chunk's memory is the step of the mathematics. -/
theorem memOf_at (k v : ChunkRows) (l f : ChunkGates) (m0 : Tops) (C : FVec Ideal S8x4x256x256 .f32) :
    mem (decayOf l f m0) C (weighOf k l f m0) v (ix4 b h a e)
      = cNew (n := 127) (fun r => l (ix3 b h r)) (fun r => f (ix3 b h r)) (m0 (ix2 b h)) (C (ix4 b h a e)) (fun r => k (ix4 b h r a)) fun r => v (ix4 b h r e) := by
  rw [mem_at, decayOf_at]
  simp only [weighOf_at]
  rfl

/-- A chunk's normaliser is the same step with every value 1. -/
theorem normOf_at (k : ChunkRows) (l f : ChunkGates) (m0 : Tops) (N : FVec Ideal S8x4x256 .f32) :
    norm (decayOf l f m0) N (weighOf k l f m0) (ix3 b h a)
      = cNew (n := 127) (fun r => l (ix3 b h r)) (fun r => f (ix3 b h r)) (m0 (ix2 b h)) (N (ix3 b h a)) (fun r => k (ix4 b h r a)) fun _ => 1 := by
  rw [norm_at, decayOf_at]
  simp only [weighOf_at]
  show _ = Ideal.exp _ * _ + ∑ s, _ * _ * (1 : EReal)
  simp only [mul_one]
  rfl

variable (k v : Rows) (li lf : Gates) (hl : ∀ s, ∃ x : ℝ, li (ix3 b s h) = (x : EReal)) (hf : ∀ s, ∃ x : ℝ, lf (ix3 b s h) = (x : EReal))
include hl hf

/-- The scan's maximum is that of one chunk of 256 positions. -/
theorem scanM_at : scanM li lf (ix2 b h) = mNew (n := 255) (fun s => li (ix3 b s h)) (fun s => lf (ix3 b s h)) 0 := by
  unfold scanM scanM1
  rw [topsOf_at, topsOf_at, tops0_at]
  simp only [gatesLo_at, gatesHi_at]
  exact (mNew_two (fun s => li (ix3 b s h)) (fun s => lf (ix3 b s h)) hl hf).symm

/-- The scan's memory is that of one chunk of 256 positions. -/
theorem scanC_at : scanC k v li lf (ix4 b h a e)
    = cNew (n := 255) (fun s => li (ix3 b s h)) (fun s => lf (ix3 b s h)) 0 0 (fun s => k (ix4 b s h a)) fun s => v (ix4 b s h e) := by
  unfold scanC scanM1
  rw [memOf_at, memOf_at, topsOf_at, tops0_at, mem0_at]
  simp only [gatesLo_at, gatesHi_at, rowsLo_at, rowsHi_at]
  exact (cNew_two (fun s => li (ix3 b s h)) (fun s => lf (ix3 b s h)) hl hf (fun s => k (ix4 b s h a)) fun s => v (ix4 b s h e)).symm

/-- The scan's normaliser is that of one chunk of 256 positions. -/
theorem scanN_at : scanN k li lf (ix3 b h a)
    = cNew (n := 255) (fun s => li (ix3 b s h)) (fun s => lf (ix3 b s h)) 0 0 (fun s => k (ix4 b s h a)) fun _ => 1 := by
  unfold scanN scanM1
  rw [normOf_at, normOf_at, topsOf_at, tops0_at, norm0_at]
  simp only [gatesLo_at, gatesHi_at, rowsLo_at, rowsHi_at]
  exact (cNew_two (fun s => li (ix3 b s h)) (fun s => lf (ix3 b s h)) hl hf (fun s => k (ix4 b s h a)) fun _ => 1).symm
end

end Cert.ReferenceIdeal.StateR
end
-- ==== Proof.State.Results.lean ====
module

public import proofs.«01_k».proof.Proof.Gen.ReferenceIdeal.Run
public import proofs.«01_k».proof.Proof.State.Scan

/-! The reference's results, entry by entry, as one chunk of 256 positions in each direction. -/

@[expose] public section

set_option maxRecDepth 16384
noncomputable section
namespace Cert.ReferenceIdeal.StateR
open Idealize.ShloMosaic Idealize.ShloMosaic.TcCoe Idealize.SL.Sem Idealize.ShloMosaic.StableHlo
open Cert.ReferenceIdeal Cert.ReferenceIdeal.Gen Cert.ReferenceIdeal.Value
open Cert.State (cum expo mNew cNew gRow chan)

variable (V0 : Valuation τ sig (Elt Ideal))

/-- The keys as the reference is given them. -/
def kt (b : Fin 8) (r : Fin 1024) (s : Fin 256) : EReal := V0 (Proc.devRef .tc main_arg0) (ix3 b r s)
/-- The values. -/
def vv (b : Fin 8) (s : Fin 256) (r : Fin 1024) : EReal := V0 (Proc.devRef .tc main_arg1) (ix3 b s r)
/-- The gates. -/
def gt (b : Fin 8) (r : Fin 16) (s : Fin 256) : EReal := V0 (Proc.devRef .tc main_arg2) (ix3 b r s)
/-- The row of the forget gates that holds head `h` of direction `d`. -/
def fRow (d : Fin 2) (h : Fin 4) : Fin 16 := ⟨8 * d.val + 4 + h.val, by omega⟩

section
variable (b : Fin 8) (s : Fin 256) (h : Fin 4) (a : Fin 256)

theorem keys_at : res_main_v2 V0 (ix4 b s h a) = kt V0 b (chan h a) s := by
  pointwise [res_main_v2]
  blk_ext [kt, chan]
theorem vals_at : res_main_v4 V0 (ix4 b s h a) = vv V0 b s (chan h a) := by
  pointwise [res_main_v4]
  blk_ext [vv, chan]
theorem gates_at (q : Fin 4) : res_main_v6 V0 (ix4 b s q h) = gt V0 b ⟨4 * q.val + h.val, by omega⟩ s := by
  pointwise [res_main_v6]
  blk_ext [gt]
theorem li0_at : res_main_v8 V0 (ix3 b s h) = gt V0 b (gRow 0 h) s := by
  pointwise [res_main_v8]
  exact gates_at V0 b s h 0
theorem lf0_at : res_main_v10 V0 (ix3 b s h) = gt V0 b (fRow 0 h) s := by
  pointwise [res_main_v10]
  exact gates_at V0 b s h 1
theorem li1_at : res_main_v94 V0 (ix3 b s h) = gt V0 b (gRow 1 h) s.rev := by
  pointwise [res_main_v94]
  exact gates_at V0 b s.rev h 2
theorem lf1_at : res_main_v97 V0 (ix3 b s h) = gt V0 b (fRow 1 h) s.rev := by
  pointwise [res_main_v97]
  exact gates_at V0 b s.rev h 3
theorem keysR_at : res_main_v90 V0 (ix4 b s h a) = kt V0 b (chan h a) s.rev := by
  pointwise [res_main_v90]
  exact keys_at V0 b s.rev h a
theorem valsR_at : res_main_v91 V0 (ix4 b s h a) = vv V0 b s.rev (chan h a) := by
  pointwise [res_main_v91]
  exact vals_at V0 b s.rev h a
end

/-- The memories of both directions. -/
def refC : FVec Ideal S8x2x4x256x256 .f32 :=
  concatenate S8x2x4x256x256 1
    [⟨S8x1x4x256x256, broadcastInDim S8x1x4x256x256 ![0, 2, 3, 4] bcast_S8x4x256x256_S8x1x4x256x256_0_2_3_4
      (scanC (res_main_v2 V0) (res_main_v4 V0) (res_main_v8 V0) (res_main_v10 V0))⟩,
     ⟨S8x1x4x256x256, broadcastInDim S8x1x4x256x256 ![0, 2, 3, 4] bcast_S8x4x256x256_S8x1x4x256x256_0_2_3_4
      (scanC (res_main_v90 V0) (res_main_v91 V0) (res_main_v94 V0) (res_main_v97 V0))⟩] concatenates_S8x1x4x256x256_S8x1x4x256x256_S8x2x4x256x256_d1
/-- The normalisers of both directions, each row eight times. -/
def refN : FVec Ideal S8x2x4x8x256 .f32 :=
  broadcastInDim S8x2x4x8x256 ![0, 1, 2, 3, 4] bcast_S8x2x4x1x256_S8x2x4x8x256_0_1_2_3_4
    (broadcastInDim S8x2x4x1x256 ![0, 1, 2, 4] bcast_S8x2x4x256_S8x2x4x1x256_0_1_2_4
      (concatenate S8x2x4x256 1
        [⟨S8x1x4x256, broadcastInDim S8x1x4x256 ![0, 2, 3] bcast_S8x4x256_S8x1x4x256_0_2_3 (scanN (res_main_v2 V0) (res_main_v8 V0) (res_main_v10 V0))⟩,
         ⟨S8x1x4x256, broadcastInDim S8x1x4x256 ![0, 2, 3] bcast_S8x4x256_S8x1x4x256_0_2_3 (scanN (res_main_v90 V0) (res_main_v94 V0) (res_main_v97 V0))⟩]
        concatenates_S8x1x4x256_S8x1x4x256_S8x2x4x256_d1))
/-- The maxima of both directions, each along 128 lanes. -/
def refM : FVec Ideal S8x2x4x128 .f32 :=
  broadcastInDim S8x2x4x128 ![0, 1, 2, 3] bcast_S8x2x4x1_S8x2x4x128_0_1_2_3
    (broadcastInDim S8x2x4x1 ![0, 1, 2] bcast_S8x2x4_S8x2x4x1_0_1_2
      (concatenate S8x2x4 1
        [⟨S8x1x4, broadcastInDim S8x1x4 ![0, 2] bcast_S8x4_S8x1x4_0_2 (scanM (res_main_v8 V0) (res_main_v10 V0))⟩,
         ⟨S8x1x4, broadcastInDim S8x1x4 ![0, 2] bcast_S8x4_S8x1x4_0_2 (scanM (res_main_v94 V0) (res_main_v97 V0))⟩]
        concatenates_S8x1x4_S8x1x4_S8x2x4_d1))

section
variable (b : Fin 8) (h : Fin 4) (a e : Fin 256)

theorem refC_fwd : refC V0 (ix5 b 0 h a e) = scanC (res_main_v2 V0) (res_main_v4 V0) (res_main_v8 V0) (res_main_v10 V0) (ix4 b h a e) := by
  pointwise [refC]
theorem refC_bwd : refC V0 (ix5 b 1 h a e) = scanC (res_main_v90 V0) (res_main_v91 V0) (res_main_v94 V0) (res_main_v97 V0) (ix4 b h a e) := by
  pointwise [refC]
theorem refN_fwd (q : Fin 8) : refN V0 (ix5 b 0 h q e) = scanN (res_main_v2 V0) (res_main_v8 V0) (res_main_v10 V0) (ix3 b h e) := by
  pointwise [refN]
theorem refN_bwd (q : Fin 8) : refN V0 (ix5 b 1 h q e) = scanN (res_main_v90 V0) (res_main_v94 V0) (res_main_v97 V0) (ix3 b h e) := by
  pointwise [refN]
theorem refM_fwd (q : Fin 128) : refM V0 (ix4 b 0 h q) = scanM (res_main_v8 V0) (res_main_v10 V0) (ix2 b h) := by
  pointwise [refM]
theorem refM_bwd (q : Fin 128) : refM V0 (ix4 b 1 h q) = scanM (res_main_v94 V0) (res_main_v97 V0) (ix2 b h) := by
  pointwise [refM]
end

/-- The run's results are these. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v179) = refC (launchContents m c)
      ∧ r.2.mem ((c.tc : Thread nD τ).loc main_v187) = refN (launchContents m c)
      ∧ r.2.mem ((c.tc : Thread nD τ).loc main_v189) = refM (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal.StateR
end
-- ==== Proof.State.Pre.lean ====
module

public import proofs.«01_k».proof.Proof.Gen.Pre_gates_summed
public import proofs.«01_k».proof.Proof.State.Cumsum
public import Idealize.ShloMosaic.Lib.ReduceAll
public import Idealize.ShloMosaic.Lib.Pipeline.Frame

/-! What the precondition says, entry by entry: the gates are real numbers, and the given sums are the sums of the forget gates. -/

@[expose] public section

set_option maxRecDepth 16384
noncomputable section
namespace Cert.Pre_gates_summed.Read
open Idealize.ShloMosaic Idealize.ShloMosaic.TcCoe
open Cert.Pre_gates_summed Cert.Pre_gates_summed.Gen

variable (kt : FVec Ideal S8x1024x256 .bf16) (v : FVec Ideal S8x256x1024 .bf16) (gt gx : FVec Ideal S8x16x256 .f32)

theorem pos_inf : Ideal.ofBits FTy.f32 2139095040#32 = (⊤ : EReal) := by simp [Ideal.ofBits, Ideal.ieee]

theorem and_one (x y : BitVec 1) (h : IntOp.andi x y = 1#1) : x = 1#1 ∧ y = 1#1 := by
  revert h; unfold IntOp.andi; revert x y; decide

theorem of_lt (x y : EReal) (h : Ideal.cmp .olt x y = 1#1) : x < y := by
  by_contra hn
  simp [Ideal.cmp, hn] at h

theorem of_eq (x y : EReal) (h : Ideal.cmp .oeq x y = 1#1) : x = y := by
  by_contra hn
  simp [Ideal.cmp, hn] at h

/-- A number whose size is below `∞` is real. -/
theorem real_of_lt (x : EReal) (h : max x (-x) < ⊤) : ∃ r : ℝ, x = r := by
  have h1 : x ≠ ⊤ := fun e => by rw [e] at h; simp at h
  have h2 : x ≠ ⊥ := fun e => by rw [e] at h; simp at h
  exact ⟨_, (EReal.coe_toReal h1 h2).symm⟩

theorem cumsum_at (x : FVec Ideal S8x4x256 .f32) (b : Fin 8) (r : Fin 4) (s : Fin 256) :
    fn_cumsum (F := Ideal) x (ix3 b r s) = Cert.State.cum (fun u => x (ix3 b r u)) s :=
  Cert.State.cumsum_last rfl x _ (fun i => by pointwise []) _ _ b r s

theorem flip_at (x : FVec Ideal S8x4x256 .f32) (b : Fin 8) (r : Fin 4) (s : Fin 256) :
    fn_flip (F := Ideal) x (ix3 b r s) = x (ix3 b r s.rev) := by
  refine congrArg x (funext fun a => ?_)
  match a with
  | ⟨0, _⟩ => rfl
  | ⟨1, _⟩ => rfl
  | ⟨2, _⟩ => rfl

/-- Four rows of the sixteen, from row `o` on. -/
theorem rows_at (x : FVec Ideal S8x16x256 .f32) (o : ℕ) (hs : S8x16x256.Slices ![0, o, 0] S8x4x256) (b : Fin 8) (r : Fin 4) (s : Fin 256)
    (q : Fin 16) (hq : q.val = o + r.val) : extractStridedSlice S8x4x256 ![0, o, 0] x hs (ix3 b r s) = x (ix3 b q s) := by
  refine congrArg x (funext fun a => ?_)
  match a with
  | ⟨0, _⟩ => exact Fin.ext (Nat.zero_add _)
  | ⟨1, _⟩ => exact Fin.ext hq.symm
  | ⟨2, _⟩ => exact Fin.ext (Nat.zero_add _)

/-- The forward sums and the backward sums are those of the forget gates, and all gates are real. -/
theorem parts (h : fn (F := Ideal) kt v gt gx = fun _ => 1#1) :
    (∀ i, ∃ x : ℝ, gt i = (x : EReal))
    ∧ (∀ (b : Fin 8) (r : Fin 4) (s : Fin 256), gx (ix3 b ⟨r.val, by omega⟩ s) = Cert.State.cum (fun u => gt (ix3 b ⟨4 + r.val, by omega⟩ u)) s)
    ∧ (∀ (b : Fin 8) (r : Fin 4) (s : Fin 256),
        gx (ix3 b ⟨8 + r.val, by omega⟩ s) = Cert.State.cum (fun u => gt (ix3 b ⟨12 + r.val, by omega⟩ u.rev)) s.rev) := by
  have h0 := congrFun h ix0
  dsimp only [fn] at h0
  obtain ⟨h1, h3⟩ := and_one _ _ h0
  obtain ⟨h1, h2⟩ := and_one _ _ h1
  have k1 := fun i => Host.reduce_andi_all _ _ _ _ _ h1 i
  have k2 := fun i => Host.reduce_andi_all _ _ _ _ _ h2 i
  have k3 := fun i => Host.reduce_andi_all _ _ _ _ _ h3 i
  refine ⟨fun i => ?_, fun b r s => ?_, fun b r s => ?_⟩
  · have e := k1 i
    change Ideal.cmp .olt (max (gt i) (-gt i)) (Ideal.ofBits FTy.f32 2139095040#32) = 1#1 at e
    exact real_of_lt _ (pos_inf ▸ of_lt _ _ e)
  · have e := k2 (ix3 b r s)
    change Ideal.cmp .oeq (extractStridedSlice S8x4x256 ![0, 0, 0] gx _ (ix3 b r s))
      (fn_cumsum (F := Ideal) (extractStridedSlice S8x4x256 ![0, 4, 0] gt _) (ix3 b r s)) = 1#1 at e
    have e := of_eq _ _ e
    rw [cumsum_at, rows_at gx 0 _ b r s ⟨r.val, by omega⟩ (Nat.zero_add _).symm] at e
    rw [e]
    refine congrArg (fun f => Cert.State.cum f s) (funext fun u => ?_)
    exact rows_at gt 4 _ b r u ⟨4 + r.val, by omega⟩ rfl
  · have e := k3 (ix3 b r s)
    change Ideal.cmp .oeq (extractStridedSlice S8x4x256 ![0, 8, 0] gx _ (ix3 b r s))
      (fn_flip (F := Ideal) (fn_cumsum (fn_flip (extractStridedSlice S8x4x256 ![0, 12, 0] gt _))) (ix3 b r s)) = 1#1 at e
    have e := of_eq _ _ e
    rw [flip_at, cumsum_at, rows_at gx 8 _ b r s ⟨8 + r.val, by omega⟩ rfl] at e
    rw [e]
    refine congrArg (fun f => Cert.State.cum f s.rev) (funext fun u => ?_)
    rw [flip_at]
    exact rows_at gt 12 _ b r u.rev ⟨12 + r.val, by omega⟩ rfl

end Cert.Pre_gates_summed.Read
end
-- ==== Proof.State.Equation.lean ====
module

public import proofs.«01_k».proof.Proof.State.Core

/-! The kernel's formulas, with the sums it is given being those of the forget gates, are one step over all 256 positions: forwards, and
backwards over the reversed sequence. -/

@[expose] public section

noncomputable section
namespace Cert.State
open Idealize.ShloMosaic

section
variable (gt gx : Fin 16 → Fin 256 → EReal) (kt : Fin 1024 → Fin 256 → EReal) (v : Fin 256 → Fin 1024 → EReal) (lf : Fin 256 → EReal) (h : Fin 4)

/-- Forwards the exponents are those of the step. -/
theorem expo_fwd (hx : ∀ s, gx (gRow 0 h) s = cum lf s) :
    kExpo gt gx 0 h = expo (gt (gRow 0 h)) (cum lf) (cum lf (Fin.last 255)) ∧ kTop gx 0 h = cum lf (Fin.last 255) + 0 := by
  have e : gx (gRow 0 h) = cum lf := funext hx
  unfold kExpo kTop
  rw [e]
  exact ⟨rfl, rfl⟩

/-- Backwards they are those of the step over the reversed sequence, at the mirrored position. -/
theorem expo_bwd (hx : ∀ s, gx (gRow 1 h) s = cum (fun u => lf u.rev) s.rev) :
    kExpo gt gx 1 h = (fun s => expo (fun u => gt (gRow 1 h) u.rev) (cum fun u => lf u.rev) (cum (fun u => lf u.rev) (Fin.last 255)) s.rev)
    ∧ kTop gx 1 h = cum (fun u => lf u.rev) (Fin.last 255) + 0 := by
  have hl : gx (gRow 1 h) (lastPos 1) = cum (fun u => lf u.rev) (Fin.last 255) := hx _
  constructor
  · funext s
    show gx (gRow 1 h) (lastPos 1) - gx (gRow 1 h) s + gt (gRow 1 h) s = _ - _ + gt (gRow 1 h) s.rev.rev
    rw [hl, hx, Fin.rev_rev]
  · show gx (gRow 1 h) (lastPos 1) + 0 = _
    rw [hl]

theorem kMax_fwd (hx : ∀ s, gx (gRow 0 h) s = cum lf s) : kMax gt gx 0 h = mNew (n := 255) (gt (gRow 0 h)) lf 0 := by
  obtain ⟨e1, e2⟩ := expo_fwd gt gx lf h hx
  unfold kMax
  rw [e1, e2]
  rfl

theorem kMax_bwd (hx : ∀ s, gx (gRow 1 h) s = cum (fun u => lf u.rev) s.rev) :
    kMax gt gx 1 h = mNew (n := 255) (fun s => gt (gRow 1 h) s.rev) (fun u => lf u.rev) 0 := by
  obtain ⟨e1, e2⟩ := expo_bwd gt gx lf h hx
  unfold kMax
  rw [e1, e2, mx_rev]
  rfl

/-- One entry of the memory, or of the normaliser with `w` one everywhere. -/
theorem acc_fwd (hx : ∀ s, gx (gRow 0 h) s = cum lf s) (k w : Fin 256 → EReal) :
    acc (kExpo gt gx 0 h) (kTop gx 0 h) 0 k w = cNew (n := 255) (gt (gRow 0 h)) lf 0 0 k w := by
  obtain ⟨e1, e2⟩ := expo_fwd gt gx lf h hx
  rw [e1, e2]
  rfl

theorem acc_bwd (hx : ∀ s, gx (gRow 1 h) s = cum (fun u => lf u.rev) s.rev) (k w : Fin 256 → EReal) :
    acc (kExpo gt gx 1 h) (kTop gx 1 h) 0 k w
      = cNew (n := 255) (fun s => gt (gRow 1 h) s.rev) (fun u => lf u.rev) 0 0 (fun s => k s.rev) (fun s => w s.rev) := by
  obtain ⟨e1, e2⟩ := expo_bwd gt gx lf h hx
  rw [e1, e2]
  have := acc_rev (expo (fun u => gt (gRow 1 h) u.rev) (cum fun u => lf u.rev) (cum (fun u => lf u.rev) (Fin.last 255)))
    (cum (fun u => lf u.rev) (Fin.last 255) + 0) 0 (fun s => k s.rev) (fun s => w s.rev)
  simp only [Fin.rev_rev] at this
  exact this
end

end Cert.State
end
-- ==== Proof.State.Final.lean ====
module

public import proofs.«01_k».proof.Proof.State.Out8
public import proofs.«01_k».proof.Proof.State.Out9
public import proofs.«01_k».proof.Proof.State.Out10
public import proofs.«01_k».proof.Proof.State.Results
public import proofs.«01_k».proof.Proof.State.Pre
public import proofs.«01_k».proof.Proof.State.Equation

/-! The arrays the kernel leaves are the reference's results. -/

@[expose] public section

set_option maxRecDepth 16384
noncomputable section
namespace Cert.StateFinal
open Idealize.ShloMosaic Idealize.ShloMosaic.TcCoe Idealize.SL.Sem Idealize.ShloMosaic.StableHlo
open Cert.State
open Cert.ReferenceIdeal.StateR (kt vv gt fRow refC refN refM)

variable (V0 : Valuation Cert.ReferenceIdeal.τ Cert.ReferenceIdeal.sig (Elt Ideal))

/-- The sums as the reference is given them. -/
def gx (b : Fin 8) (r : Fin 16) (s : Fin 256) : EReal := V0 (Proc.devRef .tc Cert.ReferenceIdeal.main_arg3) (ix3 b r s)

/-- What the precondition says of the arguments. -/
structure Summed : Prop where
  real : ∀ b r s, ∃ x : ℝ, gt V0 b r s = (x : EReal)
  fwd : ∀ b h s, gx V0 b (gRow 0 h) s = cum (fun u => gt V0 b (fRow 0 h) u) s
  bwd : ∀ b h s, gx V0 b (gRow 1 h) s = cum (fun u => gt V0 b (fRow 1 h) u.rev) s.rev

theorem summed_of (h : Cert.Pre_gates_summed.fn (F := Ideal) (V0 (Proc.devRef .tc Cert.ReferenceIdeal.main_arg0)) (V0 (Proc.devRef .tc Cert.ReferenceIdeal.main_arg1))
    (V0 (Proc.devRef .tc Cert.ReferenceIdeal.main_arg2)) (V0 (Proc.devRef .tc Cert.ReferenceIdeal.main_arg3)) = fun _ => 1#1) : Summed V0 := by
  obtain ⟨h1, h2, h3⟩ := Cert.Pre_gates_summed.Read.parts _ _ _ _ h
  refine ⟨fun b r s => h1 _, fun b h s => ?_, fun b h s => ?_⟩
  · have e0 : gRow 0 h = ⟨h.val, by omega⟩ := Fin.ext (by show 8 * 0 + h.val = h.val; omega)
    have e1 : fRow 0 h = ⟨4 + h.val, by omega⟩ := Fin.ext (by show 8 * 0 + 4 + h.val = 4 + h.val; omega)
    rw [e0, e1]
    exact h2 b h s
  · have e0 : gRow 1 h = ⟨8 + h.val, by omega⟩ := Fin.ext (by show 8 * 1 + h.val = 8 + h.val; omega)
    have e1 : fRow 1 h = ⟨12 + h.val, by omega⟩ := Fin.ext (by show 8 * 1 + 4 + h.val = 12 + h.val; omega)
    rw [e0, e1]
    exact h3 b h s

section
variable {V0} (hs : Summed V0) (b : Fin 8) (h : Fin 4)
include hs
open Cert.ReferenceIdeal.StateR

theorem max_at (d : Fin 2) (q : Fin 128) : refM V0 (ix4 b d h q) = kMax (gt V0 b) (gx V0 b) d h := by
  match d with
  | 0 =>
    refine (refM_fwd V0 b h q).trans ?_
    rw [scanM_at b h _ _ (fun s => (li0_at V0 b s h) ▸ hs.real _ _ _) (fun s => (lf0_at V0 b s h) ▸ hs.real _ _ _)]
    simp only [li0_at, lf0_at]
    exact (kMax_fwd (gt V0 b) (gx V0 b) _ h (hs.fwd b h)).symm
  | 1 =>
    refine (refM_bwd V0 b h q).trans ?_
    rw [scanM_at b h _ _ (fun s => (li1_at V0 b s h) ▸ hs.real _ _ _) (fun s => (lf1_at V0 b s h) ▸ hs.real _ _ _)]
    simp only [li1_at, lf1_at]
    exact (kMax_bwd (gt V0 b) (gx V0 b) (gt V0 b (fRow 1 h)) h (hs.bwd b h)).symm

theorem mem_at (d : Fin 2) (a e : Fin 256) : refC V0 (ix5 b d h a e) = kMem (gt V0 b) (gx V0 b) (kt V0 b) (vv V0 b) d h a e := by
  match d with
  | 0 =>
    refine (refC_fwd V0 b h a e).trans ?_
    rw [scanC_at b h a e _ _ _ _ (fun s => (li0_at V0 b s h) ▸ hs.real _ _ _) (fun s => (lf0_at V0 b s h) ▸ hs.real _ _ _)]
    simp only [li0_at, lf0_at, keys_at, vals_at]
    exact (acc_fwd (gt V0 b) (gx V0 b) _ h (hs.fwd b h) _ _).symm
  | 1 =>
    refine (refC_bwd V0 b h a e).trans ?_
    rw [scanC_at b h a e _ _ _ _ (fun s => (li1_at V0 b s h) ▸ hs.real _ _ _) (fun s => (lf1_at V0 b s h) ▸ hs.real _ _ _)]
    simp only [li1_at, lf1_at, keysR_at, valsR_at]
    exact (acc_bwd (gt V0 b) (gx V0 b) (gt V0 b (fRow 1 h)) h (hs.bwd b h) (kt V0 b (chan h a)) (fun s => vv V0 b s (chan h e))).symm

theorem norm_at (d : Fin 2) (q : Fin 8) (a : Fin 256) : refN V0 (ix5 b d h q a) = kNorm (gt V0 b) (gx V0 b) (kt V0 b) d h a := by
  match d with
  | 0 =>
    refine (refN_fwd V0 b h a q).trans ?_
    rw [scanN_at b h a _ _ _ (fun s => (li0_at V0 b s h) ▸ hs.real _ _ _) (fun s => (lf0_at V0 b s h) ▸ hs.real _ _ _)]
    simp only [li0_at, lf0_at, keys_at]
    exact (acc_fwd (gt V0 b) (gx V0 b) _ h (hs.fwd b h) _ _).symm
  | 1 =>
    refine (refN_bwd V0 b h a q).trans ?_
    rw [scanN_at b h a _ _ _ (fun s => (li1_at V0 b s h) ▸ hs.real _ _ _) (fun s => (lf1_at V0 b s h) ▸ hs.real _ _ _)]
    simp only [li1_at, lf1_at, keysR_at]
    exact (acc_bwd (gt V0 b) (gx V0 b) (gt V0 b (fRow 1 h)) h (hs.bwd b h) (kt V0 b (chan h a)) (fun _ => 1)).symm
end

section
open Cert.KernelIdeal Cert.KernelIdeal.Gen Cert.KernelIdeal.StateK
variable (m : (ℓ : Loc nD τ sig) → Buf (Elt Ideal) ℓ) (c : Dev nD)
  (h0 : V0 (Proc.devRef .tc Cert.ReferenceIdeal.main_arg0) = m ((c.tc : Thread nD τ).loc main_arg0))
  (h1 : V0 (Proc.devRef .tc Cert.ReferenceIdeal.main_arg1) = m ((c.tc : Thread nD τ).loc main_arg1))
  (h2 : V0 (Proc.devRef .tc Cert.ReferenceIdeal.main_arg2) = m ((c.tc : Thread nD τ).loc main_arg2))
  (h3 : V0 (Proc.devRef .tc Cert.ReferenceIdeal.main_arg3) = m ((c.tc : Thread nD τ).loc main_arg3))
  (hp : Cert.Pre_gates_summed.fn (F := Ideal) (m ((c.tc : Thread nD τ).loc main_arg0)) (m ((c.tc : Thread nD τ).loc main_arg1))
    (m ((c.tc : Thread nD τ).loc main_arg2)) (m ((c.tc : Thread nD τ).loc main_arg3)) = fun _ => 1#1)
include h0 h1 h2 h3 hp

theorem summed : Summed V0 := summed_of V0 (by rw [h0, h1, h2, h3]; exact hp)

theorem final_mem : (dats m 0 c).arrAt 8 (cfgs 0).N = refC V0 := by
  rw [final8]
  funext j
  obtain ⟨b, d, h, a, e, rfl⟩ : ∃ (b : Fin 8) (d : Fin 2) (h : Fin 4) (a e : Fin 256), j = ix5 b d h a e := ⟨j 0, j 1, j 2, j 3, j 4, eq_ix5 j⟩
  rw [mem_at (summed V0 m c h0 h1 h2 h3 hp) b h d a e]
  have e0 : kt V0 b = ktOf m c b := by funext r s; exact congrFun h0 _
  have e1 : vv V0 b = vOf m c b := by funext r s; exact congrFun h1 _
  have e2 : gt V0 b = gtOf m c b := by funext r s; exact congrFun h2 _
  have e3 : gx V0 b = gxOf m c b := by funext r s; exact congrFun h3 _
  rw [e0, e1, e2, e3]
  rfl

theorem final_norm : (dats m 0 c).arrAt 9 (cfgs 0).N = refN V0 := by
  rw [final9]
  funext j
  obtain ⟨b, d, h, q, a, rfl⟩ : ∃ (b : Fin 8) (d : Fin 2) (h : Fin 4) (q : Fin 8) (a : Fin 256), j = ix5 b d h q a := ⟨j 0, j 1, j 2, j 3, j 4, eq_ix5 j⟩
  rw [norm_at (summed V0 m c h0 h1 h2 h3 hp) b h d q a]
  have e0 : kt V0 b = ktOf m c b := by funext r s; exact congrFun h0 _
  have e2 : gt V0 b = gtOf m c b := by funext r s; exact congrFun h2 _
  have e3 : gx V0 b = gxOf m c b := by funext r s; exact congrFun h3 _
  rw [e0, e2, e3]
  rfl

theorem final_max : (dats m 0 c).arrAt 10 (cfgs 0).N = refM V0 := by
  rw [final10]
  funext j
  obtain ⟨b, d, h, q, rfl⟩ : ∃ (b : Fin 8) (d : Fin 2) (h : Fin 4) (q : Fin 128), j = ix4 b d h q := ⟨j 0, j 1, j 2, j 3, eq_ix4 j⟩
  rw [max_at (summed V0 m c h0 h1 h2 h3 hp) b h d q]
  have e2 : gt V0 b = gtOf m c b := by funext r s; exact congrFun h2 _
  have e3 : gx V0 b = gxOf m c b := by funext r s; exact congrFun h3 _
  rw [e2, e3]
  rfl
end

end Cert.StateFinal
end
-- ==== Proof.State.Claims.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.State.Final

/-! The claims about the context memory: every program runs and leaves its arguments, and the kernel's three result arrays are the reference's. -/

@[expose] public section

noncomputable section
namespace Cert.StateClaims
open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_gates_summed := fun m ρ _ => Cert.KernelIdeal.Gen.frame m ρ
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.StateR.run_named m ρ)
theorem frame_ri_pre : Cert.quiescent_ReferenceIdeal_pre_gates_summed := fun m ρ _ => frame_ri m ρ trivial

theorem algebraic : Cert.algebraic_KernelIdeal_ReferenceIdeal_pre_gates_summed := by
  intro m g m' g' hpre hagree
  refine ⟨fun c => Cert.ReferenceIdeal.StateR.refC (StableHlo.launchContents m' c), fun c => Cert.ReferenceIdeal.StateR.refN (StableHlo.launchContents m' c),
    fun c => Cert.ReferenceIdeal.StateR.refM (StableHlo.launchContents m' c), ?_, Cert.ReferenceIdeal.StateR.run_named m' g'⟩
  refine (θ_run Cert.KernelIdeal.defs _ _).mono (fun r h c => ?_) (Cert.KernelIdeal.Value.run_blocks m g)
  obtain ⟨k0, k1, k2, k3⟩ := h c
  obtain ⟨a0, a1, a2, a3⟩ := hagree c
  exact ⟨k0.trans (Cert.StateFinal.final_mem _ m c a0 a1 a2 a3 (hpre c)), k1.trans (Cert.StateFinal.final_norm _ m c a0 a1 a2 a3 (hpre c)),
    k2.trans (Cert.StateFinal.final_max _ m c a0 a1 a2 a3 (hpre c)), k3⟩

end Cert.StateClaims
end
-- ==== Proof.Merge.Net.lean ====
module

public import proofs.«01_k».proof.Proof.Gen.Kernel2Ideal.Skeleton
public import Idealize.ShloMosaic.Lib.Pipeline.ValueKit
public import Idealize.ShloMosaic.Lib.Pointwise

/-! The exchange of lane blocks: eight rows of eight blocks of sixteen lanes, transposed as an eight by eight matrix of blocks by three
    rounds of rotations and selections. -/

@[expose] public section

set_option maxRecDepth 16384
noncomputable section
namespace Cert.Kernel2Ideal.MergeK
open Idealize.ShloMosaic Idealize.ShloMosaic.TcCoe Idealize.SL.Sem
open Cert.Kernel2Ideal Cert.Kernel2Ideal.Gen

/-- The block a lane lies in. -/
def blk : IVec S64x128 32 := k0_pay60 k0_pay57 k0_pay58 k0_pay59
/-- The lanes whose block has a zero bit where `n` has its one. -/
def keep (n : BitVec 32) : IVec S64x128 1 := cmpi .eq (andi blk (broadcast S64x128 n)) (broadcast S64x128 0#32)

/-- The row an exchange leaves in the first of its two places. -/
def lo (k : IVec S64x128 1) (n : BitVec 32) (a b : FVec Ideal S64x128 .f32) : FVec Ideal S64x128 .f32 :=
  select k a (dynamicRotate 1 n none b rotates_S64x128_d1)
/-- The row an exchange leaves in the second of its two places. -/
def hi (k : IVec S64x128 1) (n : BitVec 32) (a b : FVec Ideal S64x128 .f32) : FVec Ideal S64x128 .f32 :=
  select k (dynamicRotate 1 n none a rotates_S64x128_d1) b

/-- A lane from the three bits of its block and its place in the block. -/
def lane (b4 b2 b1 : Bool) (m : Fin 16) : Fin 128 := ⟨64 * b4.toNat + 32 * b2.toNat + 16 * b1.toNat + m.val, by
  have := b4.toNat_le; have := b2.toNat_le; have := b1.toNat_le; omega⟩

theorem keep4_row : ∀ (b4 b2 b1 : Bool) (m : Fin 16), keep 4#32 (ix2 0 (lane b4 b2 b1 m)) = bif b4 then 0#1 else 1#1 := by decide +kernel
theorem keep2_row : ∀ (b4 b2 b1 : Bool) (m : Fin 16), keep 2#32 (ix2 0 (lane b4 b2 b1 m)) = bif b2 then 0#1 else 1#1 := by decide +kernel
theorem keep1_row : ∀ (b4 b2 b1 : Bool) (m : Fin 16), keep 1#32 (ix2 0 (lane b4 b2 b1 m)) = bif b1 then 0#1 else 1#1 := by decide +kernel

theorem keep_same (n : BitVec 32) (w : Fin 64) (l : Fin 128) : keep n (ix2 w l) = keep n (ix2 0 l) := rfl

theorem rotate_at (n : BitVec 32) (a : FVec Ideal S64x128 .f32) (w : Fin 64) (l l' : Fin 128) (h : (l.val + 128 - n.toNat % 128) % 128 = l'.val) :
    dynamicRotate 1 n none a rotates_S64x128_d1 (ix2 w l) = a (ix2 w l') := by
  unfold dynamicRotate
  refine congrArg a (funext fun d => ?_)
  match d with
  | ⟨0, _⟩ => rfl
  | ⟨1, _⟩ => exact Fin.ext h

theorem lo_at (k : IVec S64x128 1) (n : BitVec 32) (a b : FVec Ideal S64x128 .f32) (w : Fin 64) (l l' : Fin 128) (c : Bool)
    (hk : k (ix2 w l) = bif c then 0#1 else 1#1) (h0 : c = false → l = l') (h1 : c = true → (l.val + 128 - n.toNat % 128) % 128 = l'.val) :
    lo k n a b (ix2 w l) = (bif c then b else a) (ix2 w l') := by
  show (if k (ix2 w l) = 1#1 then a (ix2 w l) else dynamicRotate 1 n none b rotates_S64x128_d1 (ix2 w l)) = _
  rw [hk]
  cases c
  · rw [h0 rfl]; rfl
  · rw [rotate_at n b w l l' (h1 rfl)]; rfl

theorem hi_at (k : IVec S64x128 1) (n : BitVec 32) (a b : FVec Ideal S64x128 .f32) (w : Fin 64) (l l' : Fin 128) (c : Bool)
    (hk : k (ix2 w l) = bif c then 0#1 else 1#1) (h0 : c = false → (l.val + 128 - n.toNat % 128) % 128 = l'.val) (h1 : c = true → l = l') :
    hi k n a b (ix2 w l) = (bif c then b else a) (ix2 w l') := by
  show (if k (ix2 w l) = 1#1 then dynamicRotate 1 n none a rotates_S64x128_d1 (ix2 w l) else b (ix2 w l)) = _
  rw [hk]
  cases c
  · rw [rotate_at n a w l l' (h0 rfl)]; rfl
  · rw [h1 rfl]; rfl

/-- One exchange, in the first place or in the second. -/
def swap (c : Bool) (k : IVec S64x128 1) (n n' : BitVec 32) (a b : FVec Ideal S64x128 .f32) : FVec Ideal S64x128 .f32 :=
  bif c then hi k n' a b else lo k n a b

variable (a b : FVec Ideal S64x128 .f32) (w : Fin 64) (m : Fin 16)

theorem swap4_at (c b4 b2 b1 : Bool) : swap c (keep 4#32) 64#32 64#32 a b (ix2 w (lane b4 b2 b1 m)) = (bif b4 then b else a) (ix2 w (lane c b2 b1 m)) := by
  have hk := (keep_same 4#32 w (lane b4 b2 b1 m)).trans (keep4_row b4 b2 b1 m)
  cases c
  · refine lo_at _ _ _ _ _ _ _ b4 hk (by rintro rfl; rfl) ?_
    clear hk; rintro rfl; revert m; cases b2 <;> cases b1 <;> decide
  · refine hi_at _ _ _ _ _ _ _ b4 hk ?_ (by rintro rfl; rfl)
    clear hk; rintro rfl; revert m; cases b2 <;> cases b1 <;> decide

theorem swap2_at (c b4 b2 b1 : Bool) : swap c (keep 2#32) 32#32 96#32 a b (ix2 w (lane b4 b2 b1 m)) = (bif b2 then b else a) (ix2 w (lane b4 c b1 m)) := by
  have hk := (keep_same 2#32 w (lane b4 b2 b1 m)).trans (keep2_row b4 b2 b1 m)
  cases c
  · refine lo_at _ _ _ _ _ _ _ b2 hk (by rintro rfl; rfl) ?_
    clear hk; rintro rfl; revert m; cases b4 <;> cases b1 <;> decide
  · refine hi_at _ _ _ _ _ _ _ b2 hk ?_ (by rintro rfl; rfl)
    clear hk; rintro rfl; revert m; cases b4 <;> cases b1 <;> decide

theorem swap1_at (c b4 b2 b1 : Bool) : swap c (keep 1#32) 16#32 112#32 a b (ix2 w (lane b4 b2 b1 m)) = (bif b1 then b else a) (ix2 w (lane b4 b2 c m)) := by
  have hk := (keep_same 1#32 w (lane b4 b2 b1 m)).trans (keep1_row b4 b2 b1 m)
  cases c
  · refine lo_at _ _ _ _ _ _ _ b1 hk (by rintro rfl; rfl) ?_
    clear hk; rintro rfl; revert m; cases b4 <;> cases b2 <;> decide
  · refine hi_at _ _ _ _ _ _ _ b1 hk ?_ (by rintro rfl; rfl)
    clear hk; rintro rfl; revert m; cases b4 <;> cases b2 <;> decide

/-- The three rounds, for the row whose number has the bits `c4`, `c2`, `c1`. -/
def net (c4 c2 c1 : Bool) (r0 r1 r2 r3 r4 r5 r6 r7 : FVec Ideal S64x128 .f32) : FVec Ideal S64x128 .f32 :=
  swap c1 (keep 1#32) 16#32 112#32
    (swap c2 (keep 2#32) 32#32 96#32 (swap c4 (keep 4#32) 64#32 64#32 r0 r4) (swap c4 (keep 4#32) 64#32 64#32 r2 r6))
    (swap c2 (keep 2#32) 32#32 96#32 (swap c4 (keep 4#32) 64#32 64#32 r1 r5) (swap c4 (keep 4#32) 64#32 64#32 r3 r7))

/-- Row `c` of the exchange reads, in block `b`, block `c` of row `b`. -/
theorem net_at (c4 c2 c1 b4 b2 b1 : Bool) (r0 r1 r2 r3 r4 r5 r6 r7 : FVec Ideal S64x128 .f32) :
    net c4 c2 c1 r0 r1 r2 r3 r4 r5 r6 r7 (ix2 w (lane b4 b2 b1 m))
      = (bif b4 then (bif b2 then (bif b1 then r7 else r6) else (bif b1 then r5 else r4))
          else (bif b2 then (bif b1 then r3 else r2) else (bif b1 then r1 else r0))) (ix2 w (lane c4 c2 c1 m)) := by
  unfold net
  rw [swap1_at]
  cases b1 <;> simp only [cond_true, cond_false] <;> rw [swap2_at] <;> cases b2 <;> simp only [cond_true, cond_false] <;> rw [swap4_at] <;>
    cases b4 <;> rfl

/-- A row of the block, as loaded. -/
def up (l : Vec Ideal S1x64x128 .bf16) : FVec Ideal S64x128 .f32 := extf .f32 (shapeCast S64x128 l shapeCasts_S1x64x128_S64x128) bitsLt_bf16_f32
/-- A row, as stored. -/
def down (v : FVec Ideal S64x128 .f32) : FVec Ideal S64x128 .bf16 := shapeCast S64x128 (truncf .bf16 v bitsLt_bf16_f32) shapeCasts_S64x128_S64x128

theorem up_at (l : Vec Ideal S1x64x128 .bf16) (l' : Fin 128) : up l (ix2 w l') = (l (ix3 0 w l') : EReal) := by pointwise [up]
theorem down_at (v : FVec Ideal S64x128 .f32) (l' : Fin 128) : down v (ix2 w l') = (v (ix2 w l') : EReal) := by pointwise [down]

/-- What one store of an exchange writes. -/
def stored (c4 c2 c1 : Bool) (l0 l1 l2 l3 l4 l5 l6 l7 : Vec Ideal S1x64x128 .bf16) : FVec Ideal S64x128 .bf16 :=
  down (net c4 c2 c1 (up l0) (up l1) (up l2) (up l3) (up l4) (up l5) (up l6) (up l7))

end Cert.Kernel2Ideal.MergeK
end
-- ==== Proof.Merge.Scratch.lean ====
module

public import proofs.«01_k».proof.Proof.Merge.Net
public import Idealize.ShloMosaic.Lib.Pipeline.ReadBack

/-! What the exchanges leave in the scratch. -/

@[expose] public section

set_option maxRecDepth 16384
noncomputable section
namespace Cert.Kernel2Ideal.MergeK
open Idealize.ShloMosaic Idealize.ShloMosaic.TcCoe Idealize.SL.Sem
open Cert.Kernel2Ideal Cert.Kernel2Ideal.Gen

/-- The scratch: token `64 s + w` and channel `16 g + e` hold channel `16 s + e` of group `g` at column `w`. -/
def gather (x : Vec Ideal S64x64x256 .bf16) : S1024x1024.Idx → Elt Ideal .bf16 := fun z =>
  x (ix3 ⟨(z 1).val / 16, by have : (z 1).val < 1024 := (z 1).2; omega⟩ ⟨(z 0).val % 64, by omega⟩
    ⟨(z 0).val / 64 * 16 + (z 1).val % 16, by have : (z 0).val < 1024 := (z 0).2; omega⟩)

theorem lane_split : ∀ l : Fin 128, ∃ b4 b2 b1 m, l = lane b4 b2 b1 m := by decide +kernel

theorem ld_gather (x : Vec Ideal S64x64x256 .bf16) {k o : ℕ} (i) (w : Fin 64) (l : Fin 128) (z : S1024x1024.Idx)
    (h0 : k = (z 1).val / 16) (h1 : w.val = (z 0).val % 64) (h2 : o + l.val = (z 0).val / 64 * 16 + (z 1).val % 16) :
    View.ld x (Rect.unit (s := S64x64x256) ![k, 0, o] ![1, 64, 128] i) (ix3 0 w l) = gather x z := by
  refine congrArg x (funext fun d => Fin.ext ?_)
  match d with
  | ⟨0, _⟩ => exact h0
  | ⟨1, _⟩ => exact (show 0 + 1 * w.val = w.val by omega).trans h1
  | ⟨2, _⟩ => exact (show o + 1 * l.val = o + l.val by omega).trans h2

theorem emb_row {p q : ℕ} (j) (w : Fin 64) (l : Fin 128) :
    (((Rect.unit (s := S1024x1024) ![p, q] ![64, 128] j).emb (ix2 w l)) 0).val = p + w.val := by
  show p + 1 * w.val = _; omega

theorem emb_col {p q : ℕ} (j) (w : Fin 64) (l : Fin 128) :
    (((Rect.unit (s := S1024x1024) ![p, q] ![64, 128] j).emb (ix2 w l)) 1).val = q + l.val := by
  show q + 1 * l.val = _; omega

/-- One store of an exchange writes its block of the scratch. -/
theorem store_eq (c4 c2 c1 : Bool) (x : Vec Ideal S64x64x256 .bf16) {k k1 k2 k3 k4 k5 k6 k7 o p q : ℕ}
    (hk : k1 = k + 1 ∧ k2 = k + 2 ∧ k3 = k + 3 ∧ k4 = k + 4 ∧ k5 = k + 5 ∧ k6 = k + 6 ∧ k7 = k + 7) (hq : q = 16 * k) (ho : o % 16 = 0)
    (hp : p = 4 * o + 64 * (4 * c4.toNat + 2 * c2.toNat + c1.toNat)) (i0 i1 i2 i3 i4 i5 i6 i7)
    (j : ∀ a, (![p, q] : Fin 2 → ℕ) a + (![64, 128] : Fin 2 → ℕ) a ≤ S1024x1024.size a)
    (y : (Rect.unit (s := S1024x1024) ![p, q] ![64, 128] j).shape.Idx) :
    stored c4 c2 c1 (View.ld x (Rect.unit (s := S64x64x256) ![k, 0, o] ![1, 64, 128] i0)) (View.ld x (Rect.unit (s := S64x64x256) ![k1, 0, o] ![1, 64, 128] i1))
      (View.ld x (Rect.unit (s := S64x64x256) ![k2, 0, o] ![1, 64, 128] i2)) (View.ld x (Rect.unit (s := S64x64x256) ![k3, 0, o] ![1, 64, 128] i3))
      (View.ld x (Rect.unit (s := S64x64x256) ![k4, 0, o] ![1, 64, 128] i4)) (View.ld x (Rect.unit (s := S64x64x256) ![k5, 0, o] ![1, 64, 128] i5))
      (View.ld x (Rect.unit (s := S64x64x256) ![k6, 0, o] ![1, 64, 128] i6)) (View.ld x (Rect.unit (s := S64x64x256) ![k7, 0, o] ![1, 64, 128] i7)) y
      = gather x ((Rect.unit (s := S1024x1024) ![p, q] ![64, 128] j).emb y) := by
  obtain ⟨rfl, rfl, rfl, rfl, rfl, rfl, rfl⟩ := hk
  obtain ⟨w, l, rfl⟩ : ∃ (w : Fin 64) (l : Fin 128), y = ix2 w l := ⟨y 0, y 1, eq_ix2 y⟩
  obtain ⟨b4, b2, b1, m, rfl⟩ := lane_split l
  have hm := m.2
  have hw := w.2
  have h4 := c4.toNat_le
  have h2 := c2.toNat_le
  have h1 := c1.toNat_le
  have hpj : p + 64 ≤ 1024 := j 0
  have hqj : q + 128 ≤ 1024 := j 1
  have hi0 : o + 128 ≤ 256 := i0 2
  rw [stored, down_at, net_at]
  cases b4 <;> cases b2 <;> cases b1 <;> simp only [cond_true, cond_false] <;> rw [up_at]
  all_goals
    refine ld_gather x _ _ _ _ ?_ ?_ ?_ <;> (first | rw [emb_row, emb_col] | rw [emb_row] | rw [emb_col]) <;>
      (try simp only [lane, Bool.toNat_true, Bool.toNat_false]) <;> omega

theorem row_inb {k o : ℕ} (h : k + 1 ≤ 64 ∧ o + 128 ≤ 256) : ∀ a, (![k, 0, o] : Fin 3 → ℕ) a + (![1, 64, 128] : Fin 3 → ℕ) a ≤ S64x64x256.size a := by
  intro a
  match a with
  | ⟨0, _⟩ => exact h.1
  | ⟨1, _⟩ => exact le_refl 64
  | ⟨2, _⟩ => exact h.2

/-- The 128 columns from `o` on of group `k`. -/
def row (x : Vec Ideal S64x64x256 .bf16) (k o : ℕ) (h : k + 1 ≤ 64 ∧ o + 128 ≤ 256) : Vec Ideal S1x64x128 .bf16 :=
  View.ld x (Rect.unit (s := S64x64x256) ![k, 0, o] ![1, 64, 128] (row_inb h))

/-- What one store of the exchange of eight groups from `k` on writes. -/
def exchanged (x : Vec Ideal S64x64x256 .bf16) (k o : ℕ) (hb : k + 8 ≤ 64 ∧ o + 128 ≤ 256) (c4 c2 c1 : Bool) : FVec Ideal S64x128 .bf16 :=
  stored c4 c2 c1 (row x k o ⟨by omega, hb.2⟩) (row x (k + 1) o ⟨by omega, hb.2⟩) (row x (k + 2) o ⟨by omega, hb.2⟩) (row x (k + 3) o ⟨by omega, hb.2⟩) (row x (k + 4) o ⟨by omega, hb.2⟩) (row x (k + 5) o ⟨by omega, hb.2⟩) (row x (k + 6) o ⟨by omega, hb.2⟩) (row x (k + 7) o ⟨by omega, hb.2⟩)

theorem exchanged_at (x : Vec Ideal S64x64x256 .bf16) {k o p q : ℕ} (hb : k + 8 ≤ 64 ∧ o + 128 ≤ 256) (hq : q = 16 * k) (ho : o % 16 = 0) (c4 c2 c1 : Bool)
    (hp : p = 4 * o + 64 * (4 * c4.toNat + 2 * c2.toNat + c1.toNat)) (j)
    (y : (Rect.unit (s := S1024x1024) ![p, q] ![64, 128] j).shape.Idx) :
    exchanged x k o hb c4 c2 c1 y = gather x ((Rect.unit (s := S1024x1024) ![p, q] ![64, 128] j).emb y) :=
  store_eq c4 c2 c1 x ⟨rfl, rfl, rfl, rfl, rfl, rfl, rfl⟩ hq ho hp _ _ _ _ _ _ _ _ j y

variable {x : Vec Ideal S64x64x256 .bf16}

/-- The eight stores of one exchange, over what is stored before. -/
theorem group_of {k o q p0 p1 p2 p3 p4 p5 p6 p7 : ℕ} {j0 j1 j2 j3 j4 j5 j6 j7}
    {P0 P1 P2 P3 P4 P5 P6 P7 : FVec Ideal S64x128 .bf16} {L : List (View.Piece (Elt Ideal) S1024x1024 .bf16)} (hb : k + 8 ≤ 64 ∧ o + 128 ≤ 256)
    (h0 : P0 = exchanged x k o hb false false false)
    (h1 : P1 = exchanged x k o hb false false true)
    (h2 : P2 = exchanged x k o hb false true false)
    (h3 : P3 = exchanged x k o hb false true true)
    (h4 : P4 = exchanged x k o hb true false false)
    (h5 : P5 = exchanged x k o hb true false true)
    (h6 : P6 = exchanged x k o hb true true false)
    (h7 : P7 = exchanged x k o hb true true true)
    (hq : q = 16 * k) (ho : o % 16 = 0)
    (hp : p0 = 4 * o ∧ p1 = 4 * o + 64 ∧ p2 = 4 * o + 128 ∧ p3 = 4 * o + 192 ∧ p4 = 4 * o + 256 ∧ p5 = 4 * o + 320 ∧ p6 = 4 * o + 384 ∧ p7 = 4 * o + 448)
    (hL : View.PiecesOf (gather x) L) :
    View.PiecesOf (gather x)
      (⟨Rect.unit (s := S1024x1024) ![p7, q] ![64, 128] j7, P7⟩ :: ⟨Rect.unit (s := S1024x1024) ![p6, q] ![64, 128] j6, P6⟩
        :: ⟨Rect.unit (s := S1024x1024) ![p5, q] ![64, 128] j5, P5⟩ :: ⟨Rect.unit (s := S1024x1024) ![p4, q] ![64, 128] j4, P4⟩
        :: ⟨Rect.unit (s := S1024x1024) ![p3, q] ![64, 128] j3, P3⟩ :: ⟨Rect.unit (s := S1024x1024) ![p2, q] ![64, 128] j2, P2⟩
        :: ⟨Rect.unit (s := S1024x1024) ![p1, q] ![64, 128] j1, P1⟩ :: ⟨Rect.unit (s := S1024x1024) ![p0, q] ![64, 128] j0, P0⟩ :: L) := by
  subst h0 h1 h2 h3 h4 h5 h6 h7
  obtain ⟨a0, a1, a2, a3, a4, a5, a6, a7⟩ := hp
  exact ⟨exchanged_at x hb hq ho true true true a7 j7, exchanged_at x hb hq ho true true false a6 j6,
    exchanged_at x hb hq ho true false true a5 j5, exchanged_at x hb hq ho true false false a4 j4,
    exchanged_at x hb hq ho false true true a3 j3, exchanged_at x hb hq ho false true false a2 j2,
    exchanged_at x hb hq ho false false true a1 j1, exchanged_at x hb hq ho false false false a0 j0, hL⟩

end Cert.Kernel2Ideal.MergeK
end
-- ==== Proof.Merge.Core.lean ====
module

public import Idealize.ShloMosaic.Lib.Pipeline.ValueKit
public import Idealize.ShloMosaic.Lib.Pointwise

/-! The merge of the two branches at one token, as a plain formula of the token's rows and of the weights. -/

@[expose] public section

noncomputable section
namespace Cert.Merge
open Idealize.ShloMosaic

/-- Channel `a` of head `h`. -/
def chan (h : Fin 4) (a : Fin 256) : Fin 1024 := ⟨256 * h.val + a.val, by omega⟩
/-- The head of a channel. -/
def head (j : Fin 1024) : Fin 4 := ⟨j.val / 256, by omega⟩
/-- The place of a channel within its head. -/
def place (j : Fin 1024) : Fin 256 := ⟨j.val % 256, by omega⟩

theorem head_chan (h : Fin 4) (a : Fin 256) : head (chan h a) = h := Fin.ext (by simp only [head, chan]; omega)
theorem place_chan (h : Fin 4) (a : Fin 256) : place (chan h a) = a := Fin.ext (by simp only [place, chan]; omega)
theorem chan_split (j : Fin 1024) : chan (head j) (place j) = j := Fin.ext (by simp only [head, place, chan]; omega)

/-- The small number added under each root. -/
def eps : EReal := Ideal.ofBits .f32 0x358637BD#32

/-- The mean over one head. -/
def mean (f : Fin 256 → EReal) : EReal := Ideal.div (∑ a, f a) (Ideal.ofBits .f32 0x43800000#32)
/-- What is left of a head once its mean is taken off. -/
def dev (f : Fin 256 → EReal) (a : Fin 256) : EReal := f a - mean f
/-- A head brought to mean zero and variance one. -/
def unit (f : Fin 256 → EReal) (a : Fin 256) : EReal := dev f a * Ideal.rsqrt (mean (fun b => dev f b * dev f b) + eps)

/-- `x` times its logistic. -/
def silu (x : EReal) : EReal := x * Ideal.logistic x
/-- The Gaussian unit in its tanh form. -/
def gelu (y : EReal) : EReal :=
  Ideal.ofBits .bf16 0x3F00#16 * y * (1 + Ideal.tanh (Ideal.ofBits .bf16 0x3F4C#16 * (y + Ideal.ofBits .bf16 0x3D37#16 * (y * y * y))))

/-- What one token brings: its rows of the activations, its modulation, and the weights. -/
structure Row where
  /-- forward memory's output -/
  hf : Fin 1024 → EReal
  /-- backward memory's output -/
  hb : Fin 1024 → EReal
  /-- output gate -/
  o : Fin 1024 → EReal
  /-- gate of the memory branch -/
  zm : Fin 1024 → EReal
  /-- output of the state-space branch -/
  y : Fin 1024 → EReal
  /-- gate of the state-space branch -/
  zs : Fin 1024 → EReal
  /-- residual -/
  x : Fin 1024 → EReal
  /-- modulation of the branch -/
  md : Fin 1024 → EReal
  /-- scale of the heads' norm -/
  mhg : Fin 1024 → EReal
  /-- weights of the gated unit -/
  gluw : Fin 1024 → Fin 1024 → EReal
  /-- shift of the gated unit -/
  glub : Fin 1024 → EReal
  /-- output weights of the memory branch -/
  wm : Fin 1024 → Fin 1024 → EReal
  /-- output weights of the state-space branch -/
  ws : Fin 1024 → Fin 1024 → EReal
  /-- scale of the last norm -/
  fg : Fin 1024 → EReal

namespace Row
variable (R : Row)

/-- The two directions together, gated. -/
def gated (j : Fin 1024) : EReal := (R.hf j + R.hb j) * Ideal.logistic (R.o j)
/-- The memory branch. -/
def mem (j : Fin 1024) : EReal := unit (fun a => R.gated (chan (head j) a)) (place j) * R.mhg j * silu (R.zm j)
/-- The state-space branch. -/
def ssm (j : Fin 1024) : EReal :=
  gelu (R.y j) * Ideal.logistic ((∑ i, gelu (R.y i) * R.gluw i j) + R.glub j) * silu (R.zs j)
/-- The residual with both branches added. -/
def sum (j : Fin 1024) : EReal := R.x j + R.md j * ((∑ i, R.mem i * R.wm i j) + ∑ i, R.ssm i * R.ws i j)
/-- The token's output row. -/
def out (j : Fin 1024) : EReal :=
  R.sum j * Ideal.rsqrt (Ideal.div (∑ i, R.sum i * R.sum i) (Ideal.ofBits .f32 0x44800000#32) + eps) * R.fg j

end Row
end Cert.Merge
end
-- ==== Proof.Merge.Row.lean ====
module

public import proofs.«01_k».proof.Proof.Gen.Kernel2Ideal.Skeleton
public import proofs.«01_k».proof.Proof.Merge.Core

/-! What the body computes for one band of 256 tokens, entry by entry. -/

@[expose] public section

set_option maxRecDepth 16384
noncomputable section
namespace Cert.Kernel2Ideal.MergeK
open Idealize.ShloMosaic Idealize.ShloMosaic.TcCoe Idealize.SL.Sem
open Cert.Kernel2Ideal Cert.Kernel2Ideal.Gen
open Cert.Merge

section
variable (mg : Vec Ideal S1x1024 .f32) (hf hb o zm : Vec Ideal S1x256x1024 .bf16) (y : Vec Ideal S256x1024 .bf16)
  (gw : Vec Ideal S1024x1024 .bf16) (gb : Vec Ideal S1x1024 .f32) (zs : Vec Ideal S1x256x1024 .bf16)
  (wm ws : Vec Ideal S1024x1024 .bf16) (x : Vec Ideal S1x256x1024 .f32) (md : Vec Ideal S1x1x1024 .f32) (fg : Vec Ideal S1x1024 .f32)

/-- The memory branch of a band. -/
def memBand : FVec Ideal S256x1024 .bf16 :=
  k0_pay706 (k0_pay697 mg) (k0_pay701 (k0_pay697 mg) (k0_pay699 hf hb o) (k0_pay700 hf hb o)) (k0_pay702 (k0_pay697 mg) (k0_pay698 hf hb o))
    (k0_pay703 (k0_pay697 mg) (k0_pay698 hf hb o)) (k0_pay704 (k0_pay698 hf hb o)) (k0_pay705 (k0_pay698 hf hb o)) zm

/-- A band's output rows. -/
def band : FVec Ideal S1x256x1024 .f32 :=
  k0_pay711 (k0_pay710 (memBand mg hf hb o zm) (k0_pay707 y) (k0_pay708 y gw) (k0_pay709 gb) zs wm ws x md fg)

variable (R : Row) (r : Fin 256)

theorem memBand_at (hmg : ∀ j, mg (ix2 0 j) = R.mhg j) (hhf : ∀ j, hf (ix3 0 r j) = R.hf j) (hhb : ∀ j, hb (ix3 0 r j) = R.hb j)
    (ho : ∀ j, o (ix3 0 r j) = R.o j) (hzm : ∀ j, zm (ix3 0 r j) = R.zm j) (j : Fin 1024) :
    memBand mg hf hb o zm (ix2 r j) = R.mem j := by
  obtain ⟨h, a, rfl⟩ : ∃ h a, j = chan h a := ⟨head j, place j, (chan_split j).symm⟩
  unfold Row.mem
  rw [head_chan, place_chan]
  fin_cases h
  · have e : ∀ a : Fin 256, chan 0 a = ⟨a.val, by omega⟩ := fun a => Fin.ext (by simp [chan])
    simp only [Fin.zero_eta, e]
    pointwise [memBand, k0_pay706, k0_pay701, k0_pay700, k0_pay699, k0_pay698, k0_pay697]
    simp only [hmg, hhf, hhb, ho, hzm]
    rfl
  · have e : ∀ a : Fin 256, chan 1 a = ⟨256 + a.val, by omega⟩ := fun a => Fin.ext (by simp [chan])
    simp only [Fin.mk_one, e]
    pointwise [memBand, k0_pay706, k0_pay702, k0_pay698, k0_pay697]
    simp only [hmg, hhf, hhb, ho, hzm]
    rfl
  · have e : ∀ a : Fin 256, chan 2 a = ⟨512 + a.val, by omega⟩ := fun a => Fin.ext (by simp [chan])
    simp only [Fin.reduceFinMk, e]
    pointwise [memBand, k0_pay706, k0_pay703, k0_pay698, k0_pay697]
    have n0 : ¬ 512 + a.val < 256 := by omega
    have n1 : ¬ 512 + a.val - 256 < 256 := by omega
    have v2 : 512 + a.val - 256 - 256 = a.val := by omega
    simp only [n0, n1, v2, a.2, dite_true, dite_false, hmg, hhf, hhb, ho, hzm]
    rfl
  · have e : ∀ a : Fin 256, chan 3 a = ⟨768 + a.val, by omega⟩ := fun a => Fin.ext (by simp [chan])
    simp only [Fin.reduceFinMk, e]
    pointwise [memBand, k0_pay706, k0_pay704, k0_pay705, k0_pay698, k0_pay697]
    have n0 : ¬ 768 + a.val < 256 := by omega
    have n1 : ¬ 768 + a.val - 256 < 256 := by omega
    have n2 : ¬ 768 + a.val - 256 - 256 < 256 := by omega
    have v3 : 768 + a.val - 256 - 256 - 256 = a.val := by omega
    simp only [n0, n1, n2, v3, a.2, dite_true, dite_false, hmg, hhf, hhb, ho, hzm]
    rfl

theorem band_at (hmg : ∀ j, mg (ix2 0 j) = R.mhg j) (hhf : ∀ j, hf (ix3 0 r j) = R.hf j) (hhb : ∀ j, hb (ix3 0 r j) = R.hb j)
    (ho : ∀ j, o (ix3 0 r j) = R.o j) (hzm : ∀ j, zm (ix3 0 r j) = R.zm j) (hy : ∀ j, y (ix2 r j) = R.y j)
    (hgw : ∀ i j, gw (ix2 i j) = R.gluw i j) (hgb : ∀ j, gb (ix2 0 j) = R.glub j) (hzs : ∀ j, zs (ix3 0 r j) = R.zs j)
    (hwm : ∀ i j, wm (ix2 i j) = R.wm i j) (hws : ∀ i j, ws (ix2 i j) = R.ws i j) (hx : ∀ j, x (ix3 0 r j) = R.x j)
    (hmd : ∀ j, md (ix3 0 0 j) = R.md j) (hfg : ∀ j, fg (ix2 0 j) = R.fg j) (j : Fin 1024) :
    band mg hf hb o zm y gw gb zs wm ws x md fg (ix3 0 r j) = R.out j := by
  have hm := memBand_at mg hf hb o zm R r hmg hhf hhb ho hzm
  unfold band
  generalize memBand mg hf hb o zm = M at hm ⊢
  pointwise [k0_pay711, k0_pay710, k0_pay709, k0_pay708, k0_pay707]
  simp only [hm, hy, hgw, hgb, hzs, hwm, hws, hx, hmd, hfg]
  rfl
end

end Cert.Kernel2Ideal.MergeK
end
-- ==== Proof.Merge.Bands.lean ====
module

public import proofs.«01_k».proof.Proof.Merge.Scratch
public import proofs.«01_k».proof.Proof.Merge.Row
public import Idealize.ShloMosaic.Lib.Ring

/-! A point's 1024 output rows: four bands of 256 tokens, each from its rows of the blocks and of the scratch. -/

@[expose] public section

set_option maxRecDepth 16384
noncomputable section
namespace Cert.Kernel2Ideal.MergeK
open Idealize.ShloMosaic Idealize.ShloMosaic.TcCoe Idealize.SL.Sem
open Cert.Kernel2Ideal Cert.Kernel2Ideal.Gen
open Cert.Merge

variable (x0 x1 x2 x3 : Vec Ideal S1x1024x1024 .bf16) (x4 : Vec Ideal S64x64x256 .bf16) (x5 : Vec Ideal S1x1024x1024 .bf16)
  (x6 : Vec Ideal S1x1024x1024 .f32) (x7 : Vec Ideal S1x3x1024 .f32) (x8 : Vec Ideal S1x1024 .f32) (x9 : Vec Ideal S1024x1024 .bf16)
  (x10 : Vec Ideal S1x1024 .f32) (x11 : Vec Ideal S2048x1024 .bf16) (x12 : Vec Ideal S1x1024 .f32)

/-- What the blocks of a point hold for one of its tokens. -/
def rowOf (T : Fin 1024) : Row where
  hf j := x0 (ix3 0 T j)
  hb j := x1 (ix3 0 T j)
  o j := x2 (ix3 0 T j)
  zm j := x3 (ix3 0 T j)
  y j := gather x4 (ix2 T j)
  zs j := x5 (ix3 0 T j)
  x j := x6 (ix3 0 T j)
  md j := x7 (ix3 0 2 j)
  mhg j := x8 (ix2 0 j)
  gluw i j := x9 (ix2 i j)
  glub j := x10 (ix2 0 j)
  wm i j := x11 (ix2 ⟨i.val, by omega⟩ j)
  ws i j := x11 (ix2 ⟨1024 + i.val, by omega⟩ j)
  fg j := x12 (ix2 0 j)

variable (S : List (View.Piece (Elt Ideal) S1024x1024 .bf16))

/-- The band of 256 tokens from token `o` on. -/
def bandFrom (o : ℕ) (i : ∀ a, (![0, o, 0] : Fin 3 → ℕ) a + (![1, 256, 1024] : Fin 3 → ℕ) a ≤ S1x1024x1024.size a)
    (i' : ∀ a, (![o, 0] : Fin 2 → ℕ) a + (![256, 1024] : Fin 2 → ℕ) a ≤ S1024x1024.size a) : FVec Ideal S1x256x1024 .f32 :=
  band x8 (View.ld x0 (Rect.unit ![0, o, 0] ![1, 256, 1024] i)) (View.ld x1 (Rect.unit ![0, o, 0] ![1, 256, 1024] i))
    (View.ld x2 (Rect.unit ![0, o, 0] ![1, 256, 1024] i)) (View.ld x3 (Rect.unit ![0, o, 0] ![1, 256, 1024] i))
    ((View.whole cc0_scratch0).readCov S (Rect.unit (s := S1024x1024) ![o, 0] ![256, 1024] i').toLoadRect) x9 x10
    (View.ld x5 (Rect.unit ![0, o, 0] ![1, 256, 1024] i))
    (View.ld x11 (Rect.unit (s := S2048x1024) ![0, 0] ![1024, 1024] (by decide))) (View.ld x11 (Rect.unit (s := S2048x1024) ![1024, 0] ![1024, 1024] (by decide)))
    (View.ld x6 (Rect.unit ![0, o, 0] ![1, 256, 1024] i)) (View.ld x7 (Rect.unit (s := S1x3x1024) ![0, 2, 0] ![1, 1, 1024] (by decide))) x12

theorem ld_band {e : EltTy} (X : Vec Ideal S1x1024x1024 e) (o : ℕ) (i) (r : Fin 256) (T : Fin 1024) (hT : T.val = o + r.val) (j : Fin 1024) :
    View.ld X (Rect.unit (s := S1x1024x1024) ![0, o, 0] ![1, 256, 1024] i) (ix3 0 r j) = X (ix3 0 T j) := by
  refine congrArg X (funext fun d => Fin.ext ?_)
  match d with
  | ⟨0, _⟩ => rfl
  | ⟨1, _⟩ => exact (show o + 1 * r.val = o + r.val by omega).trans hT.symm
  | ⟨2, _⟩ => show 0 + 1 * j.val = j.val; omega

variable {S}

theorem bandFrom_at (hS : View.PiecesOf (gather x4) S) (hc : ∀ z : S1024x1024.Idx, ∃ p ∈ S, z ∈ p.1.set) (o : ℕ) (i i')
    (r : Fin 256) (T : Fin 1024) (hT : T.val = o + r.val) (j : Fin 1024) :
    bandFrom x0 x1 x2 x3 x5 x6 x7 x8 x9 x10 x11 x12 S o i i' (ix3 0 r j) = (rowOf x0 x1 x2 x3 x4 x5 x6 x7 x8 x9 x10 x11 x12 T).out j := by
  refine band_at _ _ _ _ _ _ _ _ _ _ _ _ _ _ (rowOf x0 x1 x2 x3 x4 x5 x6 x7 x8 x9 x10 x11 x12 T) r (fun j => rfl) (fun j => ld_band x0 o i r T hT j)
    (fun j => ld_band x1 o i r T hT j) (fun j => ld_band x2 o i r T hT j) (fun j => ld_band x3 o i r T hT j) (fun j => ?_) (fun i j => rfl) (fun j => rfl)
    (fun j => ld_band x5 o i r T hT j) (fun a j => ?_) (fun a j => ?_) (fun j => ld_band x6 o i r T hT j) (fun j => ?_) (fun j => rfl) j
  · rw [View.readCov_eq_canon']
    have e := View.canon_append_of_piecesOf (gather x4) [] S hS (ix2 T j) (hc _)
    rw [List.append_nil] at e
    refine Eq.trans (congrArg (View.canon S) (funext fun d => Fin.ext ?_)) e
    match d with
    | ⟨0, _⟩ => exact (show o + 1 * r.val = o + r.val by omega).trans hT.symm
    | ⟨1, _⟩ => show 0 + 1 * j.val = j.val; omega
  · refine congrArg x11 (funext fun d => Fin.ext ?_)
    match d with
    | ⟨0, _⟩ => show 0 + 1 * a.val = a.val; omega
    | ⟨1, _⟩ => show 0 + 1 * j.val = j.val; omega
  · refine congrArg x11 (funext fun d => Fin.ext ?_)
    match d with
    | ⟨0, _⟩ => show 1024 + 1 * a.val = 1024 + a.val; omega
    | ⟨1, _⟩ => show 0 + 1 * j.val = j.val; omega
  · refine congrArg x7 (funext fun d => Fin.ext ?_)
    match d with
    | ⟨0, _⟩ => rfl
    | ⟨1, _⟩ => rfl
    | ⟨2, _⟩ => show 0 + 1 * j.val = j.val; omega

/-- The output block, at every entry. -/
def tokens : S1x1024x1024.Idx → Elt Ideal .f32 := fun z => (rowOf x0 x1 x2 x3 x4 x5 x6 x7 x8 x9 x10 x11 x12 (z 1)).out (z 2)

theorem band_piece (hS : View.PiecesOf (gather x4) S) (hc : ∀ z : S1024x1024.Idx, ∃ p ∈ S, z ∈ p.1.set) (o : ℕ) (i i')
    (y : (Rect.unit (s := S1x1024x1024) ![0, o, 0] ![1, 256, 1024] i).shape.Idx) :
    bandFrom x0 x1 x2 x3 x5 x6 x7 x8 x9 x10 x11 x12 S o i i' y
      = tokens x0 x1 x2 x3 x4 x5 x6 x7 x8 x9 x10 x11 x12 ((Rect.unit (s := S1x1024x1024) ![0, o, 0] ![1, 256, 1024] i).emb y) := by
  obtain ⟨r, j, rfl⟩ : ∃ (r : Fin 256) (j : Fin 1024), y = ix3 0 r j :=
    ⟨y 1, y 2, (eq_ix3 y).trans (congrArg (fun a : Fin 1 => ix3 a (y 1) (y 2)) (Subsingleton.elim (α := Fin 1) (y 0) 0))⟩
  have hi : o + 256 ≤ 1024 := i 1
  rw [bandFrom_at x0 x1 x2 x3 x4 x5 x6 x7 x8 x9 x10 x11 x12 hS hc o i i' r ⟨o + r.val, by omega⟩ rfl j]
  have e : (Rect.unit (s := S1x1024x1024) ![0, o, 0] ![1, 256, 1024] i).emb (ix3 0 r j) = ix3 0 ⟨o + r.val, by omega⟩ j := by
    refine funext fun d => Fin.ext ?_
    match d with
    | ⟨0, _⟩ => rfl
    | ⟨1, _⟩ => show o + 1 * r.val = o + r.val; omega
    | ⟨2, _⟩ => show 0 + 1 * j.val = j.val; omega
  rw [e]; rfl

/-- The four bands hold the output block. -/
theorem bands_at {B0 B1 B2 B3 : FVec Ideal S1x256x1024 .f32} {i0 i1 i2 i3} (i0' i1' i2' i3') (hS : View.PiecesOf (gather x4) S)
    (hc : ∀ z : S1024x1024.Idx, ∃ p ∈ S, z ∈ p.1.set)
    (h0 : B0 = bandFrom x0 x1 x2 x3 x5 x6 x7 x8 x9 x10 x11 x12 S 0 i0 i0') (h1 : B1 = bandFrom x0 x1 x2 x3 x5 x6 x7 x8 x9 x10 x11 x12 S 256 i1 i1')
    (h2 : B2 = bandFrom x0 x1 x2 x3 x5 x6 x7 x8 x9 x10 x11 x12 S 512 i2 i2') (h3 : B3 = bandFrom x0 x1 x2 x3 x5 x6 x7 x8 x9 x10 x11 x12 S 768 i3 i3')
    (y : S1x1024x1024.Idx) :
    View.canon [(⟨Rect.unit (s := S1x1024x1024) ![0, 768, 0] ![1, 256, 1024] i3, B3⟩ : View.Piece (Elt Ideal) S1x1024x1024 .f32),
      ⟨Rect.unit (s := S1x1024x1024) ![0, 512, 0] ![1, 256, 1024] i2, B2⟩, ⟨Rect.unit (s := S1x1024x1024) ![0, 256, 0] ![1, 256, 1024] i1, B1⟩,
      ⟨Rect.unit (s := S1x1024x1024) ![0, 0, 0] ![1, 256, 1024] i0, B0⟩] y = tokens x0 x1 x2 x3 x4 x5 x6 x7 x8 x9 x10 x11 x12 y := by
  subst h0 h1 h2 h3
  refine View.canon_append_of_piecesOf (tokens x0 x1 x2 x3 x4 x5 x6 x7 x8 x9 x10 x11 x12) []
    [(⟨Rect.unit (s := S1x1024x1024) ![0, 768, 0] ![1, 256, 1024] i3, _⟩ : View.Piece (Elt Ideal) S1x1024x1024 .f32), ⟨_, _⟩, ⟨_, _⟩, ⟨_, _⟩]
    ⟨band_piece x0 x1 x2 x3 x4 x5 x6 x7 x8 x9 x10 x11 x12 hS hc 768 i3 i3', band_piece x0 x1 x2 x3 x4 x5 x6 x7 x8 x9 x10 x11 x12 hS hc 512 i2 i2',
      band_piece x0 x1 x2 x3 x4 x5 x6 x7 x8 x9 x10 x11 x12 hS hc 256 i1 i1', band_piece x0 x1 x2 x3 x4 x5 x6 x7 x8 x9 x10 x11 x12 hS hc 0 i0 i0', trivial⟩ y ?_
  exact View.cover_of_tiledL (s := S1x1024x1024) _ ![1, 256, 1024] (by sl_kernel_rfl) y

end Cert.Kernel2Ideal.MergeK
end
-- ==== Proof.Merge.Splits.lean ====
module

public import proofs.«01_k».proof.Proof.Merge.Row

/-! The four bands do one computation, cut into steps at other places. -/

@[expose] public section

set_option maxRecDepth 16384
noncomputable section
namespace Cert.Kernel2Ideal.MergeK
open Idealize.ShloMosaic Idealize.ShloMosaic.TcCoe Idealize.SL.Sem
open Cert.Kernel2Ideal Cert.Kernel2Ideal.Gen

variable (mg : Vec Ideal S1x1024 .f32) (hf hb o zm : Vec Ideal S1x256x1024 .bf16) (y : Vec Ideal S256x1024 .bf16)
  (gw : Vec Ideal S1024x1024 .bf16) (gb : Vec Ideal S1x1024 .f32) (zs : Vec Ideal S1x256x1024 .bf16)
  (wm ws : Vec Ideal S1024x1024 .bf16) (x : Vec Ideal S1x256x1024 .f32) (md : Vec Ideal S1x1x1024 .f32) (fg : Vec Ideal S1x1024 .f32)

/-- The band from token 0 on. -/
theorem split0 : k0_pay711 (k0_pay710 (k0_pay706 (k0_pay697 mg) (k0_pay701 (k0_pay697 mg) (k0_pay699 hf hb o) (k0_pay700 hf hb o)) (k0_pay702 (k0_pay697 mg) (k0_pay698 hf hb o))
    (k0_pay703 (k0_pay697 mg) (k0_pay698 hf hb o)) (k0_pay704 (k0_pay698 hf hb o)) (k0_pay705 (k0_pay698 hf hb o)) zm) (k0_pay707 y) (k0_pay708 y gw) (k0_pay709 gb) zs wm ws x md fg)
      = band mg hf hb o zm y gw gb zs wm ws x md fg := rfl

/-- The band from token 256 on. -/
theorem split1 : k0_pay722 (k0_pay720 y gw gb zs)
    (k0_pay721 (k0_pay713 (k0_pay697 mg) hf hb o) (k0_pay716 (k0_pay697 mg) (k0_pay714 hf hb o) (k0_pay715 hf hb o)) (k0_pay717 (k0_pay697 mg) (k0_pay712 hf hb o))
      (k0_pay718 (k0_pay712 hf hb o)) (k0_pay719 (k0_pay697 mg)) zm wm) ws x md fg = band mg hf hb o zm y gw gb zs wm ws x md fg := by
  simp only [band, memBand, k0_pay722, k0_pay721, k0_pay720, k0_pay719, k0_pay718, k0_pay717, k0_pay716, k0_pay715, k0_pay714, k0_pay713, k0_pay712,
    k0_pay711, k0_pay710, k0_pay709, k0_pay708, k0_pay707, k0_pay706, k0_pay705, k0_pay704, k0_pay703, k0_pay702, k0_pay701, k0_pay700, k0_pay699, k0_pay698]

/-- The memory branch of the band from token 512 on. -/
theorem split2_mem : k0_pay730 (k0_pay697 mg) (k0_pay725 (k0_pay723 hf hb) (k0_pay724 o)) (k0_pay726 (k0_pay697 mg) (k0_pay723 hf hb) (k0_pay724 o))
    (k0_pay727 (k0_pay697 mg) (k0_pay723 hf hb) (k0_pay724 o)) (k0_pay728 (k0_pay723 hf hb) (k0_pay724 o)) (k0_pay729 (k0_pay723 hf hb) (k0_pay724 o)) zm
      = memBand mg hf hb o zm := by
  simp only [memBand, k0_pay730, k0_pay729, k0_pay728, k0_pay727, k0_pay726, k0_pay725, k0_pay724, k0_pay723,
    k0_pay706, k0_pay705, k0_pay704, k0_pay703, k0_pay702, k0_pay701, k0_pay700, k0_pay699, k0_pay698]

/-- The band from token 512 on. -/
theorem split2 (M : FVec Ideal S256x1024 .bf16) (hM : M = memBand mg hf hb o zm) :
    k0_pay735 (k0_pay733 M y (k0_pay731 y) (k0_pay732 y) gw gb zs wm ws x md) (k0_pay734 M y (k0_pay731 y) (k0_pay732 y) gw gb zs wm ws x md) fg
      = band mg hf hb o zm y gw gb zs wm ws x md fg := by
  subst hM
  unfold band
  generalize memBand mg hf hb o zm = M
  simp only [k0_pay735, k0_pay734, k0_pay733, k0_pay732, k0_pay731, k0_pay711, k0_pay710, k0_pay709, k0_pay708, k0_pay707]

/-- The memory branch of the band from token 768 on. -/
theorem split3_mem : k0_pay743 (k0_pay697 mg) (k0_pay739 (k0_pay697 mg) (k0_pay737 hf hb o) (k0_pay738 hf hb o)) (k0_pay740 (k0_pay697 mg) (k0_pay736 hf hb o))
    (k0_pay741 (k0_pay697 mg) (k0_pay736 hf hb o)) (k0_pay742 (k0_pay736 hf hb o)) zm = memBand mg hf hb o zm := by
  simp only [memBand, k0_pay743, k0_pay742, k0_pay741, k0_pay740, k0_pay739, k0_pay738, k0_pay737, k0_pay736,
    k0_pay706, k0_pay705, k0_pay704, k0_pay703, k0_pay702, k0_pay701, k0_pay700, k0_pay699, k0_pay698]

/-- The band from token 768 on. -/
theorem split3 (M : FVec Ideal S256x1024 .bf16) (hM : M = memBand mg hf hb o zm) :
    k0_pay1 (k0_pay746 M (k0_pay744 y) (k0_pay745 y gw) gb zs wm ws x md fg) = band mg hf hb o zm y gw gb zs wm ws x md fg := by
  subst hM
  unfold band
  generalize memBand mg hf hb o zm = M
  simp only [k0_pay1, k0_pay746, k0_pay745, k0_pay744, k0_pay711, k0_pay710, k0_pay709, k0_pay708, k0_pay707]

end Cert.Kernel2Ideal.MergeK
end
-- ==== Proof.Merge.Stores.lean ====
module

public import proofs.«01_k».proof.Proof.Merge.Scratch
public import proofs.«01_k».proof.Proof.Gen.Kernel2Ideal.Value

/-! The stores of a point into the scratch. -/

@[expose] public section

set_option maxRecDepth 16384
noncomputable section
namespace Cert.Kernel2Ideal.MergeK
open Idealize.ShloMosaic Idealize.ShloMosaic.TcCoe Idealize.SL.Sem
open Cert.Kernel2Ideal Cert.Kernel2Ideal.Gen

set_option maxHeartbeats 4000000 in
/-- Every store of a point writes its block of the scratch. -/
theorem stores_at (c : Dev nD) (a : Memref sig .tc .vmem S64x64x256 .bf16) (ha : a.IsWhole) (x : Vec Ideal S64x64x256 .bf16) :
    View.PiecesOf (gather x) (kernelRun0_A.sl.HS0_128 c a ha x) := by
  unfold kernelRun0_A.sl.HS0_128
  refine group_of (k := 56) (o := 128) (by decide) ?_ ?_ ?_ ?_ ?_ ?_ ?_ ?_ rfl rfl ⟨rfl, rfl, rfl, rfl, rfl, rfl, rfl, rfl⟩ ?_; rotate_left 8
  refine group_of (k := 48) (o := 128) (by decide) ?_ ?_ ?_ ?_ ?_ ?_ ?_ ?_ rfl rfl ⟨rfl, rfl, rfl, rfl, rfl, rfl, rfl, rfl⟩ ?_; rotate_left 8
  refine group_of (k := 40) (o := 128) (by decide) ?_ ?_ ?_ ?_ ?_ ?_ ?_ ?_ rfl rfl ⟨rfl, rfl, rfl, rfl, rfl, rfl, rfl, rfl⟩ ?_; rotate_left 8
  refine group_of (k := 32) (o := 128) (by decide) ?_ ?_ ?_ ?_ ?_ ?_ ?_ ?_ rfl rfl ⟨rfl, rfl, rfl, rfl, rfl, rfl, rfl, rfl⟩ ?_; rotate_left 8
  refine group_of (k := 24) (o := 128) (by decide) ?_ ?_ ?_ ?_ ?_ ?_ ?_ ?_ rfl rfl ⟨rfl, rfl, rfl, rfl, rfl, rfl, rfl, rfl⟩ ?_; rotate_left 8
  refine group_of (k := 16) (o := 128) (by decide) ?_ ?_ ?_ ?_ ?_ ?_ ?_ ?_ rfl rfl ⟨rfl, rfl, rfl, rfl, rfl, rfl, rfl, rfl⟩ ?_; rotate_left 8
  refine group_of (k := 8) (o := 128) (by decide) ?_ ?_ ?_ ?_ ?_ ?_ ?_ ?_ rfl rfl ⟨rfl, rfl, rfl, rfl, rfl, rfl, rfl, rfl⟩ ?_; rotate_left 8
  refine group_of (k := 0) (o := 128) (by decide) ?_ ?_ ?_ ?_ ?_ ?_ ?_ ?_ rfl rfl ⟨rfl, rfl, rfl, rfl, rfl, rfl, rfl, rfl⟩ ?_; rotate_left 8
  refine group_of (k := 56) (o := 0) (by decide) ?_ ?_ ?_ ?_ ?_ ?_ ?_ ?_ rfl rfl ⟨rfl, rfl, rfl, rfl, rfl, rfl, rfl, rfl⟩ ?_; rotate_left 8
  refine group_of (k := 48) (o := 0) (by decide) ?_ ?_ ?_ ?_ ?_ ?_ ?_ ?_ rfl rfl ⟨rfl, rfl, rfl, rfl, rfl, rfl, rfl, rfl⟩ ?_; rotate_left 8
  refine group_of (k := 40) (o := 0) (by decide) ?_ ?_ ?_ ?_ ?_ ?_ ?_ ?_ rfl rfl ⟨rfl, rfl, rfl, rfl, rfl, rfl, rfl, rfl⟩ ?_; rotate_left 8
  refine group_of (k := 32) (o := 0) (by decide) ?_ ?_ ?_ ?_ ?_ ?_ ?_ ?_ rfl rfl ⟨rfl, rfl, rfl, rfl, rfl, rfl, rfl, rfl⟩ ?_; rotate_left 8
  refine group_of (k := 24) (o := 0) (by decide) ?_ ?_ ?_ ?_ ?_ ?_ ?_ ?_ rfl rfl ⟨rfl, rfl, rfl, rfl, rfl, rfl, rfl, rfl⟩ ?_; rotate_left 8
  refine group_of (k := 16) (o := 0) (by decide) ?_ ?_ ?_ ?_ ?_ ?_ ?_ ?_ rfl rfl ⟨rfl, rfl, rfl, rfl, rfl, rfl, rfl, rfl⟩ ?_; rotate_left 8
  refine group_of (k := 8) (o := 0) (by decide) ?_ ?_ ?_ ?_ ?_ ?_ ?_ ?_ rfl rfl ⟨rfl, rfl, rfl, rfl, rfl, rfl, rfl, rfl⟩ ?_; rotate_left 8
  refine group_of (k := 0) (o := 0) (by decide) ?_ ?_ ?_ ?_ ?_ ?_ ?_ ?_ rfl rfl ⟨rfl, rfl, rfl, rfl, rfl, rfl, rfl, rfl⟩ ?_; rotate_left 8
  exact trivial
  all_goals (frame_out; unfold exchanged row; rfl)

/-- The stores leave no place of the scratch out. -/
theorem stores_cover (c : Dev nD) (a : Memref sig .tc .vmem S64x64x256 .bf16) (ha : a.IsWhole) (x : Vec Ideal S64x64x256 .bf16) (z : S1024x1024.Idx) :
    ∃ p ∈ kernelRun0_A.sl.HS0_128 c a ha x, z ∈ p.1.set :=
  View.cover_of_tiledL (s := S1024x1024) _ ![64, 128] (by sl_kernel_rfl) z

end Cert.Kernel2Ideal.MergeK
end
-- ==== Proof.Merge.Point.lean ====
module

public import proofs.«01_k».proof.Proof.Merge.Bands
public import proofs.«01_k».proof.Proof.Merge.Splits
public import proofs.«01_k».proof.Proof.Merge.Stores
public import proofs.«01_k».proof.Proof.Gen.Kernel2Ideal.Value

/-! What a point writes: the output block of its tokens. -/

@[expose] public section

set_option maxRecDepth 16384
set_option maxHeartbeats 4000000
noncomputable section
namespace Cert.Kernel2Ideal.MergeK
open Idealize.ShloMosaic Idealize.ShloMosaic.TcCoe Idealize.SL.Sem
open Cert.Kernel2Ideal Cert.Kernel2Ideal.Gen
open Cert.Merge

variable (m : (ℓ : Loc nD τ sig) → Buf (Elt Ideal) ℓ)

/-- Every entry of the block a point writes. -/
theorem outs_at (c : Dev nD) (t : Fin cfg0.N) (y : S1x1024x1024.Idx) :
    outsAt0 m c t y = tokens (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) y := by
  unfold Gen.outsAt0; unfold out0_A_13; unfold kernelRun0_A; dsimp only
  rw [View.read_writes_junk_eq_canon]
  refine bands_at (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (by decide) (by decide) (by decide) (by decide)
      (stores_at c (ms0_4 t) (hs0_4 t) (iblk m c 4 t)) (stores_cover c (ms0_4 t) (hs0_4 t) (iblk m c 4 t)) ?h0 ?h1 ?h2 ?h3 y
  case h0 =>
    unfold bandFrom
    generalize e : ((View.whole cc0_scratch0).readCov (Val := Elt Ideal) (kernelRun0_A.sl.HS0_128 c (ms0_4 t) (hs0_4 t) (iblk m c 4 t)) _) = Y
    simp (disch := decide) only [kernelRun0_A.sl.r_227, kernelRun0_A.sl.r_226, kernelRun0_A.sl.r_225, kernelRun0_A.sl.r_224, kernelRun0_A.sl.r_222,
      kernelRun0_A.sl.r_221, kernelRun0_A.sl.r_220, kernelRun0_A.sl.r_215, kernelRun0_A.sl.r_219, kernelRun0_A.sl.r_217, kernelRun0_A.sl.r_216,
      kernelRun0_A.sl.r_218, kernelRun0_A.sl.r_214, kernelRun0_A.sl.r_223, View.readAt_eq_ld, Memref.IsWhole.read_unread, View.ld_unit_lit']
    rw [show kernelRun0_A.sl.v2355 c (ms0_4 t) (hs0_4 t) scM0_0 (iblk m c 4 t) = Y from e]
    exact split0 _ _ _ _ _ _ _ _ _ _ _ _ _ _
  case h1 =>
    unfold bandFrom
    generalize e : ((View.whole cc0_scratch0).readCov (Val := Elt Ideal) (kernelRun0_A.sl.HS0_128 c (ms0_4 t) (hs0_4 t) (iblk m c 4 t)) _) = Y
    simp (disch := decide) only [kernelRun0_A.sl.r_237, kernelRun0_A.sl.r_238, kernelRun0_A.sl.r_236, kernelRun0_A.sl.r_235, kernelRun0_A.sl.r_229,
      kernelRun0_A.sl.r_234, kernelRun0_A.sl.r_232, kernelRun0_A.sl.r_231, kernelRun0_A.sl.r_233, kernelRun0_A.sl.r_214, kernelRun0_A.sl.r_230,
      View.readAt_eq_ld, Memref.IsWhole.read_unread, View.ld_unit_lit']
    rw [show kernelRun0_A.sl.v2509 c (ms0_4 t) (hs0_4 t) scM0_0 (iblk m c 4 t) = Y from e]
    exact split1 _ _ _ _ _ _ _ _ _ _ _ _ _ _
  case h2 =>
    unfold bandFrom
    generalize e : ((View.whole cc0_scratch0).readCov (Val := Elt Ideal) (kernelRun0_A.sl.HS0_128 c (ms0_4 t) (hs0_4 t) (iblk m c 4 t)) _) = Y
    simp (disch := decide) only [kernelRun0_A.sl.r_249, kernelRun0_A.sl.r_250, kernelRun0_A.sl.r_248, kernelRun0_A.sl.r_247, kernelRun0_A.sl.r_245,
      kernelRun0_A.sl.r_244, kernelRun0_A.sl.r_243, kernelRun0_A.sl.r_242, kernelRun0_A.sl.r_240, kernelRun0_A.sl.r_239, kernelRun0_A.sl.r_241,
      kernelRun0_A.sl.r_214, kernelRun0_A.sl.r_246, View.readAt_eq_ld, Memref.IsWhole.read_unread, View.ld_unit_lit']
    rw [show kernelRun0_A.sl.v2663 c (ms0_4 t) (hs0_4 t) scM0_0 (iblk m c 4 t) = Y from e]
    exact split2 _ _ _ _ _ _ _ _ _ _ _ _ _ _ _ (split2_mem _ _ _ _ _)
  case h3 =>
    unfold bandFrom
    generalize e : ((View.whole cc0_scratch0).readCov (Val := Elt Ideal) (kernelRun0_A.sl.HS0_128 c (ms0_4 t) (hs0_4 t) (iblk m c 4 t)) _) = Y
    simp (disch := decide) only [kernelRun0_A.sl.r_261, kernelRun0_A.sl.r_260, kernelRun0_A.sl.r_259, kernelRun0_A.sl.r_257, kernelRun0_A.sl.r_256,
      kernelRun0_A.sl.r_251, kernelRun0_A.sl.r_255, kernelRun0_A.sl.r_253, kernelRun0_A.sl.r_252, kernelRun0_A.sl.r_254, kernelRun0_A.sl.r_214,
      kernelRun0_A.sl.r_258, View.readAt_eq_ld, Memref.IsWhole.read_unread, View.ld_unit_lit']
    rw [show kernelRun0_A.sl.v2817 c (ms0_4 t) (hs0_4 t) scM0_0 (iblk m c 4 t) = Y from e]
    exact split3 _ _ _ _ _ _ _ _ _ _ _ _ _ _ _ (split3_mem _ _ _ _ _)

end Cert.Kernel2Ideal.MergeK
end
-- ==== Proof.Merge.Token.lean ====
module

public import proofs.«01_k».proof.Proof.Merge.Core

/-! One token of the batch, from the whole arrays. -/

@[expose] public section

noncomputable section
namespace Cert.Merge
open Idealize.ShloMosaic

/-- What the arrays hold for token `T` of batch entry `b`. The scan branch's output is stored by groups of sixteen channels,
    with rows of 64 tokens: sixteen such rows side by side, for each of the eight parts of the sequence and each batch entry. -/
def token (hf hb o zm : Fin 8 → Fin 8192 → Fin 1024 → EReal) (y : Fin 64 → Fin 4096 → Fin 256 → EReal) (zs x : Fin 8 → Fin 8192 → Fin 1024 → EReal)
    (md : Fin 8 → Fin 3 → Fin 1024 → EReal) (mhg : Fin 1024 → EReal) (gluw : Fin 1024 → Fin 1024 → EReal) (glub : Fin 1024 → EReal)
    (wout : Fin 2048 → Fin 1024 → EReal) (fg : Fin 1024 → EReal) (b : Fin 8) (T : Fin 8192) : Row where
  hf := hf b T
  hb := hb b T
  o := o b T
  zm := zm b T
  y j := y ⟨j.val / 16, by omega⟩ ⟨(T.val / 1024 * 8 + b.val) * 64 + T.val % 64, by omega⟩ ⟨T.val % 1024 / 64 * 16 + j.val % 16, by omega⟩
  zs := zs b T
  x := x b T
  md := md b 2
  mhg := mhg
  gluw := gluw
  glub := glub
  wm i j := wout ⟨i.val, by omega⟩ j
  ws i j := wout ⟨1024 + i.val, by omega⟩ j
  fg := fg

end Cert.Merge
end
-- ==== Proof.Merge.Blocks.lean ====
module

public import proofs.«01_k».proof.Proof.Merge.Bands
public import proofs.«01_k».proof.Proof.Merge.Token
public import proofs.«01_k».proof.Proof.Gen.Kernel2Ideal.Value

/-! What each window reads at a grid point. -/

@[expose] public section

set_option maxRecDepth 16384
noncomputable section
namespace Cert.Kernel2Ideal.MergeK
open Idealize.ShloMosaic Idealize.ShloMosaic.TcCoe Idealize.SL.Sem
open Idealize.ShloMosaic.Pipeline (Dat)
open Cert.Kernel2Ideal Cert.Kernel2Ideal.Gen
open Cert.Merge

variable (m : (ℓ : Loc nD τ sig) → Buf (Elt Ideal) ℓ)

/-- The batch entry and the part of the sequence a grid point stands for, in each window. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0] ∧ win0_4.index t = ![0, t.val % 8 * 8 + t.val / 8, 0]
    ∧ win0_5.index t = ![t.val / 8, t.val % 8, 0] ∧ win0_6.index t = ![t.val / 8, t.val % 8, 0] ∧ win0_7.index t = ![t.val / 8, 0, 0]
    ∧ win0_8.index t = ![0, 0] ∧ win0_9.index t = ![0, 0] ∧ win0_10.index t = ![0, 0] ∧ win0_11.index t = ![0, 0] ∧ win0_12.index t = ![0, 0]
    ∧ win0_13.index t = ![t.val / 8, t.val % 8, 0] :=
  (by decide +kernel : ∀ t : Fin grid0.N, _)

/-- The batch entry of a grid point. -/
def tb (t : Fin cfg0.N) : Fin 8 := ⟨t.val / 8, by have : t.val < 64 := t.2; omega⟩
/-- A token of a grid point's part of the sequence. -/
def tt (t : Fin cfg0.N) (T : Fin 1024) : Fin 8192 := ⟨t.val % 8 * 1024 + T.val, by omega⟩
/-- A column of the scan branch's output. -/
def ty (t : Fin cfg0.N) (w : Fin 64) : Fin 4096 := ⟨(t.val % 8 * 8 + t.val / 8) * 64 + w.val, by have : t.val < 64 := t.2; omega⟩

variable (c : Dev nD) (t : Fin cfg0.N)

theorem blk0 (T : Fin 1024) (j : Fin 1024) : iblk m c 0 t (ix3 0 T j) = m (c, main_arg0) (ix3 (tb t) (tt t T) j) := by
  rw [← V_main_arg0 m c]; blk_point [iblk, V, idx t, tb, tt]
theorem blk1 (T : Fin 1024) (j : Fin 1024) : iblk m c 1 t (ix3 0 T j) = m (c, main_arg1) (ix3 (tb t) (tt t T) j) := by
  rw [← V_main_arg1 m c]; blk_point [iblk, V, idx t, tb, tt]
theorem blk2 (T : Fin 1024) (j : Fin 1024) : iblk m c 2 t (ix3 0 T j) = m (c, main_arg2) (ix3 (tb t) (tt t T) j) := by
  rw [← V_main_arg2 m c]; blk_point [iblk, V, idx t, tb, tt]
theorem blk3 (T : Fin 1024) (j : Fin 1024) : iblk m c 3 t (ix3 0 T j) = m (c, main_arg3) (ix3 (tb t) (tt t T) j) := by
  rw [← V_main_arg3 m c]; blk_point [iblk, V, idx t, tb, tt]
theorem blk4 (g : Fin 64) (w : Fin 64) (l : Fin 256) : iblk m c 4 t (ix3 g w l) = m (c, main_arg4) (ix3 g (ty t w) l) := by
  rw [← V_main_arg4 m c]; blk_point [iblk, V, idx t, ty]
theorem blk5 (T : Fin 1024) (j : Fin 1024) : iblk m c 5 t (ix3 0 T j) = m (c, main_arg5) (ix3 (tb t) (tt t T) j) := by
  rw [← V_main_arg5 m c]; blk_point [iblk, V, idx t, tb, tt]
theorem blk6 (T : Fin 1024) (j : Fin 1024) : iblk m c 6 t (ix3 0 T j) = m (c, main_arg6) (ix3 (tb t) (tt t T) j) := by
  rw [← V_main_arg6 m c]; blk_point [iblk, V, idx t, tb, tt]
theorem blk7 (k : Fin 3) (j : Fin 1024) : iblk m c 7 t (ix3 0 k j) = m (c, main_arg7) (ix3 (tb t) k j) := by
  rw [← V_main_arg7 m c]; blk_point [iblk, V, idx t, tb]
theorem blk8 (j : Fin 1024) : iblk m c 8 t (ix2 0 j) = m (c, main_arg8) (ix1 j) := by
  have e : V m c main_v0 = shapeCast S1x1024 (m (c, main_arg8)) shapeCasts_S1024_S1x1024 := by entry_read; rfl
  refine Eq.trans (b := V m c main_v0 (ix2 0 j)) ?_ ?_
  · blk_point [iblk, V, idx t]
  · rw [e]; pointwise
theorem blk9 (i j : Fin 1024) : iblk m c 9 t (ix2 i j) = m (c, main_arg9) (ix2 i j) := by
  rw [← V_main_arg9 m c]; blk_point [iblk, V, idx t]
theorem blk10 (j : Fin 1024) : iblk m c 10 t (ix2 0 j) = m (c, main_arg10) (ix1 j) := by
  have e : V m c main_v1 = shapeCast S1x1024 (m (c, main_arg10)) shapeCasts_S1024_S1x1024 := by entry_read; rfl
  refine Eq.trans (b := V m c main_v1 (ix2 0 j)) ?_ ?_
  · blk_point [iblk, V, idx t]
  · rw [e]; pointwise
theorem blk11 (i : Fin 2048) (j : Fin 1024) : iblk m c 11 t (ix2 i j) = m (c, main_arg11) (ix2 i j) := by
  rw [← V_main_arg11 m c]; blk_point [iblk, V, idx t]
theorem blk12 (j : Fin 1024) : iblk m c 12 t (ix2 0 j) = m (c, main_arg12) (ix1 j) := by
  have e : V m c main_v2 = shapeCast S1x1024 (m (c, main_arg12)) shapeCasts_S1024_S1x1024 := by entry_read; rfl
  refine Eq.trans (b := V m c main_v2 (ix2 0 j)) ?_ ?_
  · blk_point [iblk, V, idx t]
  · rw [e]; pointwise

end Cert.Kernel2Ideal.MergeK
end
-- ==== Proof.Merge.Out.lean ====
module

public import proofs.«01_k».proof.Proof.Merge.Point
public import proofs.«01_k».proof.Proof.Merge.Blocks

/-! The output array after the call: every token's row. -/

@[expose] public section

set_option maxRecDepth 16384
noncomputable section
namespace Cert.Kernel2Ideal.MergeK
open Idealize.ShloMosaic Idealize.ShloMosaic.TcCoe Idealize.SL.Sem
open Idealize.ShloMosaic.Pipeline (Dat)
open Cert.Kernel2Ideal Cert.Kernel2Ideal.Gen
open Cert.Merge

variable (m : (ℓ : Loc nD τ sig) → Buf (Elt Ideal) ℓ) (c : Dev nD)

/-- One token of the launched arrays. -/
def tok (b : Fin 8) (T : Fin 8192) : Row :=
  token (fun b T j => m (c, main_arg0) (ix3 b T j)) (fun b T j => m (c, main_arg1) (ix3 b T j)) (fun b T j => m (c, main_arg2) (ix3 b T j))
    (fun b T j => m (c, main_arg3) (ix3 b T j)) (fun g w l => m (c, main_arg4) (ix3 g w l)) (fun b T j => m (c, main_arg5) (ix3 b T j))
    (fun b T j => m (c, main_arg6) (ix3 b T j)) (fun b k j => m (c, main_arg7) (ix3 b k j)) (fun j => m (c, main_arg8) (ix1 j))
    (fun i j => m (c, main_arg9) (ix2 i j)) (fun j => m (c, main_arg10) (ix1 j)) (fun i j => m (c, main_arg11) (ix2 i j))
    (fun j => m (c, main_arg12) (ix1 j)) b T

/-- A point's blocks hold the point's tokens. -/
theorem row_tok (t : Fin cfg0.N) (T : Fin 1024) :
    rowOf (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) T = tok m c (tb t) (tt t T) := by
  have ey : ∀ j : Fin 1024, gather (iblk m c 4 t) (ix2 T j) = (tok m c (tb t) (tt t T)).y j := fun j => by
    refine (blk4 m c t _ _ _).trans (congrArg (m (c, main_arg4)) (funext fun d => Fin.ext ?_))
    have hT : (tt t T).val = t.val % 8 * 1024 + T.val := rfl
    match d with
    | ⟨0, _⟩ => rfl
    | ⟨1, _⟩ =>
      show (t.val % 8 * 8 + t.val / 8) * 64 + T.val % 64 = ((tt t T).val / 1024 * 8 + t.val / 8) * 64 + (tt t T).val % 64
      rw [hT]; omega
    | ⟨2, _⟩ =>
      show T.val / 64 * 16 + j.val % 16 = (tt t T).val % 1024 / 64 * 16 + j.val % 16
      rw [hT]; omega
  simp only [rowOf, ey, blk0, blk1, blk2, blk3, blk5, blk6, blk7, blk8, blk9, blk10, blk11, blk12]
  rfl

/-- The output after the call. -/
theorem final13 : (dats m 0 c).arrAt 13 cfg0.N = fun j : S8x8192x1024.Idx => (tok m c (j 0) (j 1)).out (j 2) := by
  refine (dats m 0 c).arrAt_eq_of_covers 13 _ (by decide +kernel) fun t _ y => ?_
  blk_simp
  rw [after0_13]
  obtain ⟨z, T, j, rfl⟩ : ∃ (z : Fin 1) (T j : Fin 1024), y = ix3 z T j := ⟨y 0, y 1, y 2, eq_ix3 y⟩
  obtain rfl := Subsingleton.elim z 0
  refine (outs_at m c t _).trans ?_
  have he : ((View.whole main_v3).slice (win0_13.rect t)).emb (ix3 0 T j) = ix3 (tb t) (tt t T) j := by blk_ext [idx t, tb, tt]
  have key : ∀ z, z = ix3 (tb t) (tt t T) j → (tok m c (tb t) (tt t T)).out j = (tok m c (z 0) (z 1)).out (z 2) := by rintro _ rfl; rfl
  refine Eq.trans ?_ (key _ he)
  unfold tokens
  exact congrArg (fun R : Row => R.out j) (row_tok m c t T)

end Cert.Kernel2Ideal.MergeK
end
-- ==== Proof.Merge.Ref.lean ====
module

public import proofs.«01_k».proof.Proof.Gen.Reference2Ideal.Run
public import proofs.«01_k».proof.Proof.Merge.Token

/-! The reference, layer by layer, and what it gives at one token. -/

@[expose] public section

set_option maxRecDepth 16384
noncomputable section
namespace Cert.Reference2Ideal.MergeR
open Idealize.ShloMosaic Idealize.ShloMosaic.TcCoe Idealize.SL.Sem Idealize.ShloMosaic.StableHlo
open Cert.Reference2Ideal Cert.Reference2Ideal.Gen Cert.Reference2Ideal.Value
open Cert.Merge

/-- The logistic function of an array. -/
def sigR (X : FVec Ideal S8x8192x1024 .f32) : FVec Ideal S8x8192x1024 .f32 :=
  Host.divf (broadcastInDim S8x8192x1024 ![] bcast_S_S8x8192x1024 (constant S_ .f32 0x3F800000#32))
    (addf (broadcastInDim S8x8192x1024 ![] bcast_S_S8x8192x1024 (constant S_ .f32 0x3F800000#32)) (Host.exp (Host.negf X)))
/-- An array times its logistic. -/
def siluR (X : FVec Ideal S8x8192x1024 .f32) : FVec Ideal S8x8192x1024 .f32 := mulf X (sigR X)
/-- A row of channels, along every token. -/
def alongR (v : FVec Ideal S1024 .f32) : FVec Ideal S8x8192x1024 .f32 :=
  broadcastInDim S8x8192x1024 ![0, 1, 2] bcast_S1x1x1024_S8x8192x1024_0_1_2 (broadcastInDim S1x1x1024 ![2] bcast_S1024_S1x1x1024_2 v)
/-- The gated sum of the two directions, by heads. -/
def gatedR (a0 a1 a2 : FVec Ideal S8x8192x1024 .bf16) : FVec Ideal S8x8192x4x256 .f32 :=
  mulf (shapeCast _ (addf (extf .f32 a0 bitsLt_bf16_f32) (extf .f32 a1 bitsLt_bf16_f32)) shapeCasts_S8x8192x1024_S8x8192x4x256)
    (shapeCast _ (sigR (extf .f32 a2 bitsLt_bf16_f32)) shapeCasts_S8x8192x1024_S8x8192x4x256)
/-- The mean of each head. -/
def meanR (X : FVec Ideal S8x8192x4x256 .f32) : FVec Ideal S8x8192x4x1 .f32 :=
  Host.divf (broadcastInDim S8x8192x4x1 ![0, 1, 2] bcast_S8x8192x4_S8x8192x4x1_0_1_2
    (Host.reduceAdd X (constant S_ .f32 0x00000000#32) reducesTo_S8x8192x4x256_S8x8192x4_d3 h_S_))
    (broadcastInDim S8x8192x4x1 ![] bcast_S_S8x8192x4x1 (constant S_ .f32 0x43800000#32))
/-- The heads with their mean taken off. -/
def devR (X : FVec Ideal S8x8192x4x256 .f32) : FVec Ideal S8x8192x4x256 .f32 :=
  subf X (broadcastInDim S8x8192x4x256 ![0, 1, 2, 3] bcast_S8x8192x4x1_S8x8192x4x256_0_1_2_3 (meanR X))
/-- The heads brought to mean zero and variance one. -/
def unitR (X : FVec Ideal S8x8192x4x256 .f32) : FVec Ideal S8x8192x4x256 .f32 :=
  mulf (devR X) (broadcastInDim S8x8192x4x256 ![0, 1, 2, 3] bcast_S8x8192x4x1_S8x8192x4x256_0_1_2_3
    (Host.rsqrt (addf (meanR (mulf (devR X) (devR X))) (broadcastInDim S8x8192x4x1 ![] bcast_S_S8x8192x4x1 (constant S_ .f32 0x358637BD#32)))))
/-- The memory branch. -/
def memR (a0 a1 a2 a3 : FVec Ideal S8x8192x1024 .bf16) (a8 : FVec Ideal S1024 .f32) : FVec Ideal S8x8192x1024 .f32 :=
  mulf (mulf (shapeCast _ (unitR (gatedR a0 a1 a2)) shapeCasts_S8x8192x4x256_S8x8192x1024) (alongR a8)) (siluR (extf .f32 a3 bitsLt_bf16_f32))
/-- The scan branch's output, token by token. -/
def flatR (a4 : FVec Ideal S64x4096x256 .bf16) : FVec Ideal S8x8192x1024 .bf16 :=
  shapeCast _ (transpose S8x8x16x64x64x16 [2, 1, 4, 3, 0, 5] (shapeCast _ a4 shapeCasts_S64x4096x256_S64x8x8x64x16x16)
    transposes_S64x8x8x64x16x16_S8x8x16x64x64x16_2_1_4_3_0_5) shapeCasts_S8x8x16x64x64x16_S8x8192x1024
/-- The Gaussian unit of an array. -/
def geluR (Y : FVec Ideal S8x8192x1024 .bf16) : FVec Ideal S8x8192x1024 .bf16 :=
  mulf Y (mulf (broadcastInDim S8x8192x1024 ![] bcast_S_S8x8192x1024 (constant S_ .bf16 0x3F00#16))
    (addf (broadcastInDim S8x8192x1024 ![] bcast_S_S8x8192x1024 (constant S_ .bf16 0x3F80#16))
      (Host.tanh (mulf (broadcastInDim S8x8192x1024 ![] bcast_S_S8x8192x1024 (constant S_ .bf16 0x3F4C#16))
        (addf Y (mulf (broadcastInDim S8x8192x1024 ![] bcast_S_S8x8192x1024 (constant S_ .bf16 0x3D37#16)) (mulf (mulf Y Y) Y)))))))
/-- The state-space branch. -/
def ssmR (Y a5 : FVec Ideal S8x8192x1024 .bf16) (a9 : FVec Ideal S1024x1024 .bf16) (a10 : FVec Ideal S1024 .f32) : FVec Ideal S8x8192x1024 .f32 :=
  mulf (mulf (extf .f32 (geluR Y) bitsLt_bf16_f32)
    (sigR (addf (Host.dotGeneral dot_S8x8192x1024_S1024x1024_S8x8192x1024_2_0_01_1_n_n none (extf .f32 (geluR Y) bitsLt_bf16_f32)
      (extf .f32 a9 bitsLt_bf16_f32)) (alongR a10)))) (siluR (extf .f32 a5 bitsLt_bf16_f32))
/-- The residual with both branches added. -/
def sumR (M S a6 : FVec Ideal S8x8192x1024 .f32) (a7 : FVec Ideal S8x3x1024 .f32) (a11 : FVec Ideal S2048x1024 .bf16) : FVec Ideal S8x8192x1024 .f32 :=
  addf a6 (mulf (broadcastInDim S8x8192x1024 ![0, 1, 2] bcast_S8x1x1024_S8x8192x1024_0_1_2 (broadcastInDim S8x1x1024 ![0, 2] bcast_S8x1024_S8x1x1024_0_2
    (shapeCast _ (extractStridedSlice S8x1x1024 ![0, 2, 0] a7 slices_S8x3x1024_S8x1x1024_0_2_0) shapeCasts_S8x1x1024_S8x1024)))
    (Host.dotGeneral dot_S8x8192x2048_S2048x1024_S8x8192x1024_2_0_01_1_n_n none
      (concatenate S8x8192x2048 2 [⟨S8x8192x1024, M⟩, ⟨S8x8192x1024, S⟩] concatenates_S8x8192x1024_S8x8192x1024_S8x8192x2048_d2)
      (extf .f32 a11 bitsLt_bf16_f32)))
/-- The last norm. -/
def normR (X : FVec Ideal S8x8192x1024 .f32) (a12 : FVec Ideal S1024 .f32) : FVec Ideal S8x8192x1024 .f32 :=
  mulf (mulf X (broadcastInDim S8x8192x1024 ![0, 1, 2] bcast_S8x8192x1_S8x8192x1024_0_1_2
    (Host.rsqrt (addf (Host.divf (broadcastInDim S8x8192x1 ![0, 1] bcast_S8x8192_S8x8192x1_0_1
      (Host.reduceAdd (mulf X X) (constant S_ .f32 0x00000000#32) reducesTo_S8x8192x1024_S8x8192_d2 h_S_))
      (broadcastInDim S8x8192x1 ![] bcast_S_S8x8192x1 (constant S_ .f32 0x44800000#32)))
      (broadcastInDim S8x8192x1 ![] bcast_S_S8x8192x1 (constant S_ .f32 0x358637BD#32)))))) (alongR a12)

variable (m : (ℓ : Loc nD τ sig) → Buf (Elt Ideal) ℓ) (c : Dev nD)

/-- The reference's result. -/
theorem res_eq : res_main_v91 m c = normR (sumR
    (memR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg8)))
    (ssmR (flatR (m ((c.tc : Thread nD τ).loc main_arg4))) (m ((c.tc : Thread nD τ).loc main_arg5)) (m ((c.tc : Thread nD τ).loc main_arg9))
      (m ((c.tc : Thread nD τ).loc main_arg10)))
    (m ((c.tc : Thread nD τ).loc main_arg6)) (m ((c.tc : Thread nD τ).loc main_arg7)) (m ((c.tc : Thread nD τ).loc main_arg11)))
    (m ((c.tc : Thread nD τ).loc main_arg12)) := rfl

section
variable (b : Fin 8) (T : Fin 8192) (j : Fin 1024) (h : Fin 4) (a : Fin 256)

theorem sigR_at (X) : sigR X (ix3 b T j) = Ideal.logistic (X (ix3 b T j)) := by pointwise [sigR]; rfl
theorem siluR_at (X) : siluR X (ix3 b T j) = silu (X (ix3 b T j)) := by pointwise [siluR]; rw [sigR_at]; rfl
theorem alongR_at (v) : alongR v (ix3 b T j) = v (ix1 j) := by pointwise [alongR]
theorem gatedR_at (a0 a1 a2) : gatedR a0 a1 a2 (ix4 b T h a)
    = (a0 (ix3 b T (chan h a)) + a1 (ix3 b T (chan h a))) * Ideal.logistic (a2 (ix3 b T (chan h a))) := by
  have e : chan h a = ⟨h.val * 256 + a.val, by omega⟩ := Fin.ext (by simp only [chan]; omega)
  rw [e]; pointwise [gatedR]; rw [sigR_at]; rfl
theorem meanR_at (X) : meanR X (ix4 b T h 0) = mean (fun a => X (ix4 b T h a)) := by pointwise [meanR]; rfl
theorem devR_at (X) : devR X (ix4 b T h a) = dev (fun a => X (ix4 b T h a)) a := by pointwise [devR]; rw [meanR_at]; rfl
theorem unitR_at (X) : unitR X (ix4 b T h a) = unit (fun a => X (ix4 b T h a)) a := by
  have e : (fun a => mulf (devR X) (devR X) (ix4 b T h a)) = fun a => dev (fun a => X (ix4 b T h a)) a * dev (fun a => X (ix4 b T h a)) a :=
    funext fun a => (show devR X (ix4 b T h a) * devR X (ix4 b T h a) = _ by rw [devR_at])
  pointwise [unitR]; rw [devR_at, meanR_at, e]; rfl
theorem flatR_at (a4) : flatR a4 (ix3 b T j) = a4 (ix3 ⟨j.val / 16, by omega⟩ ⟨(T.val / 1024 * 8 + b.val) * 64 + T.val % 64, by omega⟩
    ⟨T.val % 1024 / 64 * 16 + j.val % 16, by omega⟩) := by
  have e1 : (T.val / 1024 * 8 + b.val) * 64 + T.val % 64 = T.val / 1024 * 512 + b.val * 64 + T.val % 64 := by omega
  have e2 : T.val % 1024 / 64 * 16 + j.val % 16 = T.val / 64 % 16 * 16 + j.val % 16 := by omega
  simp only [e1, e2]
  pointwise [flatR]
theorem geluR_at (Y) : geluR Y (ix3 b T j) = gelu (Y (ix3 b T j)) := by
  pointwise [geluR]; rw [← mul_assoc, mul_comm (Y (ix3 b T j)) (Ideal.ofBits _ _)]; rfl
theorem normR_at (X a12) : normR X a12 (ix3 b T j) = X (ix3 b T j)
    * Ideal.rsqrt (Ideal.div (∑ i, X (ix3 b T i) * X (ix3 b T i)) (Ideal.ofBits .f32 0x44800000#32) + eps) * a12 (ix1 j) := by
  pointwise [normR]; rw [alongR_at]; rfl
theorem glu_at (Y a9 a10) : addf (Host.dotGeneral dot_S8x8192x1024_S1024x1024_S8x8192x1024_2_0_01_1_n_n none (extf .f32 (geluR Y) bitsLt_bf16_f32)
      (extf .f32 a9 bitsLt_bf16_f32)) (alongR a10) (ix3 b T j) = (∑ i, gelu (Y (ix3 b T i)) * a9 (ix2 i j)) + a10 (ix1 j) := by
  pointwise; simp only [geluR_at, alongR_at]
theorem ssmR_at (Y a5 a9 a10) : ssmR Y a5 a9 a10 (ix3 b T j) = gelu (Y (ix3 b T j))
    * Ideal.logistic ((∑ i, gelu (Y (ix3 b T i)) * a9 (ix2 i j)) + a10 (ix1 j)) * silu (a5 (ix3 b T j)) := by
  rw [← geluR_at, ← glu_at, ← sigR_at, show a5 (ix3 b T j) = extf .f32 a5 bitsLt_bf16_f32 (ix3 b T j) from rfl, ← siluR_at]; rfl
theorem sumR_at (M S a6 a7 a11) : sumR M S a6 a7 a11 (ix3 b T j) = a6 (ix3 b T j) + a7 (ix3 b 2 j)
    * ((∑ i : Fin 1024, M (ix3 b T i) * a11 (ix2 ⟨i.val, by omega⟩ j)) + ∑ i : Fin 1024, S (ix3 b T i) * a11 (ix2 ⟨1024 + i.val, by omega⟩ j)) := by
  pointwise [sumR]
theorem memR_at (a0 a1 a2 a3 a8) : memR a0 a1 a2 a3 a8 (ix3 b T j)
    = unit (fun a => gatedR a0 a1 a2 (ix4 b T (head j) a)) (place j) * a8 (ix1 j) * silu (a3 (ix3 b T j)) := by
  pointwise [memR]; simp only [siluR_at, alongR_at]
  exact congrArg (fun u => u * a8 (ix1 j) * silu (a3 (ix3 b T j))) (unitR_at b T (head j) (place j) _)
end

/-- One token of the launched arrays. -/
def tok (b : Fin 8) (T : Fin 8192) : Row :=
  token (fun b T j => m (c, main_arg0) (ix3 b T j)) (fun b T j => m (c, main_arg1) (ix3 b T j)) (fun b T j => m (c, main_arg2) (ix3 b T j))
    (fun b T j => m (c, main_arg3) (ix3 b T j)) (fun g w l => m (c, main_arg4) (ix3 g w l)) (fun b T j => m (c, main_arg5) (ix3 b T j))
    (fun b T j => m (c, main_arg6) (ix3 b T j)) (fun b k j => m (c, main_arg7) (ix3 b k j)) (fun j => m (c, main_arg8) (ix1 j))
    (fun i j => m (c, main_arg9) (ix2 i j)) (fun j => m (c, main_arg10) (ix1 j)) (fun i j => m (c, main_arg11) (ix2 i j))
    (fun j => m (c, main_arg12) (ix1 j)) b T

/-- The reference's result at one token. -/
theorem res_at (b : Fin 8) (T : Fin 8192) (j : Fin 1024) : res_main_v91 m c (ix3 b T j) = (tok m c b T).out j := by
  have hs : ∀ j, sumR _ _ _ _ _ (ix3 b T j) = (tok m c b T).sum j := fun j => by
    refine (sumR_at b T j (memR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg8)))
      (ssmR (flatR (m ((c.tc : Thread nD τ).loc main_arg4))) (m ((c.tc : Thread nD τ).loc main_arg5)) (m ((c.tc : Thread nD τ).loc main_arg9))
      (m ((c.tc : Thread nD τ).loc main_arg10)))
      (m ((c.tc : Thread nD τ).loc main_arg6)) (m ((c.tc : Thread nD τ).loc main_arg7)) (m ((c.tc : Thread nD τ).loc main_arg11))).trans ?_
    simp only [memR_at, ssmR_at, gatedR_at, flatR_at]
    rfl
  rw [res_eq, normR_at]
  simp only [hs]
  rfl

end Cert.Reference2Ideal.MergeR
end
-- ==== Proof.Merge.Claims.lean ====
module

public import proofs.«01_k».proof.Defs
public import proofs.«01_k».proof.Proof.Gen.Kernel2.Frame
public import proofs.«01_k».proof.Proof.Merge.Out
public import proofs.«01_k».proof.Proof.Merge.Ref

/-! The claims about the merge: every program runs and leaves its arguments, and the kernel's result array is the reference's. -/

@[expose] public section

noncomputable section
namespace Cert.MergeClaims
open Idealize.ShloMosaic Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- Launched with the same arguments, the two programs hold the same tokens. -/
theorem result (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD) (h : ∀ b T, Cert.Reference2Ideal.MergeR.tok m' c b T = Cert.Kernel2Ideal.MergeK.tok m c b T) :
    (Cert.Kernel2Ideal.Gen.dats m 0 c).arrAt 13 Cert.Kernel2Ideal.cfg0.N = Cert.Reference2Ideal.Value.res_main_v91 m' c := by
  rw [Cert.Kernel2Ideal.MergeK.final13]
  funext j
  obtain ⟨b, T, i, rfl⟩ : ∃ (b : Fin 8) (T : Fin 8192) (i : Fin 1024), j = ix3 b T i := ⟨j 0, j 1, j 2, eq_ix3 j⟩
  refine Eq.trans ?_ (Cert.Reference2Ideal.MergeR.res_at m' c b T i).symm
  rw [h]; rfl

theorem algebraic : Cert.algebraic_Kernel2Ideal_Reference2Ideal := by
  intro m g m' g' _ hagree
  refine ⟨fun c => Cert.Reference2Ideal.Value.res_main_v91 m' c, ?_, Cert.Reference2Ideal.Value.run m' g'⟩
  refine (θ_run Cert.Kernel2Ideal.defs _ _).mono (fun r h c => ?_) (Cert.Kernel2Ideal.Value.run_blocks m g)
  obtain ⟨k, kept⟩ := h c
  obtain ⟨a0, a1, a2, a3, a4, a5, a6, a7, a8, a9, a10, a11, a12⟩ := hagree c
  refine ⟨k.trans (result m m' c fun b T => ?_), kept⟩
  unfold Cert.Reference2Ideal.MergeR.tok Cert.Kernel2Ideal.MergeK.tok
  congr 1 <;> funext
  exacts [congrFun a0 _, congrFun a1 _, congrFun a2 _, congrFun a3 _, congrFun a4 _, congrFun a5 _, congrFun a6 _, congrFun a7 _, congrFun a8 _,
    congrFun a9 _, congrFun a10 _, congrFun a11 _, congrFun a12 _]

end Cert.MergeClaims
end
-- ==== Proof.Proj.Core.lean ====
module

public import Idealize.ShloMosaic.Lib.Pipeline.ValueKit
public import Idealize.ShloMosaic.Lib.Pointwise

/-! The projections of the tokens, as plain formulas of the input, of the modulation and of the weights. -/

@[expose] public section

noncomputable section
namespace Cert.Proj
open Idealize.ShloMosaic

/-- The small number added under the root. -/
def eps : EReal := Ideal.ofBits .f32 0x358637BD#32

/-- A token's row, brought to mean square one, scaled and shifted. -/
def hid (x g shift scale : Fin 1024 → EReal) (k : Fin 1024) : EReal :=
  x k * Ideal.rsqrt (Ideal.div (∑ i, x i * x i) (Ideal.ofBits .f32 0x44800000#32) + eps) * g k * (1 + scale k) + shift k

/-- `x` times its logistic. -/
def silu (x : EReal) : EReal := x * Ideal.logistic x

/-- A sequence with a zero on each side. -/
def padded (f : Fin 8192 → EReal) (n : ℕ) : EReal := if h : 0 < n ∧ n ≤ 8192 then f ⟨n - 1, by omega⟩ else 0

theorem padded_mid (f : Fin 8192 → EReal) (T : Fin 8192) : padded f (T.val + 1) = f T := dif_pos ⟨by omega, by omega⟩

/-- The three taps along a sequence. -/
def taps (c : Fin 3 → EReal) (f : Fin 8192 → EReal) (T : Fin 8192) : EReal :=
  c 0 * padded f T.val + c 1 * padded f (T.val + 1) + c 2 * padded f (T.val + 2)

/-- What the projections start from. -/
structure Args where
  /-- input -/
  x : Fin 8 → Fin 8192 → Fin 1024 → EReal
  /-- shift, scale and gate of each batch entry -/
  md : Fin 8 → Fin 3 → Fin 1024 → EReal
  /-- scale of the norm -/
  g : Fin 1024 → EReal
  /-- weights of queries and keys -/
  wqk : Fin 1024 → Fin 2048 → EReal
  /-- the other weights -/
  wm : Fin 1024 → Fin 5248 → EReal
  /-- taps of the short convolution -/
  cv : Fin 3 → Fin 2048 → EReal

namespace Args
variable (A : Args)

/-- The modulated row of a token. -/
def h (b : Fin 8) (T : Fin 8192) : Fin 1024 → EReal := hid (A.x b T) A.g (A.md b 0) (A.md b 1)
/-- Queries and keys before the convolution. -/
def zqk (b : Fin 8) (T : Fin 8192) (j : Fin 2048) : EReal := ∑ k, A.h b T k * A.wqk k j
/-- Queries and keys. -/
def qk (b : Fin 8) (T : Fin 8192) (j : Fin 2048) : EReal := silu (taps (fun i => A.cv i j) (fun T => A.zqk b T j) T)
/-- The other projections. -/
def z (b : Fin 8) (T : Fin 8192) (j : Fin 5248) : EReal := ∑ k, A.h b T k * A.wm k j

end Args
end Cert.Proj
end
-- ==== Proof.Proj.Lhs.lean ====
module

public import proofs.«01_k».proof.Proof.Gen.Kernel3Ideal.Skeleton
public import proofs.«01_k».proof.Proof.Proj.Core
public import Idealize.ShloMosaic.Lib.Pipeline.ReadBack

/-! The modulated rows of a tile and of its two neighbours, as they stand in the scratch. -/

@[expose] public section

set_option maxRecDepth 16384
noncomputable section
namespace Cert.Kernel3Ideal.ProjK
open Idealize.ShloMosaic Idealize.ShloMosaic.TcCoe Idealize.SL.Sem
open Cert.Kernel3Ideal Cert.Kernel3Ideal.Gen
open Cert.Proj

variable (x0 : Vec Ideal S1x512x1024 .f32) (x1 x2 : Vec Ideal S1x16x1024 .f32) (x3 : Vec Ideal S1x3x1024 .f32) (x4 : Vec Ideal S1x1024 .f32)

/-- The shift. -/
def shiftK (a : Vec Ideal S1x1x1024 .f32) : FVec Ideal S1x1024 .f32 := shapeCast S1x1024 a shapeCasts_S1x1x1024_S1x1024
/-- The scale of the norm times one plus the scale. -/
def gainK (g : Vec Ideal S1x1024 .f32) (a : Vec Ideal S1x1x1024 .f32) : FVec Ideal S1x1024 .f32 :=
  mulf (shapeCast S1x1024 g shapeCasts_S1x1024_S1x1024)
    (addf (broadcast S1x1024 (Scalar.ofBits .f32 0x3F800000#32)) (shapeCast S1x1024 a shapeCasts_S1x1x1024_S1x1024))

/-- The modulated rows of the tile. -/
def rows512 (x : FVec Ideal S512x1024 .f32) (sh gn : FVec Ideal S1x1024 .f32) : FVec Ideal S512x1024 .f32 :=
  addf (mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024)) (broadcastTo S512x1024 gn broadcasts_S1x1024_S512x1024))
    (broadcastTo S512x1024 sh broadcasts_S1x1024_S512x1024)
/-- The modulated rows beside the tile. -/
def rows16 (x : FVec Ideal S16x1024 .f32) (sh gn : FVec Ideal S1x1024 .f32) : FVec Ideal S16x1024 .f32 :=
  addf (mulf (mulf x (broadcastTo S16x1024 (rsqrt (addf (divf (shapeCast S16x1 (multiReduction .add [1] S16 (mulf x x) 0x00000000#32
    reduces_S16x1024_S16 (.inl rfl) rfl) shapeCasts_S16_S16x1) (broadcast S16x1 (Scalar.ofBits .f32 0x44800000#32)))
    (broadcast S16x1 (Scalar.ofBits .f32 0x358637BD#32)))) broadcasts_S16x1_S16x1024)) (broadcastTo S16x1024 gn broadcasts_S1x1024_S16x1024))
    (broadcastTo S16x1024 sh broadcasts_S1x1024_S16x1024)

theorem rows512_at (x sh g a) (r : Fin 512) (j : Fin 1024) : rows512 x (shiftK sh) (gainK g a) (ix2 r j)
    = hid (fun j => x (ix2 r j)) (fun j => g (ix2 0 j)) (fun j => sh (ix3 0 0 j)) (fun j => a (ix3 0 0 j)) j := by
  pointwise [rows512, shiftK, gainK]
  unfold hid eps
  rw [← mul_assoc]
theorem rows16_at (x sh g a) (r : Fin 16) (j : Fin 1024) : rows16 x (shiftK sh) (gainK g a) (ix2 r j)
    = hid (fun j => x (ix2 r j)) (fun j => g (ix2 0 j)) (fun j => sh (ix3 0 0 j)) (fun j => a (ix3 0 0 j)) j := by
  pointwise [rows16, shiftK, gainK]
  unfold hid eps
  rw [← mul_assoc]

/-- Row `r` of the scratch comes from the tile, from the rows before it, or from the rows after it. -/
def rowIn (r : ℕ) (j : Fin 1024) : EReal :=
  if r < 512 then x0 (ix3 0 (Fin.ofNat 512 r) j) else if r < 528 then x1 (ix3 0 (Fin.ofNat 16 (r - 512)) j) else x2 (ix3 0 (Fin.ofNat 16 (r - 528)) j)

/-- The scratch. -/
def lhs (z : S544x1024.Idx) : Elt Ideal .bf16 :=
  hid (rowIn x0 x1 x2 (z 0).val) (fun j => x4 (ix2 0 j)) (fun j => x3 (ix3 0 0 j)) (fun j => x3 (ix3 0 1 j)) (z 1)

end Cert.Kernel3Ideal.ProjK
end
-- ==== Proof.Proj.Scratch.lean ====
module

public import proofs.«01_k».proof.Proof.Proj.Lhs
public import proofs.«01_k».proof.Proof.Gen.Kernel3Ideal.Value

/-! What a point reads back from the scratch: the modulated rows of its tile and of the two neighbours. -/

@[expose] public section

set_option maxRecDepth 16384
noncomputable section
namespace Cert.Kernel3Ideal.ProjK
open Idealize.ShloMosaic Idealize.ShloMosaic.TcCoe Idealize.SL.Sem
open Cert.Kernel3Ideal Cert.Kernel3Ideal.Gen
open Cert.Proj

variable (x0 : Vec Ideal S1x512x1024 .f32) (x1 x2 : Vec Ideal S1x16x1024 .f32) (x3 : Vec Ideal S1x3x1024 .f32) (x4 : Vec Ideal S1x1024 .f32)

/-- The shift of the point's batch entry. -/
def shiftOf : FVec Ideal S1x1024 .f32 := shiftK (View.ld x3 (Rect.unit (s := S1x3x1024) ![0, 0, 0] ![1, 1, 1024] inb_S1x3x1024_S1x1x1024_0_0_0))
/-- The gain of the point's batch entry. -/
def gainOf : FVec Ideal S1x1024 .f32 := gainK x4 (View.ld x3 (Rect.unit (s := S1x3x1024) ![0, 1, 0] ![1, 1, 1024] inb_S1x3x1024_S1x1x1024_0_1_0))

/-- The three stores into the scratch. -/
def scr : List (View.Piece (Elt Ideal) S544x1024 .bf16) :=
  [⟨Rect.unit (s := S544x1024) ![528, 0] ![16, 1024] inb_S544x1024_S16x1024_528_0,
      (shapeCast S16x1024 (truncf .bf16 (rows16 (shapeCast S16x1024 x2 shapeCasts_S1x16x1024_S16x1024) (shiftOf x3) (gainOf x3 x4)) bitsLt_bf16_f32 : FVec Ideal S16x1024 .bf16) shapeCasts_S16x1024_S16x1024 : FVec Ideal S16x1024 .bf16)⟩,
    ⟨Rect.unit (s := S544x1024) ![512, 0] ![16, 1024] inb_S544x1024_S16x1024_512_0,
      (shapeCast S16x1024 (truncf .bf16 (rows16 (shapeCast S16x1024 x1 shapeCasts_S1x16x1024_S16x1024) (shiftOf x3) (gainOf x3 x4)) bitsLt_bf16_f32 : FVec Ideal S16x1024 .bf16) shapeCasts_S16x1024_S16x1024 : FVec Ideal S16x1024 .bf16)⟩,
    ⟨Rect.unit (s := S544x1024) ![0, 0] ![512, 1024] inb_S544x1024_S512x1024_0_0,
      (shapeCast S512x1024 (truncf .bf16 (rows512 (shapeCast S512x1024 x0 shapeCasts_S1x512x1024_S512x1024) (shiftOf x3) (gainOf x3 x4)) bitsLt_bf16_f32 : FVec Ideal S512x1024 .bf16) shapeCasts_S512x1024_S512x1024 : FVec Ideal S512x1024 .bf16)⟩]

theorem shift_ld (j : Fin 1024) : View.ld x3 (Rect.unit (s := S1x3x1024) ![0, 0, 0] ![1, 1, 1024] inb_S1x3x1024_S1x1x1024_0_0_0) (ix3 0 0 j) = x3 (ix3 0 0 j) := by
  refine congrArg x3 (funext fun d => Fin.ext ?_)
  match d with
  | ⟨0, _⟩ => rfl
  | ⟨1, _⟩ => rfl
  | ⟨2, _⟩ => show 0 + 1 * j.val = j.val; omega
theorem scale_ld (j : Fin 1024) : View.ld x3 (Rect.unit (s := S1x3x1024) ![0, 1, 0] ![1, 1, 1024] inb_S1x3x1024_S1x1x1024_0_1_0) (ix3 0 0 j) = x3 (ix3 0 1 j) := by
  refine congrArg x3 (funext fun d => Fin.ext ?_)
  match d with
  | ⟨0, _⟩ => rfl
  | ⟨1, _⟩ => rfl
  | ⟨2, _⟩ => show 0 + 1 * j.val = j.val; omega

theorem lhs_of (z : S544x1024.Idx) (f : Fin 1024 → EReal) (r : ℕ) (j : Fin 1024) (h0 : (z 0).val = r) (h1 : z 1 = j) (hf : ∀ j, f j = rowIn x0 x1 x2 r j) :
    hid f (fun j => x4 (ix2 0 j)) (fun j => View.ld x3 (Rect.unit (s := S1x3x1024) ![0, 0, 0] ![1, 1, 1024] inb_S1x3x1024_S1x1x1024_0_0_0) (ix3 0 0 j))
      (fun j => View.ld x3 (Rect.unit (s := S1x3x1024) ![0, 1, 0] ![1, 1, 1024] inb_S1x3x1024_S1x1x1024_0_1_0) (ix3 0 0 j)) j = lhs x0 x1 x2 x3 x4 z := by
  rw [funext hf, funext (shift_ld x3), funext (scale_ld x3), lhs, h0, h1]

theorem emb_scr {p n : ℕ} (i) (r : Fin n) (j : Fin 1024) :
    (((Rect.unit (s := S544x1024) ![p, 0] ![n, 1024] i).emb (ix2 r j)) 0).val = p + r.val ∧ ((Rect.unit (s := S544x1024) ![p, 0] ![n, 1024] i).emb (ix2 r j)) 1 = j :=
  ⟨by show p + 1 * r.val = _; omega, Fin.ext (by show 0 + 1 * j.val = _; omega)⟩

theorem same16 (x : FVec Ideal S16x1024 .f32) (r : Fin 16) (j : Fin 1024) :
    (shapeCast S16x1024 (truncf .bf16 x bitsLt_bf16_f32 : FVec Ideal S16x1024 .bf16) shapeCasts_S16x1024_S16x1024 : FVec Ideal S16x1024 .bf16) (ix2 r j) = (x (ix2 r j) : EReal) := by pointwise
theorem same512 (x : FVec Ideal S512x1024 .f32) (r : Fin 512) (j : Fin 1024) :
    (shapeCast S512x1024 (truncf .bf16 x bitsLt_bf16_f32 : FVec Ideal S512x1024 .bf16) shapeCasts_S512x1024_S512x1024 : FVec Ideal S512x1024 .bf16) (ix2 r j) = (x (ix2 r j) : EReal) := by pointwise

theorem scr_of : View.PiecesOf (lhs x0 x1 x2 x3 x4) (scr x0 x1 x2 x3 x4) := by
  refine ⟨fun y => ?_, fun y => ?_, fun y => ?_, trivial⟩
  · obtain ⟨r, j, rfl⟩ : ∃ (r : Fin 16) (j : Fin 1024), y = ix2 r j := ⟨y 0, y 1, eq_ix2 y⟩
    refine (same16 _ r j).trans ((rows16_at _ _ _ _ r j).trans ?_)
    refine lhs_of x0 x1 x2 x3 x4 _ _ (528 + r.val) j (emb_scr (p := 528) inb_S544x1024_S16x1024_528_0 r j).1 (emb_scr (p := 528) inb_S544x1024_S16x1024_528_0 r j).2 fun j => ?_
    rw [rowIn, if_neg (by omega), if_neg (by omega)]
    pointwise
    congr 1; refine congrArg (fun a => ix3 0 a j) ?_; exact Fin.ext (Nat.mod_eq_of_lt r.2).symm
  · obtain ⟨r, j, rfl⟩ : ∃ (r : Fin 16) (j : Fin 1024), y = ix2 r j := ⟨y 0, y 1, eq_ix2 y⟩
    refine (same16 _ r j).trans ((rows16_at _ _ _ _ r j).trans ?_)
    refine lhs_of x0 x1 x2 x3 x4 _ _ (512 + r.val) j (emb_scr (p := 512) inb_S544x1024_S16x1024_512_0 r j).1 (emb_scr (p := 512) inb_S544x1024_S16x1024_512_0 r j).2 fun j => ?_
    rw [rowIn, if_neg (by omega), if_pos (by omega)]
    pointwise
    congr 1; refine congrArg (fun a => ix3 0 a j) ?_; exact Fin.ext (Nat.mod_eq_of_lt r.2).symm
  · obtain ⟨r, j, rfl⟩ : ∃ (r : Fin 512) (j : Fin 1024), y = ix2 r j := ⟨y 0, y 1, eq_ix2 y⟩
    refine (same512 _ r j).trans ((rows512_at _ _ _ _ r j).trans ?_)
    refine lhs_of x0 x1 x2 x3 x4 _ _ (0 + r.val) j (emb_scr (p := 0) inb_S544x1024_S512x1024_0_0 r j).1 (emb_scr (p := 0) inb_S544x1024_S512x1024_0_0 r j).2 fun j => ?_
    rw [rowIn, if_pos (by omega)]
    pointwise
    congr 1; refine congrArg (fun a => ix3 0 a j) ?_; exact Fin.ext (Nat.mod_eq_of_lt r.2).symm

theorem scr_cover (z : S544x1024.Idx) : ∃ p ∈ scr x0 x1 x2 x3 x4, z ∈ p.1.set :=
  View.cover_of_tiledBy (s := S544x1024) _ ![16, 1024] (by sl_kernel_rfl) z

/-- The scratch read back, at a point. -/
theorem read_at {n : ℕ} (i) (r : Fin n) (hn : n ≤ 544) (k : Fin 1024) :
    (View.whole cc0_scratch0).readCov (scr x0 x1 x2 x3 x4) (Rect.unit (s := S544x1024) ![0, 0] ![n, 1024] i).toLoadRect (ix2 r k)
      = lhs x0 x1 x2 x3 x4 (ix2 ⟨r.val, by omega⟩ k) := by
  rw [View.readCov_eq_canon']
  have e := View.canon_append_of_piecesOf (lhs x0 x1 x2 x3 x4) [] _ (scr_of x0 x1 x2 x3 x4) (ix2 ⟨r.val, by omega⟩ k) (scr_cover x0 x1 x2 x3 x4 _)
  rw [List.append_nil] at e
  refine Eq.trans (congrArg (View.canon _) (funext fun d => Fin.ext ?_)) e
  match d with
  | ⟨0, _⟩ => show 0 + 1 * r.val = r.val; omega
  | ⟨1, _⟩ => show 0 + 1 * k.val = k.val; omega

theorem piece0 (a b) : k0_pay4 a x4 b x0 = (shapeCast S512x1024 (truncf .bf16 (rows512 (shapeCast S512x1024 x0 shapeCasts_S1x512x1024_S512x1024) (shiftK a) (gainK x4 b)) bitsLt_bf16_f32 : FVec Ideal S512x1024 .bf16) shapeCasts_S512x1024_S512x1024 : FVec Ideal S512x1024 .bf16) := rfl
theorem piece1 (a b) : k0_pay8 (k0_pay2 a) (k0_pay3 x4 b) (k0_pay5 x1) (k0_pay6 x1) k0_pay7
    = (shapeCast S16x1024 (truncf .bf16 (rows16 (shapeCast S16x1024 x1 shapeCasts_S1x16x1024_S16x1024) (shiftK a) (gainK x4 b)) bitsLt_bf16_f32 : FVec Ideal S16x1024 .bf16) shapeCasts_S16x1024_S16x1024 : FVec Ideal S16x1024 .bf16) := rfl
theorem piece2 (a b) : k0_pay9 (k0_pay2 a) (k0_pay3 x4 b) x2
    = (shapeCast S16x1024 (truncf .bf16 (rows16 (shapeCast S16x1024 x2 shapeCasts_S1x16x1024_S16x1024) (shiftK a) (gainK x4 b)) bitsLt_bf16_f32 : FVec Ideal S16x1024 .bf16) shapeCasts_S16x1024_S16x1024 : FVec Ideal S16x1024 .bf16) := rfl

theorem HS_eq (c : Dev nD) (a0 h0 a1 h1 a2 h2 a3 h3 a4 h4) : kernelRun0_A.sl.HS0_3 c a0 h0 a1 h1 a2 h2 a3 h3 a4 h4 x0 x1 x2 x3 x4 = scr x0 x1 x2 x3 x4 := by
  simp (disch := first | assumption | decide) only [kernelRun0_A.sl.HS0_3, kernelRun0_A.sl.r, kernelRun0_A.sl.r_1, kernelRun0_A.sl.r_2, kernelRun0_A.sl.r_3, View.readAt_eq_ld,
    Memref.IsWhole.read_unread, View.ld_unit_lit', piece0, piece1, piece2]
  rfl

end Cert.Kernel3Ideal.ProjK
end
-- ==== Proof.Proj.Blocks.lean ====
module

public import proofs.«01_k».proof.Proof.Gen.Kernel3Ideal.Value
public import proofs.«01_k».proof.Proof.Proj.Core

/-! What each window reads at a grid point. -/

@[expose] public section

set_option maxRecDepth 16384
noncomputable section
namespace Cert.Kernel3Ideal.ProjK
open Idealize.ShloMosaic Idealize.ShloMosaic.TcCoe Idealize.SL.Sem
open Idealize.ShloMosaic.Pipeline (Dat)
open Cert.Kernel3Ideal Cert.Kernel3Ideal.Gen
open Cert.Proj

variable (m : (ℓ : Loc nD τ sig) → Buf (Elt Ideal) ℓ)

/-- The batch entry and the part of the sequence a grid point stands for, in each window. -/
theorem idx : ∀ t : Fin cfg0.N, win0_0.index t = ![t.val / 16, t.val % 16, 0] ∧ win0_1.index t = ![t.val / 16, t.val % 16 * 32 - 1, 0]
    ∧ win0_2.index t = ![t.val / 16, min (t.val % 16 * 32 + 32) 511, 0] ∧ win0_3.index t = ![t.val / 16, 0, 0] ∧ win0_4.index t = ![0, 0]
    ∧ win0_5.index t = ![0, 0] ∧ win0_6.index t = ![0, 0] ∧ win0_7.index t = ![0, 0]
    ∧ win0_9.index t = ![t.val / 16, t.val % 16, 0] ∧ win0_10.index t = ![t.val / 16, 0, t.val % 16] ∧ win0_11.index t = ![t.val / 16, t.val % 16, 0]
    ∧ win0_12.index t = ![t.val / 16, t.val % 16, 0] ∧ win0_13.index t = ![t.val / 16, t.val % 16, 0]
    ∧ win0_14.index t = ![0, t.val % 16 / 2 * 8 + t.val / 16, t.val % 16 % 2] ∧ win0_15.index t = ![t.val / 16, t.val % 16, 0] :=
  (by decide +kernel : ∀ t : Fin grid0.N, _)

/-- The batch entry of a grid point. -/
def tb (t : Fin cfg0.N) : Fin 8 := ⟨t.val / 16, by have : t.val < 128 := t.2; omega⟩
/-- The tile of a grid point. -/
def ti (t : Fin cfg0.N) : Fin 16 := ⟨t.val % 16, by omega⟩
/-- A token of a grid point's tile. -/
def tt (t : Fin cfg0.N) (r : Fin 512) : Fin 8192 := ⟨t.val % 16 * 512 + r.val, by omega⟩
/-- A token before the tile. -/
def tp (t : Fin cfg0.N) (r : Fin 16) : Fin 8192 := ⟨(t.val % 16 * 32 - 1) * 16 + r.val, by omega⟩
/-- A token after the tile. -/
def tn (t : Fin cfg0.N) (r : Fin 16) : Fin 8192 := ⟨min (t.val % 16 * 32 + 32) 511 * 16 + r.val, by omega⟩

variable (c : Dev nD) (t : Fin cfg0.N)

theorem blk0 (r : Fin 512) (j : Fin 1024) : iblk m c 0 t (ix3 0 r j) = m (c, main_arg0) (ix3 (tb t) (tt t r) j) := by
  rw [← V_main_arg0 m c]; blk_point [iblk, V, idx t, tb, tt]
theorem blk1 (r : Fin 16) (j : Fin 1024) : iblk m c 1 t (ix3 0 r j) = m (c, main_arg0) (ix3 (tb t) (tp t r) j) := by
  rw [← V_main_arg0 m c]; blk_point [iblk, V, idx t, tb, tp]
theorem blk2 (r : Fin 16) (j : Fin 1024) : iblk m c 2 t (ix3 0 r j) = m (c, main_arg0) (ix3 (tb t) (tn t r) j) := by
  rw [← V_main_arg0 m c]; blk_point [iblk, V, idx t, tb, tn]
theorem blk3 (k : Fin 3) (j : Fin 1024) : iblk m c 3 t (ix3 0 k j) = m (c, main_arg1) (ix3 (tb t) k j) := by
  rw [← V_main_arg1 m c]; blk_point [iblk, V, idx t, tb]
theorem blk4 (j : Fin 1024) : iblk m c 4 t (ix2 0 j) = m (c, main_arg2) (ix1 j) := by
  have e : V m c main_v0 = shapeCast S1x1024 (m (c, main_arg2)) shapeCasts_S1024_S1x1024 := by entry_read; rfl
  refine Eq.trans (b := V m c main_v0 (ix2 0 j)) ?_ ?_
  · blk_point [iblk, V, idx t]
  · rw [e]; pointwise
theorem blk5 (i : Fin 1024) (j : Fin 2048) : iblk m c 5 t (ix2 i j) = m (c, main_arg3) (ix2 i j) := by
  rw [← V_main_arg3 m c]; blk_point [iblk, V, idx t]
theorem blk6 (i : Fin 1024) (j : Fin 5248) : iblk m c 6 t (ix2 i j) = m (c, main_arg4) (ix2 i j) := by
  rw [← V_main_arg4 m c]; blk_point [iblk, V, idx t]
theorem blk7 (k : Fin 3) (j : Fin 2048) : iblk m c 7 t (ix2 k j) = m (c, main_arg5) (ix2 k j) := by
  rw [← V_main_arg5 m c]; blk_point [iblk, V, idx t]

end Cert.Kernel3Ideal.ProjK
end
-- ==== Proof.Proj.Rows.lean ====
module

public import proofs.«01_k».proof.Proof.Proj.Scratch
public import proofs.«01_k».proof.Proof.Proj.Blocks

/-! The scratch of a grid point holds the modulated rows of the point's tokens and of their neighbours; a product of them with the main weights. -/

@[expose] public section

set_option maxRecDepth 16384
noncomputable section
namespace Cert.Kernel3Ideal.ProjK
open Idealize.ShloMosaic Idealize.ShloMosaic.TcCoe Idealize.SL.Sem
open Idealize.ShloMosaic.Pipeline (Dat)
open Cert.Kernel3Ideal Cert.Kernel3Ideal.Gen
open Cert.Proj

variable (m : (ℓ : Loc nD τ sig) → Buf (Elt Ideal) ℓ) (c : Dev nD) (t : Fin cfg0.N)

/-- What the launched arrays hold. -/
def args : Args where
  x b T j := m (c, main_arg0) (ix3 b T j)
  md b k j := m (c, main_arg1) (ix3 b k j)
  g j := m (c, main_arg2) (ix1 j)
  wqk i j := m (c, main_arg3) (ix2 i j)
  wm i j := m (c, main_arg4) (ix2 i j)
  cv k j := m (c, main_arg5) (ix2 k j)

/-- The scratch of a point. -/
def scrOf : S544x1024.Idx → Elt Ideal .bf16 := lhs (iblk m c 0 t) (iblk m c 1 t) (iblk m c 2 t) (iblk m c 3 t) (iblk m c 4 t)

/-- A row of the scratch that holds a token of the batch entry. -/
theorem scr_row (R : Fin 544) (T : Fin 8192) (h : ∀ j, rowIn (iblk m c 0 t) (iblk m c 1 t) (iblk m c 2 t) R.val j = m (c, main_arg0) (ix3 (tb t) T j)) (k : Fin 1024) :
    scrOf m c t (ix2 R k) = (args m c).h (tb t) T k := by
  show hid (rowIn _ _ _ R.val) (fun j => iblk m c 4 t (ix2 0 j)) (fun j => iblk m c 3 t (ix3 0 0 j)) (fun j => iblk m c 3 t (ix3 0 1 j)) k = _
  rw [funext h, funext (blk4 m c t), funext (blk3 m c t 0), funext (blk3 m c t 1)]
  rfl

theorem scr_own (r : Fin 512) (k : Fin 1024) : scrOf m c t (ix2 ⟨r.val, by omega⟩ k) = (args m c).h (tb t) (tt t r) k := by
  refine scr_row m c t _ _ (fun j => ?_) k
  rw [rowIn, if_pos r.2]
  refine Eq.trans ?_ (blk0 m c t r j)
  exact congrArg (fun a => iblk m c 0 t (ix3 0 a j)) (Fin.ext (Nat.mod_eq_of_lt r.2))
theorem scr_prev (k : Fin 1024) : scrOf m c t (ix2 527 k) = (args m c).h (tb t) (tp t 15) k :=
  scr_row m c t _ _ (fun j => by rw [rowIn, if_neg (by decide), if_pos (by decide)]; exact blk1 m c t 15 j) k
theorem scr_next (k : Fin 1024) : scrOf m c t (ix2 528 k) = (args m c).h (tb t) (tn t 0) k :=
  scr_row m c t _ _ (fun j => by rw [rowIn, if_neg (by decide), if_neg (by decide)]; exact blk2 m c t 0 j) k

/-- The tile's rows read back. -/
def rd512 : FVec Ideal S512x1024 .bf16 :=
  (View.whole cc0_scratch0).readCov (scr (iblk m c 0 t) (iblk m c 1 t) (iblk m c 2 t) (iblk m c 3 t) (iblk m c 4 t))
    (Rect.unit (s := S544x1024) ![0, 0] ![512, 1024] inb_S544x1024_S512x1024_0_0).toLoadRect
/-- All rows read back. -/
def rd544 : FVec Ideal S544x1024 .bf16 :=
  (View.whole cc0_scratch0).readCov (scr (iblk m c 0 t) (iblk m c 1 t) (iblk m c 2 t) (iblk m c 3 t) (iblk m c 4 t))
    (Rect.unit (s := S544x1024) ![0, 0] ![544, 1024] inb_S544x1024_S544x1024_0_0).toLoadRect

theorem rd512_at (r : Fin 512) (k : Fin 1024) : rd512 m c t (ix2 r k) = (args m c).h (tb t) (tt t r) k :=
  (read_at _ _ _ _ _ _ r (by decide) k).trans (scr_own m c t r k)
theorem rd544_at (r : Fin 544) (k : Fin 1024) : rd544 m c t (ix2 r k) = scrOf m c t (ix2 r k) := read_at _ _ _ _ _ _ r (by decide) k

/-- Loading some columns of the weights. -/
theorem ld_cols {a n : ℕ} (x : Vec Ideal (Shape.mk 2 ![a, n]) .bf16) {o : ℕ} (i) (k : Fin a) (j : Fin 1024) (h : o + j.val < n) :
    View.ld x (Rect.unit (s := Shape.mk 2 ![a, n]) ![0, o] ![a, 1024] i) (ix2 k j) = x (ix2 k ⟨o + j.val, h⟩) := by
  refine congrArg x (funext fun d => Fin.ext ?_)
  match d with
  | ⟨0, _⟩ => show 0 + 1 * k.val = k.val; omega
  | ⟨1, _⟩ => show o + 1 * j.val = o + j.val; omega

/-- A product with some columns of the main weights. -/
def prod512 (l : FVec Ideal S512x1024 .bf16) (w : FVec Ideal S1024x1024 .bf16) : FVec Ideal S512x1024 .f32 :=
  matmul dot_S512x1024_S1024x1024_S512x1024_1_0_0_1_n_n none l w (constant S512x1024 .f32 0x00000000#32)
/-- The product, as stored. -/
def stored512 (l : FVec Ideal S512x1024 .bf16) (w : FVec Ideal S1024x1024 .bf16) : FVec Ideal S1x512x1024 .bf16 :=
  shapeCast S1x512x1024 (truncf .bf16 (prod512 l w) bitsLt_bf16_f32 : FVec Ideal S512x1024 .bf16) shapeCasts_S512x1024_S1x512x1024

theorem prod512_at (l w) (r : Fin 512) (j : Fin 1024) : prod512 l w (ix2 r j) = ∑ k : Fin 1024, l (ix2 r k) * w (ix2 k j) := by pointwise [prod512]
theorem stored512_at (l w) (r : Fin 512) (j : Fin 1024) : stored512 l w (ix3 0 r j) = prod512 l w (ix2 r j) := by pointwise [stored512]

theorem main_at (o : ℕ) (i) (r : Fin 512) (j : Fin 1024) (h : o + j.val < 5248) :
    prod512 (rd512 m c t) (View.ld (iblk m c 6 t) (Rect.unit (s := S1024x5248) ![0, o] ![1024, 1024] i)) (ix2 r j)
      = (args m c).z (tb t) (tt t r) ⟨o + j.val, h⟩ := by
  refine (prod512_at _ _ r j).trans (Finset.sum_congr rfl fun k _ => ?_)
  rw [rd512_at]
  exact congrArg _ ((ld_cols (a := 1024) (n := 5248) (iblk m c 6 t) i k j h).trans (blk6 m c t k _))

end Cert.Kernel3Ideal.ProjK
end
-- ==== Proof.Proj.PointM.lean ====
module

public import proofs.«01_k».proof.Proof.Proj.Rows

/-! What a point leaves in the blocks of the values, of the gates and of the scan's input. -/

@[expose] public section

set_option maxRecDepth 16384
noncomputable section
namespace Cert.Kernel3Ideal.ProjK
open Idealize.ShloMosaic Idealize.ShloMosaic.TcCoe Idealize.SL.Sem
open Idealize.ShloMosaic.Pipeline (Dat)
open Cert.Kernel3Ideal Cert.Kernel3Ideal.Gen
open Cert.Proj

variable (m : (ℓ : Loc nD τ sig) → Buf (Elt Ideal) ℓ) (c : Dev nD) (t : Fin cfg0.N) (r : Fin 512) (j : Fin 1024)

theorem blk11_eq : (outsAt0 m c t).2.2.1 = stored512 (rd512 m c t) (View.ld (iblk m c 6 t)
    (Rect.unit (s := S1024x5248) ![0, 0] ![1024, 1024] inb_S1024x5248_S1024x1024_0_0)) := by
  unfold Gen.outsAt0; dsimp only; unfold out0_A_11; unfold kernelRun0_A; dsimp only
  rw [View.read_writes_junk_eq_canon, View.canon_cons_unit_lit _ _ _ (by decide)]
  simp (disch := decide) only [kernelRun0_A.sl.v69, HS_eq, View.readAt_eq_ld, Memref.IsWhole.read_unread, View.ld_unit_lit']
  rfl
theorem out11_at : (outsAt0 m c t).2.2.1 (ix3 0 r j) = (args m c).z (tb t) (tt t r) ⟨0 + j.val, by omega⟩ := by
  rw [blk11_eq, stored512_at]
  exact main_at m c t 0 _ r j _

theorem blk12_eq : (outsAt0 m c t).2.2.2.1 = stored512 (rd512 m c t) (View.ld (iblk m c 6 t)
    (Rect.unit (s := S1024x5248) ![0, 1024] ![1024, 1024] inb_S1024x5248_S1024x1024_0_1024)) := by
  unfold Gen.outsAt0; dsimp only; unfold out0_A_12; unfold kernelRun0_A; dsimp only
  rw [View.read_writes_junk_eq_canon, View.canon_cons_unit_lit _ _ _ (by decide)]
  simp (disch := decide) only [kernelRun0_A.sl.v69, HS_eq, View.readAt_eq_ld, Memref.IsWhole.read_unread, View.ld_unit_lit']
  rfl
theorem out12_at : (outsAt0 m c t).2.2.2.1 (ix3 0 r j) = (args m c).z (tb t) (tt t r) ⟨1024 + j.val, by omega⟩ := by
  rw [blk12_eq, stored512_at]
  exact main_at m c t 1024 _ r j _

theorem blk13_eq : (outsAt0 m c t).2.2.2.2.1 = stored512 (rd512 m c t) (View.ld (iblk m c 6 t)
    (Rect.unit (s := S1024x5248) ![0, 2048] ![1024, 1024] inb_S1024x5248_S1024x1024_0_2048)) := by
  unfold Gen.outsAt0; dsimp only; unfold out0_A_13; unfold kernelRun0_A; dsimp only
  rw [View.read_writes_junk_eq_canon, View.canon_cons_unit_lit _ _ _ (by decide)]
  simp (disch := decide) only [kernelRun0_A.sl.v69, HS_eq, View.readAt_eq_ld, Memref.IsWhole.read_unread, View.ld_unit_lit']
  rfl
theorem out13_at : (outsAt0 m c t).2.2.2.2.1 (ix3 0 r j) = (args m c).z (tb t) (tt t r) ⟨2048 + j.val, by omega⟩ := by
  rw [blk13_eq, stored512_at]
  exact main_at m c t 2048 _ r j _

theorem blk15_eq : (outsAt0 m c t).2.2.2.2.2.2.1 = stored512 (rd512 m c t) (View.ld (iblk m c 6 t)
    (Rect.unit (s := S1024x5248) ![0, 4096] ![1024, 1024] inb_S1024x5248_S1024x1024_0_4096)) := by
  unfold Gen.outsAt0; dsimp only; unfold out0_A_15; unfold kernelRun0_A; dsimp only
  rw [View.read_writes_junk_eq_canon, View.canon_cons_unit_lit _ _ _ (by decide)]
  simp (disch := decide) only [kernelRun0_A.sl.v69, kernelRun0_A.sl.r_122, kernelRun0_A.sl.cst_619, HS_eq, View.readAt_eq_ld, Memref.IsWhole.read_unread, View.ld_unit_lit']
  rfl
theorem out15_at : (outsAt0 m c t).2.2.2.2.2.2.1 (ix3 0 r j) = (args m c).z (tb t) (tt t r) ⟨4096 + j.val, by omega⟩ := by
  rw [blk15_eq, stored512_at]
  exact main_at m c t 4096 _ r j _

end Cert.Kernel3Ideal.ProjK
end
-- ==== Proof.Proj.Conv.lean ====
module

public import proofs.«01_k».proof.Proof.Gen.Kernel3Ideal.Skeleton
public import proofs.«01_k».proof.Proof.Proj.Core

/-! The short convolution of one tile: its rows shifted by one either way, the row missing at each end taken from the neighbouring tile. -/

@[expose] public section

set_option maxRecDepth 16384
noncomputable section
namespace Cert.Kernel3Ideal.ProjK
open Idealize.ShloMosaic Idealize.ShloMosaic.TcCoe Idealize.SL.Sem
open Cert.Kernel3Ideal Cert.Kernel3Ideal.Gen
open Cert.Proj

/-- The tile's own rows. -/
def own (z : FVec Ideal S544x1024 .f32) : FVec Ideal S512x1024 .f32 := extractStridedSlice S512x1024 ![0, 0] z slices_S544x1024_o0_0_S512x1024

/-- The rows before. -/
def before (z : FVec Ideal S544x1024 .f32) (vp : EReal) : FVec Ideal S512x1024 .f32 :=
  concatenate S512x1024 0 [⟨S8x1024, select (cmpi .eq (iota .tc S8x1024 32 [0] iota_S8x1024_d0_w32) (broadcast S8x1024 0#32))
    (broadcastTo S8x1024 (shapeCast S1x1024 (mulf (extractStridedSlice S1x1024 ![527, 0] z slices_S544x1024_o527_0_S1x1024)
      (broadcast S1x1024 vp : FVec Ideal S1x1024 .f32)) shapeCasts_S1x1024_S1x1024) broadcasts_S1x1024_S8x1024)
    (extractStridedSlice S8x1024 ![0, 0] (dynamicRotate 0 1#32 none (own z) rotates_S512x1024_d0) slices_S512x1024_o0_0_S8x1024)⟩,
    ⟨S504x1024, extractStridedSlice S504x1024 ![8, 0] (dynamicRotate 0 1#32 none (own z) rotates_S512x1024_d0) slices_S512x1024_o8_0_S504x1024⟩]
    concatenates_S8x1024_S504x1024_S512x1024_d0

/-- The rows after. -/
def after (z : FVec Ideal S544x1024 .f32) (vn : EReal) : FVec Ideal S512x1024 .f32 :=
  concatenate S512x1024 0 [⟨S504x1024, extractStridedSlice S504x1024 ![0, 0] (dynamicRotate 0 511#32 none (own z) rotates_S512x1024_d0)
      slices_S512x1024_o0_0_S504x1024⟩,
    ⟨S8x1024, select (cmpi .eq (iota .tc S8x1024 32 [0] iota_S8x1024_d0_w32) (broadcast S8x1024 7#32))
    (broadcastTo S8x1024 (shapeCast S1x1024 (mulf (extractStridedSlice S1x1024 ![528, 0] z slices_S544x1024_o528_0_S1x1024)
      (broadcast S1x1024 vn : FVec Ideal S1x1024 .f32)) shapeCasts_S1x1024_S1x1024) broadcasts_S1x1024_S8x1024)
    (extractStridedSlice S8x1024 ![504, 0] (dynamicRotate 0 511#32 none (own z) rotates_S512x1024_d0) slices_S512x1024_o504_0_S8x1024)⟩]
    concatenates_S504x1024_S8x1024_S512x1024_d0

/-- The convolution of a tile. -/
def conv (z : FVec Ideal S544x1024 .f32) (w : FVec Ideal S3x1024 .f32) (vp vn : EReal) : FVec Ideal S512x1024 .f32 :=
  addf (addf (mulf (broadcastTo S512x1024 (extractStridedSlice S1x1024 ![0, 0] w slices_S3x1024_o0_0_S1x1024) broadcasts_S1x1024_S512x1024) (before z vp))
    (mulf (broadcastTo S512x1024 (extractStridedSlice S1x1024 ![1, 0] w slices_S3x1024_o1_0_S1x1024) broadcasts_S1x1024_S512x1024) (own z)))
    (mulf (broadcastTo S512x1024 (extractStridedSlice S1x1024 ![2, 0] w slices_S3x1024_o2_0_S1x1024) broadcasts_S1x1024_S512x1024) (after z vn))

variable (z : FVec Ideal S544x1024 .f32) (w : FVec Ideal S3x1024 .f32) (vp vn : EReal) (r : Fin 512) (j : Fin 1024)

theorem own_at : own z (ix2 r j) = z (ix2 ⟨r.val, by omega⟩ j) := by pointwise [own]

theorem pick_eq (n n' : ℕ) (h : n < 8) (h' : n' < 8) (x y : EReal) :
    Scalar.select (IntOp.cmpi CmpIPredicate.eq (BitVec.ofNat 32 n) (BitVec.ofNat 32 n')) x y = if n = n' then x else y := by
  have e : IntOp.cmpi CmpIPredicate.eq (BitVec.ofNat 32 n) (BitVec.ofNat 32 n') = if n = n' then 1#1 else 0#1 := by
    interval_cases n <;> interval_cases n' <;> rfl
  rw [e]
  split <;> rfl

theorem before_at : before z vp (ix2 r j) = if h : r.val = 0 then z (ix2 527 j) * vp else z (ix2 ⟨r.val - 1, by omega⟩ j) := by
  pointwise [before]
  simp only [own_at]
  by_cases h8 : r.val < 8
  · rw [dif_pos h8]
    refine (pick_eq r.val 0 h8 (by decide) _ _).trans ?_
    by_cases h0 : r.val = 0
    · rw [if_pos h0, dif_pos h0]
    · rw [if_neg h0, dif_neg h0]; congr 2; exact Fin.ext (by show (r.val + 512 - 1) % 512 = r.val - 1; omega)
  · rw [dif_neg h8, dif_neg (by omega)]; congr 2; exact Fin.ext (by show (8 + (r.val - 8) + 512 - 1) % 512 = r.val - 1; omega)

theorem after_at : after z vn (ix2 r j) = if h : r.val = 511 then z (ix2 528 j) * vn else z (ix2 ⟨r.val + 1, by omega⟩ j) := by
  pointwise [after]
  simp only [own_at]
  by_cases h8 : r.val < 504
  · rw [dif_pos h8, dif_neg (by omega)]; congr 2; exact Fin.ext (by show (r.val + 512 - 511) % 512 = r.val + 1; omega)
  · rw [dif_neg h8]
    refine (pick_eq (r.val - 504) 7 (by omega) (by decide) _ _).trans ?_
    by_cases h0 : r.val = 511
    · rw [if_pos (by omega), dif_pos h0]
    · rw [if_neg (by omega), dif_neg h0]; congr 2; exact Fin.ext (by show (504 + (r.val - 504) + 512 - 511) % 512 = r.val + 1; omega)

theorem conv_at : conv z w vp vn (ix2 r j) = w (ix2 0 j) * before z vp (ix2 r j) + w (ix2 1 j) * z (ix2 ⟨r.val, by omega⟩ j)
    + w (ix2 2 j) * after z vn (ix2 r j) := by
  pointwise [conv]
  rw [own_at]

end Cert.Kernel3Ideal.ProjK
end
-- ==== Proof.Proj.PointQ.lean ====
module

public import proofs.«01_k».proof.Proof.Proj.Rows
public import proofs.«01_k».proof.Proof.Proj.Conv

/-! What a point leaves in the blocks of the queries and of the keys. -/

@[expose] public section

set_option maxRecDepth 16384
noncomputable section
namespace Cert.Kernel3Ideal.ProjK
open Idealize.ShloMosaic Idealize.ShloMosaic.TcCoe Idealize.SL.Sem
open Idealize.ShloMosaic.Pipeline (Dat)
open Cert.Kernel3Ideal Cert.Kernel3Ideal.Gen
open Cert.Proj

/-- Zero at the first tile of a sequence, one elsewhere. -/
theorem first_at : ∀ n : Fin 16, k0_pay391 (F := Ideal) (BitVec.ofNat 32 n.val) = (if n.val = 0 then 0 else 1 : EReal) := by
  intro n
  have e : (Scalar.extui (Scalar.cmpi .sgt (BitVec.ofNat 32 n.val) 0#32) : BitVec 32) = if n.val = 0 then 0#32 else 1#32 := by revert n; decide
  show ((((Scalar.extui (Scalar.cmpi .sgt (BitVec.ofNat 32 n.val) 0#32) : BitVec 32).toInt : ℝ)) : EReal) = _
  rw [e]
  split <;> simp
/-- Zero at the last tile of a sequence, one elsewhere. -/
theorem last_at : ∀ n : Fin 16, k0_pay392 (F := Ideal) (BitVec.ofNat 32 n.val) = (if n.val = 15 then 0 else 1 : EReal) := by
  intro n
  have e : (Scalar.extui (Scalar.cmpi .slt (BitVec.ofNat 32 n.val) 15#32) : BitVec 32) = if n.val = 15 then 0#32 else 1#32 := by revert n; decide
  show ((((Scalar.extui (Scalar.cmpi .slt (BitVec.ofNat 32 n.val) 15#32) : BitVec 32).toInt : ℝ)) : EReal) = _
  rw [e]
  split <;> simp

theorem coord : ∀ t : Fin cfg0.N, (grid0.coords t 1).val = t.val % 16 := (by decide +kernel : ∀ t : Fin grid0.N, _)

variable (t : Fin cfg0.N) (z : FVec Ideal S544x1024 .f32) (w : FVec Ideal S3x1024 .f32) (r : Fin 512) (j : Fin 1024)

/-- A point's factor for the row before its tile. -/
def vp : EReal := k0_pay391 (F := Ideal) (BitVec.ofNat 32 (grid0.coords t 1).val)
/-- A point's factor for the row after its tile. -/
def vn : EReal := k0_pay392 (F := Ideal) (BitVec.ofNat 32 (grid0.coords t 1).val)

theorem vp_eq : vp t = if t.val % 16 = 0 then 0 else 1 := by unfold vp; rw [coord]; exact first_at ⟨t.val % 16, by omega⟩
theorem vn_eq : vn t = if t.val % 16 = 15 then 0 else 1 := by unfold vn; rw [coord]; exact last_at ⟨t.val % 16, by omega⟩

/-- The tile's convolution is the sequence's. -/
theorem conv_taps (f : Fin 8192 → EReal) (ho : ∀ r : Fin 512, z (ix2 ⟨r.val, by omega⟩ j) = f (tt t r)) (hp : z (ix2 527 j) = f (tp t 15))
    (hn : z (ix2 528 j) = f (tn t 0)) : conv z w (vp t) (vn t) (ix2 r j) = taps (fun i => w (ix2 i j)) f (tt t r) := by
  have hr := r.2
  have eT : (tt t r).val = t.val % 16 * 512 + r.val := rfl
  have eb : before z (vp t) (ix2 r j) = padded f (tt t r).val := by
    rw [before_at, vp_eq, hp]
    unfold padded
    by_cases h0 : r.val = 0
    · rw [dif_pos h0]
      by_cases h1 : t.val % 16 = 0
      · rw [if_pos h1, dif_neg (by omega), mul_zero]
      · rw [if_neg h1, dif_pos (by omega), mul_one]
        refine congrArg f (Fin.ext ?_)
        show (t.val % 16 * 32 - 1) * 16 + 15 = t.val % 16 * 512 + r.val - 1
        omega
    · rw [dif_neg h0, dif_pos (by omega)]
      refine (ho ⟨r.val - 1, by omega⟩).trans (congrArg f (Fin.ext ?_))
      show t.val % 16 * 512 + (r.val - 1) = t.val % 16 * 512 + r.val - 1
      omega
  have ea : after z (vn t) (ix2 r j) = padded f ((tt t r).val + 2) := by
    rw [after_at, vn_eq, hn]
    unfold padded
    by_cases h0 : r.val = 511
    · rw [dif_pos h0]
      by_cases h1 : t.val % 16 = 15
      · rw [if_pos h1, dif_neg (by omega), mul_zero]
      · rw [if_neg h1, dif_pos (by omega), mul_one]
        refine congrArg f (Fin.ext ?_)
        show min (t.val % 16 * 32 + 32) 511 * 16 + 0 = t.val % 16 * 512 + r.val + 2 - 1
        omega
    · rw [dif_neg h0, dif_pos (by omega)]
      refine (ho ⟨r.val + 1, by omega⟩).trans (congrArg f (Fin.ext ?_))
      show t.val % 16 * 512 + (r.val + 1) = t.val % 16 * 512 + r.val + 2 - 1
      omega
  rw [conv_at, eb, ea, ho r]
  unfold taps
  rw [padded_mid]

/-- The convolution times its logistic. -/
def act (z : FVec Ideal S544x1024 .f32) (w : FVec Ideal S3x1024 .f32) (vp vn : EReal) : FVec Ideal S512x1024 .bf16 :=
  mulf (truncf .bf16 (conv z w vp vn) bitsLt_bf16_f32 : FVec Ideal S512x1024 .bf16) (logistic (truncf .bf16 (conv z w vp vn) bitsLt_bf16_f32))
/-- The queries, as stored. -/
def qOf (z : FVec Ideal S544x1024 .f32) (w : FVec Ideal S3x1024 .f32) (vp vn : EReal) : FVec Ideal S1x512x1024 .bf16 :=
  shapeCast S1x512x1024 (act z w vp vn) shapeCasts_S512x1024_S1x512x1024
/-- The keys, as stored. -/
def kOf (z : FVec Ideal S544x1024 .f32) (w : FVec Ideal S3x1024 .f32) (vp vn : EReal) : FVec Ideal S1x1024x512 .bf16 :=
  shapeCast S1x1024x512 (transpose S1024x512 [1, 0] (mulf (act z w vp vn) (broadcast S512x1024 (Scalar.ofBits .bf16 0x3D80#16)))
    transposes_S512x1024_p1_0_S1024x512 : FVec Ideal S1024x512 .bf16) shapeCasts_S1024x512_S1x1024x512

theorem act_at (a b) : act z w a b (ix2 r j) = silu (conv z w a b (ix2 r j)) := by pointwise [act]; rfl
theorem qOf_at (a b) : qOf z w a b (ix3 0 r j) = act z w a b (ix2 r j) := by pointwise [qOf]
theorem kOf_at (a b) : kOf z w a b (ix3 0 j r) = act z w a b (ix2 r j) * Ideal.ofBits .bf16 0x3D80#16 := by pointwise [kOf]
theorem sixteenth : Ideal.ofBits .bf16 0x3D80#16 = Ideal.ofBits .f32 0x3D800000#32 := by
  show Ideal.ieee 8 7 15744#16 = Ideal.ieee 8 23 1031798784#32
  unfold Ideal.ieee
  norm_num [Nat.shiftRight_eq_div_pow, show ¬BitVec.extractLsb' 15 1 15744#16 = 1#1 by decide, show ¬BitVec.extractLsb' 31 1 1031798784#32 = 1#1 by decide]

variable (m : (ℓ : Loc nD τ sig) → Buf (Elt Ideal) ℓ) (c : Dev nD)

/-- Queries and keys of a tile and of its neighbours before the convolution. -/
def prod544 (l : FVec Ideal S544x1024 .bf16) (w : FVec Ideal S1024x1024 .bf16) : FVec Ideal S544x1024 .f32 :=
  matmul dot_S544x1024_S1024x1024_S544x1024_1_0_0_1_n_n none l w (constant S544x1024 .f32 0x00000000#32)
theorem prod544_at (l w) (R : Fin 544) : prod544 l w (ix2 R j) = ∑ k : Fin 1024, l (ix2 R k) * w (ix2 k j) := by pointwise [prod544]

theorem z_at (o : ℕ) (i) (R : Fin 544) (T : Fin 8192) (hR : ∀ k, scrOf m c t (ix2 R k) = (args m c).h (tb t) T k) (h : o + j.val < 2048) :
    prod544 (rd544 m c t) (View.ld (iblk m c 5 t) (Rect.unit (s := S1024x2048) ![0, o] ![1024, 1024] i)) (ix2 R j)
      = (args m c).zqk (tb t) T ⟨o + j.val, h⟩ := by
  refine (prod544_at j _ _ R).trans (Finset.sum_congr rfl fun k _ => ?_)
  rw [rd544_at, hR]
  exact congrArg _ ((ld_cols (a := 1024) (n := 2048) (iblk m c 5 t) i k j h).trans (blk5 m c t k _))

theorem ld_taps {o : ℕ} (x : Vec Ideal S3x2048 .f32) (i) (k : Fin 3) (h : o + j.val < 2048) :
    View.ld x (Rect.unit (s := S3x2048) ![0, o] ![3, 1024] i) (ix2 k j) = x (ix2 k ⟨o + j.val, h⟩) := by
  refine congrArg x (funext fun d => Fin.ext ?_)
  match d with
  | ⟨0, _⟩ => show 0 + 1 * k.val = k.val; omega
  | ⟨1, _⟩ => show o + 1 * j.val = o + j.val; omega

theorem qk_at (o : ℕ) (i i') (h : o + j.val < 2048) :
    act (prod544 (rd544 m c t) (View.ld (iblk m c 5 t) (Rect.unit (s := S1024x2048) ![0, o] ![1024, 1024] i)))
      (View.ld (iblk m c 7 t) (Rect.unit (s := S3x2048) ![0, o] ![3, 1024] i')) (vp t) (vn t) (ix2 r j)
      = (args m c).qk (tb t) (tt t r) ⟨o + j.val, h⟩ := by
  refine (act_at _ _ r j _ _).trans (congrArg silu ?_)
  refine (conv_taps t _ _ r j (fun T => (args m c).zqk (tb t) T ⟨o + j.val, h⟩) (fun r => z_at t j m c o i _ _ (scr_own m c t r) h)
    (z_at t j m c o i _ _ (scr_prev m c t) h) (z_at t j m c o i _ _ (scr_next m c t) h)).trans ?_
  refine congrArg (fun a => taps a _ _) (funext fun k => ?_)
  exact (ld_taps j (iblk m c 7 t) i' k h).trans (blk7 m c t k _)

theorem blk9_eq : (outsAt0 m c t).1 = qOf (prod544 (rd544 m c t) (View.ld (iblk m c 5 t) (Rect.unit (s := S1024x2048) ![0, 0] ![1024, 1024]
    inb_S1024x2048_S1024x1024_0_0))) (View.ld (iblk m c 7 t) (Rect.unit (s := S3x2048) ![0, 0] ![3, 1024] inb_S3x2048_S3x1024_0_0)) (vp t) (vn t) := by
  unfold Gen.outsAt0; dsimp only; unfold out0_A_9; unfold kernelRun0_A; dsimp only
  rw [View.read_writes_junk_eq_canon, View.canon_cons_unit_lit _ _ _ (by decide)]
  simp (disch := decide) only [kernelRun0_A.sl.v1401, kernelRun0_A.sl.v1405, kernelRun0_A.sl.r_115, kernelRun0_A.sl.r_116, kernelRun0_A.sl.r_117,
    kernelRun0_A.sl.r_118, kernelRun0_A.sl.r_119, kernelRun0_A.sl.r_120, HS_eq, View.readAt_eq_ld, Memref.IsWhole.read_unread, View.ld_unit_lit']
  rfl
theorem blk10_eq : (outsAt0 m c t).2.1 = kOf (prod544 (rd544 m c t) (View.ld (iblk m c 5 t) (Rect.unit (s := S1024x2048) ![0, 1024] ![1024, 1024]
    inb_S1024x2048_S1024x1024_0_1024))) (View.ld (iblk m c 7 t) (Rect.unit (s := S3x2048) ![0, 1024] ![3, 1024] inb_S3x2048_S3x1024_0_1024)) (vp t) (vn t) := by
  unfold Gen.outsAt0; dsimp only; unfold out0_A_10; unfold kernelRun0_A; dsimp only
  rw [View.read_writes_junk_eq_canon, View.canon_cons_unit_lit _ _ _ (by decide)]
  simp (disch := decide) only [kernelRun0_A.sl.v1401, kernelRun0_A.sl.r_121, kernelRun0_A.sl.r_115, kernelRun0_A.sl.r_116, HS_eq, View.readAt_eq_ld,
    Memref.IsWhole.read_unread, View.ld_unit_lit']
  rfl

theorem out9_at : (outsAt0 m c t).1 (ix3 0 r j) = (args m c).qk (tb t) (tt t r) ⟨0 + j.val, by omega⟩ := by
  rw [blk9_eq, qOf_at]
  exact qk_at t r j m c 0 _ _ _
theorem out10_at : (outsAt0 m c t).2.1 (ix3 0 j r) = (args m c).qk (tb t) (tt t r) ⟨1024 + j.val, by omega⟩ * Ideal.ofBits .f32 0x3D800000#32 := by
  rw [blk10_eq, kOf_at, sixteenth]
  exact congrArg (· * _) (qk_at t r j m c 1024 _ _ _)

end Cert.Kernel3Ideal.ProjK
end
-- ==== Proof.Proj.Exchange.lean ====
module

public import proofs.«01_k».proof.Proof.Proj.Rows
public import proofs.«01_k».proof.Proof.Merge.Scratch

/-! The eight rows of a tile, exchanged with the sixteen-channel groups of the scan's input: what a point leaves in the block of that input. -/

@[expose] public section

set_option maxRecDepth 16384
noncomputable section
namespace Cert.Kernel3Ideal.ProjK
open Idealize.ShloMosaic Idealize.ShloMosaic.TcCoe Idealize.SL.Sem
open Idealize.ShloMosaic.Pipeline (Dat)
open Cert.Kernel3Ideal Cert.Kernel3Ideal.Gen
open Cert.Kernel2Ideal.MergeK (net net_at lane lane_split)

/-- What the block holds: group `g`, column `w` and lane `16 s + e` hold channel `16 g + e` of the token at row `s` and column `w`. -/
def spread (P : FVec Ideal S512x1024 .f32) : S64x64x128.Idx → Elt Ideal .bf16 := fun z =>
  P (ix2 ⟨(z 2).val / 16 * 64 + (z 1).val, by have : (z 2).val < 128 := (z 2).2; have : (z 1).val < 64 := (z 1).2; omega⟩
    ⟨(z 0).val * 16 + (z 2).val % 16, by have : (z 0).val < 64 := (z 0).2; omega⟩)

variable (P : FVec Ideal S512x1024 .f32)

/-- Eight rows of 64 tokens and 128 channels from `o` on, exchanged, as stored. -/
def spreadRow (o : ℕ) (h0 : S512x1024.Slices ![0, o] S64x128) (h1 : S512x1024.Slices ![64, o] S64x128) (h2 : S512x1024.Slices ![128, o] S64x128)
    (h3 : S512x1024.Slices ![192, o] S64x128) (h4 : S512x1024.Slices ![256, o] S64x128) (h5 : S512x1024.Slices ![320, o] S64x128)
    (h6 : S512x1024.Slices ![384, o] S64x128) (h7 : S512x1024.Slices ![448, o] S64x128) (c4 c2 c1 : Bool) : FVec Ideal S1x64x128 .bf16 :=
  shapeCast S1x64x128 (truncf .bf16 (net c4 c2 c1 (extractStridedSlice S64x128 ![0, o] P h0) (extractStridedSlice S64x128 ![64, o] P h1)
    (extractStridedSlice S64x128 ![128, o] P h2) (extractStridedSlice S64x128 ![192, o] P h3) (extractStridedSlice S64x128 ![256, o] P h4)
    (extractStridedSlice S64x128 ![320, o] P h5) (extractStridedSlice S64x128 ![384, o] P h6) (extractStridedSlice S64x128 ![448, o] P h7))
    bitsLt_bf16_f32 : FVec Ideal S64x128 .bf16) shapeCasts_S64x128_S1x64x128

theorem cut_at (s o : ℕ) (h : S512x1024.Slices ![s, o] S64x128) (w : Fin 64) (l : Fin 128) (R : Fin 512) (j : Fin 1024) (hR : R.val = s + w.val)
    (hj : j.val = o + l.val) : extractStridedSlice S64x128 ![s, o] P h (ix2 w l) = P (ix2 R j) := by
  refine congrArg P (funext fun d => Fin.ext ?_)
  match d with
  | ⟨0, _⟩ => exact hR.symm
  | ⟨1, _⟩ => exact hj.symm

theorem as_stored (v : FVec Ideal S64x128 .f32) (w : Fin 64) (l : Fin 128) :
    (shapeCast S1x64x128 (truncf .bf16 v bitsLt_bf16_f32 : FVec Ideal S64x128 .bf16) shapeCasts_S64x128_S1x64x128 : FVec Ideal S1x64x128 .bf16) (ix3 0 w l)
      = (v (ix2 w l) : EReal) := by pointwise

theorem emb_group {g : ℕ} (i) (w : Fin 64) (l : Fin 128) : (((Rect.unit (s := S64x64x128) ![g, 0, 0] ![1, 64, 128] i).emb (ix3 0 w l)) 0).val = g
    ∧ (((Rect.unit (s := S64x64x128) ![g, 0, 0] ![1, 64, 128] i).emb (ix3 0 w l)) 1).val = w.val
    ∧ (((Rect.unit (s := S64x64x128) ![g, 0, 0] ![1, 64, 128] i).emb (ix3 0 w l)) 2).val = l.val :=
  ⟨by show g + 1 * 0 = g; omega, by show 0 + 1 * w.val = _; omega, by show 0 + 1 * l.val = _; omega⟩

theorem spread_lane {o g : ℕ} (h0 h1 h2 h3 h4 h5 h6 h7) (c4 c2 c1 : Bool) (hg : 16 * g = o + 16 * (4 * c4.toNat + 2 * c2.toNat + c1.toNat))
    (b4 b2 b1 : Bool) (m : Fin 16) (w : Fin 64) (z : S64x64x128.Idx) (e0 : (z 0).val = g) (e1 : (z 1).val = w.val) (e2 : (z 2).val = (lane b4 b2 b1 m).val) :
    spreadRow P o h0 h1 h2 h3 h4 h5 h6 h7 c4 c2 c1 (ix3 0 w (lane b4 b2 b1 m)) = spread P z := by
  have hm := m.2
  have ec : ∀ R C, R = (4 * b4.toNat + 2 * b2.toNat + b1.toNat) * 64 + w.val → C = o + (lane c4 c2 c1 m).val →
      ∀ hR : R < 512, ∀ hC : C < 1024, P (ix2 ⟨R, hR⟩ ⟨C, hC⟩) = spread P z := by
    intro R C h h' hR hC
    refine congrArg P (congrArg₂ ix2 (Fin.ext ?_) (Fin.ext ?_))
    · show R = (z 2).val / 16 * 64 + (z 1).val
      rw [e1, e2, h]; simp only [lane]; omega
    · show C = (z 0).val * 16 + (z 2).val % 16
      rw [e0, e2, h']; simp only [lane]; omega
  have hR : (4 * b4.toNat + 2 * b2.toNat + b1.toNat) * 64 + w.val < 512 := by
    have := b4.toNat_le; have := b2.toNat_le; have := b1.toNat_le; omega
  have hC : o + (lane c4 c2 c1 m).val < 1024 := by
    have : (z 0).val < 64 := (z 0).2
    show o + (64 * c4.toNat + 32 * c2.toNat + 16 * c1.toNat + m.val) < 1024; omega
  refine Eq.trans ?_ (ec _ _ rfl rfl hR hC)
  rw [spreadRow, as_stored, net_at]
  cases b4 <;> cases b2 <;> cases b1 <;> simp only [cond_true, cond_false] <;>
    exact cut_at P _ o _ _ _ _ _ (by simp only [Bool.toNat_true, Bool.toNat_false]) rfl

theorem spreadRow_at {o g : ℕ} (h0 h1 h2 h3 h4 h5 h6 h7) (c4 c2 c1 : Bool) (hg : 16 * g = o + 16 * (4 * c4.toNat + 2 * c2.toNat + c1.toNat))
    (i : ∀ a, (![g, 0, 0] : Fin 3 → ℕ) a + (![1, 64, 128] : Fin 3 → ℕ) a ≤ S64x64x128.size a)
    (y : (Rect.unit (s := S64x64x128) ![g, 0, 0] ![1, 64, 128] i).shape.Idx) :
    spreadRow P o h0 h1 h2 h3 h4 h5 h6 h7 c4 c2 c1 y = spread P ((Rect.unit (s := S64x64x128) ![g, 0, 0] ![1, 64, 128] i).emb y) := by
  obtain ⟨a, w, l, rfl⟩ : ∃ (a : Fin 1) (w : Fin 64) (l : Fin 128), y = ix3 a w l := ⟨y 0, y 1, y 2, eq_ix3 y⟩
  obtain rfl := Subsingleton.elim a 0
  obtain ⟨b4, b2, b1, m, rfl⟩ := lane_split l
  obtain ⟨e0, e1, e2⟩ := emb_group i w (lane b4 b2 b1 m)
  exact spread_lane P _ _ _ _ _ _ _ _ c4 c2 c1 hg b4 b2 b1 m w _ e0 e1 e2

variable {P}

/-- The eight stores of one exchange, over what is stored before. -/
theorem spread_of {o g0 g1 g2 g3 g4 g5 g6 g7 : ℕ} {i0 i1 i2 i3 i4 i5 i6 i7} {B0 B1 B2 B3 B4 B5 B6 B7 : FVec Ideal S1x64x128 .bf16}
    {L : List (View.Piece (Elt Ideal) S64x64x128 .bf16)} (h0 h1 h2 h3 h4 h5 h6 h7)
    (e0 : B0 = spreadRow P o h0 h1 h2 h3 h4 h5 h6 h7 false false false)
    (e1 : B1 = spreadRow P o h0 h1 h2 h3 h4 h5 h6 h7 false false true)
    (e2 : B2 = spreadRow P o h0 h1 h2 h3 h4 h5 h6 h7 false true false)
    (e3 : B3 = spreadRow P o h0 h1 h2 h3 h4 h5 h6 h7 false true true)
    (e4 : B4 = spreadRow P o h0 h1 h2 h3 h4 h5 h6 h7 true false false)
    (e5 : B5 = spreadRow P o h0 h1 h2 h3 h4 h5 h6 h7 true false true)
    (e6 : B6 = spreadRow P o h0 h1 h2 h3 h4 h5 h6 h7 true true false)
    (e7 : B7 = spreadRow P o h0 h1 h2 h3 h4 h5 h6 h7 true true true)
    (hg : 16 * g0 = o ∧ g1 = g0 + 1 ∧ g2 = g0 + 2 ∧ g3 = g0 + 3 ∧ g4 = g0 + 4 ∧ g5 = g0 + 5 ∧ g6 = g0 + 6 ∧ g7 = g0 + 7)
    (hL : View.PiecesOf (spread P) L) :
    View.PiecesOf (spread P)
      (⟨Rect.unit (s := S64x64x128) ![g7, 0, 0] ![1, 64, 128] i7, B7⟩ :: ⟨Rect.unit (s := S64x64x128) ![g6, 0, 0] ![1, 64, 128] i6, B6⟩
        :: ⟨Rect.unit (s := S64x64x128) ![g5, 0, 0] ![1, 64, 128] i5, B5⟩ :: ⟨Rect.unit (s := S64x64x128) ![g4, 0, 0] ![1, 64, 128] i4, B4⟩
        :: ⟨Rect.unit (s := S64x64x128) ![g3, 0, 0] ![1, 64, 128] i3, B3⟩ :: ⟨Rect.unit (s := S64x64x128) ![g2, 0, 0] ![1, 64, 128] i2, B2⟩
        :: ⟨Rect.unit (s := S64x64x128) ![g1, 0, 0] ![1, 64, 128] i1, B1⟩ :: ⟨Rect.unit (s := S64x64x128) ![g0, 0, 0] ![1, 64, 128] i0, B0⟩ :: L) := by
  subst e0 e1 e2 e3 e4 e5 e6 e7
  obtain ⟨a0, a1, a2, a3, a4, a5, a6, a7⟩ := hg
  have hb : ∀ c4 c2 c1 : Bool, ∀ g, g = g0 + (4 * c4.toNat + 2 * c2.toNat + c1.toNat) → 16 * g = o + 16 * (4 * c4.toNat + 2 * c2.toNat + c1.toNat) := by
    intro c4 c2 c1 g h; omega
  exact ⟨spreadRow_at P _ _ _ _ _ _ _ _ true true true (hb _ _ _ _ a7) i7, spreadRow_at P _ _ _ _ _ _ _ _ true true false (hb _ _ _ _ a6) i6,
    spreadRow_at P _ _ _ _ _ _ _ _ true false true (hb _ _ _ _ a5) i5, spreadRow_at P _ _ _ _ _ _ _ _ true false false (hb _ _ _ _ a4) i4,
    spreadRow_at P _ _ _ _ _ _ _ _ false true true (hb _ _ _ _ a3) i3, spreadRow_at P _ _ _ _ _ _ _ _ false true false (hb _ _ _ _ a2) i2,
    spreadRow_at P _ _ _ _ _ _ _ _ false false true (hb _ _ _ _ a1) i1, spreadRow_at P _ _ _ _ _ _ _ _ false false false (hb _ _ _ _ rfl) i0, hL⟩

end Cert.Kernel3Ideal.ProjK
end
-- ==== Proof.Proj.Spread.lean ====
module

public import proofs.«01_k».proof.Proof.Proj.Exchange

/-! What a point leaves in the block of the scan's input. -/

@[expose] public section

set_option maxRecDepth 16384
noncomputable section
namespace Cert.Kernel3Ideal.ProjK
open Idealize.ShloMosaic Idealize.ShloMosaic.TcCoe Idealize.SL.Sem
open Idealize.ShloMosaic.Pipeline (Dat)
open Cert.Kernel3Ideal Cert.Kernel3Ideal.Gen
open Cert.Kernel2Ideal.MergeK (net)

variable (m : (ℓ : Loc nD τ sig) → Buf (Elt Ideal) ℓ) (c : Dev nD) (t : Fin cfg0.N)

/-- The product with the columns of the scan's input. -/
def uOf : FVec Ideal S512x1024 .f32 :=
  prod512 (rd512 m c t) (View.ld (iblk m c 6 t) (Rect.unit (s := S1024x5248) ![0, 3072] ![1024, 1024] inb_S1024x5248_S1024x1024_0_3072))

set_option maxHeartbeats 4000000 in
theorem u_at (y : S64x64x128.Idx) : (outsAt0 m c t).2.2.2.2.2.1 y = spread (uOf m c t) y := by
  unfold Gen.outsAt0; dsimp only; unfold out0_A_14; unfold kernelRun0_A; dsimp only
  rw [View.read_writes_junk_eq_canon]
  rw [← List.append_nil (α := View.Piece (Elt Ideal) S64x64x128 .bf16) (_ :: _)]
  refine View.canon_append_of_piecesOf (spread (uOf m c t)) [] _ ?_ y (View.cover_of_tiledL (s := S64x64x128) _ ![1, 64, 128] (by sl_kernel_rfl) y)
  refine spread_of (o := 896) slices_S512x1024_o0_896_S64x128 slices_S512x1024_o64_896_S64x128 slices_S512x1024_o128_896_S64x128 slices_S512x1024_o192_896_S64x128
    slices_S512x1024_o256_896_S64x128 slices_S512x1024_o320_896_S64x128 slices_S512x1024_o384_896_S64x128 slices_S512x1024_o448_896_S64x128
    ?_ ?_ ?_ ?_ ?_ ?_ ?_ ?_ (by decide) ?_; rotate_left 8
  refine spread_of (o := 768) slices_S512x1024_o0_768_S64x128 slices_S512x1024_o64_768_S64x128 slices_S512x1024_o128_768_S64x128 slices_S512x1024_o192_768_S64x128
    slices_S512x1024_o256_768_S64x128 slices_S512x1024_o320_768_S64x128 slices_S512x1024_o384_768_S64x128 slices_S512x1024_o448_768_S64x128
    ?_ ?_ ?_ ?_ ?_ ?_ ?_ ?_ (by decide) ?_; rotate_left 8
  refine spread_of (o := 640) slices_S512x1024_o0_640_S64x128 slices_S512x1024_o64_640_S64x128 slices_S512x1024_o128_640_S64x128 slices_S512x1024_o192_640_S64x128
    slices_S512x1024_o256_640_S64x128 slices_S512x1024_o320_640_S64x128 slices_S512x1024_o384_640_S64x128 slices_S512x1024_o448_640_S64x128
    ?_ ?_ ?_ ?_ ?_ ?_ ?_ ?_ (by decide) ?_; rotate_left 8
  refine spread_of (o := 512) slices_S512x1024_o0_512_S64x128 slices_S512x1024_o64_512_S64x128 slices_S512x1024_o128_512_S64x128 slices_S512x1024_o192_512_S64x128
    slices_S512x1024_o256_512_S64x128 slices_S512x1024_o320_512_S64x128 slices_S512x1024_o384_512_S64x128 slices_S512x1024_o448_512_S64x128
    ?_ ?_ ?_ ?_ ?_ ?_ ?_ ?_ (by decide) ?_; rotate_left 8
  refine spread_of (o := 384) slices_S512x1024_o0_384_S64x128 slices_S512x1024_o64_384_S64x128 slices_S512x1024_o128_384_S64x128 slices_S512x1024_o192_384_S64x128
    slices_S512x1024_o256_384_S64x128 slices_S512x1024_o320_384_S64x128 slices_S512x1024_o384_384_S64x128 slices_S512x1024_o448_384_S64x128
    ?_ ?_ ?_ ?_ ?_ ?_ ?_ ?_ (by decide) ?_; rotate_left 8
  refine spread_of (o := 256) slices_S512x1024_o0_256_S64x128 slices_S512x1024_o64_256_S64x128 slices_S512x1024_o128_256_S64x128 slices_S512x1024_o192_256_S64x128
    slices_S512x1024_o256_256_S64x128 slices_S512x1024_o320_256_S64x128 slices_S512x1024_o384_256_S64x128 slices_S512x1024_o448_256_S64x128
    ?_ ?_ ?_ ?_ ?_ ?_ ?_ ?_ (by decide) ?_; rotate_left 8
  refine spread_of (o := 128) slices_S512x1024_o0_128_S64x128 slices_S512x1024_o64_128_S64x128 slices_S512x1024_o128_128_S64x128 slices_S512x1024_o192_128_S64x128
    slices_S512x1024_o256_128_S64x128 slices_S512x1024_o320_128_S64x128 slices_S512x1024_o384_128_S64x128 slices_S512x1024_o448_128_S64x128
    ?_ ?_ ?_ ?_ ?_ ?_ ?_ ?_ (by decide) ?_; rotate_left 8
  refine spread_of (o := 0) slices_S512x1024_o0_0_S64x128 slices_S512x1024_o64_0_S64x128 slices_S512x1024_o128_0_S64x128 slices_S512x1024_o192_0_S64x128
    slices_S512x1024_o256_0_S64x128 slices_S512x1024_o320_0_S64x128 slices_S512x1024_o384_0_S64x128 slices_S512x1024_o448_0_S64x128
    ?_ ?_ ?_ ?_ ?_ ?_ ?_ ?_ (by decide) ?_; rotate_left 8
  · trivial
  all_goals
    frame_out
    unfold spreadRow uOf rd512
    rfl

/-- The block's element, from the point's projections. -/
theorem out14_at (g w : Fin 64) (l : Fin 128) : (outsAt0 m c t).2.2.2.2.2.1 (ix3 g w l)
    = (args m c).z (tb t) (tt t ⟨l.val / 16 * 64 + w.val, by omega⟩) ⟨3072 + (g.val * 16 + l.val % 16), by omega⟩ :=
  (u_at m c t _).trans (main_at m c t 3072 _ _ ⟨g.val * 16 + l.val % 16, by omega⟩ _)

end Cert.Kernel3Ideal.ProjK
end
-- ==== Proof.Proj.Layout.lean ====
module

public import proofs.«01_k».proof.Proof.Proj.Core

/-! Where the result arrays hold the projections of a token. -/

@[expose] public section

noncomputable section
namespace Cert.Proj
open Idealize.ShloMosaic

/-- 1024 columns of a projection, from `o` on. -/
def cols {n : ℕ} (f : Fin 8 → Fin 8192 → Fin n → EReal) (o : ℕ) (h : o + 1024 ≤ n) : Fin 8 → Fin 8192 → Fin 1024 → EReal :=
  fun b T j => f b T ⟨o + j.val, by omega⟩
/-- The keys: the second half of the convolved columns, scaled, with the tokens last. -/
def keys (f : Fin 8 → Fin 8192 → Fin 2048 → EReal) : Fin 8 → Fin 1024 → Fin 8192 → EReal :=
  fun b j T => f b T ⟨1024 + j.val, by omega⟩ * Ideal.ofBits .f32 0x3D800000#32
/-- The scan's input: sixteen channels a group; a row stands for a panel of 1024 tokens, a batch entry and one of 64 columns of the panel, and
holds the panel's sixteen tokens of that column. -/
def scanIn (f : Fin 8 → Fin 8192 → Fin 5248 → EReal) : Fin 64 → Fin 4096 → Fin 256 → EReal :=
  fun g p l => f ⟨p.val / 64 % 8, by omega⟩ ⟨p.val / 512 * 1024 + l.val / 16 * 64 + p.val % 64, by omega⟩ ⟨3072 + (g.val * 16 + l.val % 16), by omega⟩

end Cert.Proj
end
-- ==== Proof.Proj.Out.lean ====
module

public import proofs.«01_k».proof.Proof.Proj.PointM
public import proofs.«01_k».proof.Proof.Proj.PointQ
public import proofs.«01_k».proof.Proof.Proj.Spread
public import proofs.«01_k».proof.Proof.Proj.Layout

/-! The output arrays after the call: every token's projections. -/

@[expose] public section

set_option maxRecDepth 16384
noncomputable section
namespace Cert.Kernel3Ideal.ProjK
open Idealize.ShloMosaic Idealize.ShloMosaic.TcCoe Idealize.SL.Sem
open Idealize.ShloMosaic.Pipeline (Dat)
open Cert.Kernel3Ideal Cert.Kernel3Ideal.Gen
open Cert.Proj

variable (m : (ℓ : Loc nD τ sig) → Buf (Elt Ideal) ℓ) (c : Dev nD)

/-- An index known by its coordinates. -/
theorem of_emb3 {a b d : ℕ} {z : (Shape.mk 3 ![a, b, d]).Idx} {i : Fin a} {j : Fin b} {k : Fin d} (h : z = ix3 i j k)
    (f : Fin a → Fin b → Fin d → EReal) : f i j k = f (z 0) (z 1) (z 2) := by subst h; rfl

/-- The queries after the call. -/
theorem final9 : (dats m 0 c).arrAt 9 cfg0.N = fun j : S8x8192x1024.Idx => cols (args m c).qk 0 (by decide) (j 0) (j 1) (j 2) := by
  refine (dats m 0 c).arrAt_eq_of_covers 9 _ (by decide +kernel) fun t _ y => ?_
  blk_simp
  rw [after0_9]
  obtain ⟨z, r, j, rfl⟩ : ∃ (z : Fin 1) (r : Fin 512) (j : Fin 1024), y = ix3 z r j := ⟨y 0, y 1, y 2, eq_ix3 y⟩
  obtain rfl := Subsingleton.elim z 0
  have he : ((View.whole main_v1_0).slice (win0_9.rect t)).emb (ix3 0 r j) = ix3 (tb t) (tt t r) j := by blk_ext [idx t, tb, tt]
  exact (out9_at t r j m c).trans (of_emb3 he (cols (args m c).qk 0 (by decide)))

/-- The keys after the call. -/
theorem final10 : (dats m 0 c).arrAt 10 cfg0.N = fun j : S8x1024x8192.Idx => keys (args m c).qk (j 0) (j 1) (j 2) := by
  refine (dats m 0 c).arrAt_eq_of_covers 10 _ (by decide +kernel) fun t _ y => ?_
  blk_simp
  rw [after0_10]
  obtain ⟨z, j, r, rfl⟩ : ∃ (z : Fin 1) (j : Fin 1024) (r : Fin 512), y = ix3 z j r := ⟨y 0, y 1, y 2, eq_ix3 y⟩
  obtain rfl := Subsingleton.elim z 0
  have he : ((View.whole main_v1_1).slice (win0_10.rect t)).emb (ix3 0 j r) = ix3 (tb t) j (tt t r) := by blk_ext [idx t, tb, tt]
  exact (out10_at t r j m c).trans (of_emb3 he (keys (args m c).qk))

/-- The values after the call. -/
theorem final11 : (dats m 0 c).arrAt 11 cfg0.N = fun j : S8x8192x1024.Idx => cols (args m c).z 0 (by decide) (j 0) (j 1) (j 2) := by
  refine (dats m 0 c).arrAt_eq_of_covers 11 _ (by decide +kernel) fun t _ y => ?_
  blk_simp
  rw [after0_11]
  obtain ⟨z, r, j, rfl⟩ : ∃ (z : Fin 1) (r : Fin 512) (j : Fin 1024), y = ix3 z r j := ⟨y 0, y 1, y 2, eq_ix3 y⟩
  obtain rfl := Subsingleton.elim z 0
  have he : ((View.whole main_v1_2).slice (win0_11.rect t)).emb (ix3 0 r j) = ix3 (tb t) (tt t r) j := by blk_ext [idx t, tb, tt]
  exact (out11_at m c t r j).trans (of_emb3 he (cols (args m c).z 0 (by decide)))

/-- The output gate's projection after the call. -/
theorem final12 : (dats m 0 c).arrAt 12 cfg0.N = fun j : S8x8192x1024.Idx => cols (args m c).z 1024 (by decide) (j 0) (j 1) (j 2) := by
  refine (dats m 0 c).arrAt_eq_of_covers 12 _ (by decide +kernel) fun t _ y => ?_
  blk_simp
  rw [after0_12]
  obtain ⟨z, r, j, rfl⟩ : ∃ (z : Fin 1) (r : Fin 512) (j : Fin 1024), y = ix3 z r j := ⟨y 0, y 1, y 2, eq_ix3 y⟩
  obtain rfl := Subsingleton.elim z 0
  have he : ((View.whole main_v1_3).slice (win0_12.rect t)).emb (ix3 0 r j) = ix3 (tb t) (tt t r) j := by blk_ext [idx t, tb, tt]
  exact (out12_at m c t r j).trans (of_emb3 he (cols (args m c).z 1024 (by decide)))

/-- The inner gate's projection after the call. -/
theorem final13 : (dats m 0 c).arrAt 13 cfg0.N = fun j : S8x8192x1024.Idx => cols (args m c).z 2048 (by decide) (j 0) (j 1) (j 2) := by
  refine (dats m 0 c).arrAt_eq_of_covers 13 _ (by decide +kernel) fun t _ y => ?_
  blk_simp
  rw [after0_13]
  obtain ⟨z, r, j, rfl⟩ : ∃ (z : Fin 1) (r : Fin 512) (j : Fin 1024), y = ix3 z r j := ⟨y 0, y 1, y 2, eq_ix3 y⟩
  obtain rfl := Subsingleton.elim z 0
  have he : ((View.whole main_v1_4).slice (win0_13.rect t)).emb (ix3 0 r j) = ix3 (tb t) (tt t r) j := by blk_ext [idx t, tb, tt]
  exact (out13_at m c t r j).trans (of_emb3 he (cols (args m c).z 2048 (by decide)))

/-- The scan's input after the call. -/
theorem final14 : (dats m 0 c).arrAt 14 cfg0.N = fun j : S64x4096x256.Idx => scanIn (args m c).z (j 0) (j 1) (j 2) := by
  refine (dats m 0 c).arrAt_eq_of_covers 14 _ (by decide +kernel) fun t _ y => ?_
  blk_simp
  rw [after0_14]
  obtain ⟨g, w, l, rfl⟩ : ∃ (g w : Fin 64) (l : Fin 128), y = ix3 g w l := ⟨y 0, y 1, y 2, eq_ix3 y⟩
  have ht : t.val < 128 := t.2
  have he : ((View.whole main_v1_5).slice (win0_14.rect t)).emb (ix3 g w l)
      = ix3 g ⟨(t.val % 16 / 2 * 8 + t.val / 16) * 64 + w.val, by omega⟩ ⟨t.val % 16 % 2 * 128 + l.val, by omega⟩ := by blk_ext [idx t]
  refine (out14_at m c t g w l).trans (Eq.trans ?_ (of_emb3 he (scanIn (args m c).z)))
  refine congr (congr (congrArg (args m c).z (Fin.ext ?_)) (Fin.ext ?_)) (Fin.ext ?_)
  · show t.val / 16 = ((t.val % 16 / 2 * 8 + t.val / 16) * 64 + w.val) / 64 % 8; omega
  · show t.val % 16 * 512 + (l.val / 16 * 64 + w.val) = ((t.val % 16 / 2 * 8 + t.val / 16) * 64 + w.val) / 512 * 1024
      + (t.val % 16 % 2 * 128 + l.val) / 16 * 64 + ((t.val % 16 / 2 * 8 + t.val / 16) * 64 + w.val) % 64; omega
  · show 3072 + (g.val * 16 + l.val % 16) = 3072 + (g.val * 16 + (t.val % 16 % 2 * 128 + l.val) % 16); omega

/-- The gate path of the scan after the call. -/
theorem final15 : (dats m 0 c).arrAt 15 cfg0.N = fun j : S8x8192x1024.Idx => cols (args m c).z 4096 (by decide) (j 0) (j 1) (j 2) := by
  refine (dats m 0 c).arrAt_eq_of_covers 15 _ (by decide +kernel) fun t _ y => ?_
  blk_simp
  rw [after0_15]
  obtain ⟨z, r, j, rfl⟩ : ∃ (z : Fin 1) (r : Fin 512) (j : Fin 1024), y = ix3 z r j := ⟨y 0, y 1, y 2, eq_ix3 y⟩
  obtain rfl := Subsingleton.elim z 0
  have he : ((View.whole main_v1_6).slice (win0_15.rect t)).emb (ix3 0 r j) = ix3 (tb t) (tt t r) j := by blk_ext [idx t, tb, tt]
  exact (out15_at m c t r j).trans (of_emb3 he (cols (args m c).z 4096 (by decide)))

end Cert.Kernel3Ideal.ProjK
end
-- ==== Proof.Proj.Ref.lean ====
module

public import proofs.«01_k».proof.Proof.Gen.Reference3Ideal.Run
public import proofs.«01_k».proof.Proof.Proj.Core

/-! The reference, step by step, and what it gives at one token. -/

@[expose] public section

set_option maxRecDepth 16384
noncomputable section
namespace Cert.Reference3Ideal.ProjR
open Idealize.ShloMosaic Idealize.ShloMosaic.TcCoe Idealize.SL.Sem Idealize.ShloMosaic.StableHlo
open Cert.Reference3Ideal Cert.Reference3Ideal.Gen Cert.Reference3Ideal.Value
open Cert.Proj

/-- The modulated rows. -/
def hidR (a0 : FVec Ideal S8x8192x1024 .f32) (a1 : FVec Ideal S8x3x1024 .f32) (a2 : FVec Ideal S1024 .f32) : FVec Ideal S8x8192x1024 .f32 :=
  addf (mulf (mulf (mulf a0 (broadcastInDim S8x8192x1024 ![0, 1, 2] bcast_S8x8192x1_S8x8192x1024_0_1_2
    (Host.rsqrt (addf (Host.divf (broadcastInDim S8x8192x1 ![0, 1] bcast_S8x8192_S8x8192x1_0_1
      (Host.reduceAdd (mulf a0 a0) (constant S_ .f32 0x00000000#32) reducesTo_S8x8192x1024_S8x8192_d2 h_S_))
      (broadcastInDim S8x8192x1 ![] bcast_S_S8x8192x1 (constant S_ .f32 0x44800000#32)))
      (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 a2)))
    (broadcastInDim S8x8192x1024 ![0, 1, 2] bcast_S8x1x1024_S8x8192x1024_0_1_2
      (addf (broadcastInDim S8x1x1024 ![] bcast_S_S8x1x1024 (constant S_ .f32 0x3F800000#32))
        (broadcastInDim S8x1x1024 ![0, 2] bcast_S8x1024_S8x1x1024_0_2
          (shapeCast _ (extractStridedSlice S8x1x1024 ![0, 1, 0] a1 slices_S8x3x1024_S8x1x1024_0_1_0) shapeCasts_S8x1x1024_S8x1024)))))
    (broadcastInDim S8x8192x1024 ![0, 1, 2] bcast_S8x1x1024_S8x8192x1024_0_1_2 (broadcastInDim S8x1x1024 ![0, 2] bcast_S8x1024_S8x1x1024_0_2
      (shapeCast _ (extractStridedSlice S8x1x1024 ![0, 0, 0] a1 slices_S8x3x1024_S8x1x1024_0_0_0) shapeCasts_S8x1x1024_S8x1024)))
/-- Queries and keys before the convolution, with a zero on each side of the sequence. -/
def paddedR (h : FVec Ideal S8x8192x1024 .f32) (a3 : FVec Ideal S1024x2048 .bf16) : FVec Ideal S8x8194x2048 .f32 :=
  pad S8x8194x2048 ![0, 1, 0] ![0, 1, 0] ![0, 0, 0] (Host.dotGeneral dot_S8x8192x1024_S1024x2048_S8x8192x2048_2_0_01_1_n_n none h
    (extf .f32 a3 bitsLt_bf16_f32)) (sitofp .f32 (constantI S_ 32 0#32)) pads_S8x8192x2048_S8x8194x2048_000_110_000 h_S_
/-- A row of taps, along every token. -/
def alongR (v : FVec Ideal S1x2048 .f32) : FVec Ideal S8x8192x2048 .f32 :=
  broadcastInDim S8x8192x2048 ![0, 1, 2] bcast_S1x1x2048_S8x8192x2048_0_1_2 (broadcastInDim S1x1x2048 ![2] bcast_S2048_S1x1x2048_2
    (shapeCast _ v shapeCasts_S1x2048_S2048))
/-- The convolution. -/
def convR (z : FVec Ideal S8x8194x2048 .f32) (a5 : FVec Ideal S3x2048 .f32) : FVec Ideal S8x8192x2048 .f32 :=
  addf (addf
    (mulf (alongR (extractStridedSlice S1x2048 ![0, 0] a5 slices_S3x2048_S1x2048_0_0))
      (extractStridedSlice S8x8192x2048 ![0, 0, 0] z slices_S8x8194x2048_S8x8192x2048_0_0_0))
    (mulf (alongR (extractStridedSlice S1x2048 ![1, 0] a5 slices_S3x2048_S1x2048_1_0))
      (extractStridedSlice S8x8192x2048 ![0, 1, 0] z slices_S8x8194x2048_S8x8192x2048_0_1_0)))
    (mulf (alongR (extractStridedSlice S1x2048 ![2, 0] a5 slices_S3x2048_S1x2048_2_0))
      (extractStridedSlice S8x8192x2048 ![0, 2, 0] z slices_S8x8194x2048_S8x8192x2048_0_2_0))
/-- An array times its logistic. -/
def siluR (X : FVec Ideal S8x8192x2048 .f32) : FVec Ideal S8x8192x2048 .f32 :=
  mulf X (Host.divf (broadcastInDim S8x8192x2048 ![] bcast_S_S8x8192x2048 (constant S_ .f32 0x3F800000#32))
    (addf (broadcastInDim S8x8192x2048 ![] bcast_S_S8x8192x2048 (constant S_ .f32 0x3F800000#32)) (Host.exp (Host.negf X))))
/-- Queries and keys. -/
def qkR (h : FVec Ideal S8x8192x1024 .f32) (a3 : FVec Ideal S1024x2048 .bf16) (a5 : FVec Ideal S3x2048 .f32) : FVec Ideal S8x8192x2048 .f32 :=
  siluR (convR (paddedR h a3) a5)
/-- The queries. -/
def qR (X : FVec Ideal S8x8192x2048 .f32) : FVec Ideal S8x8192x1024 .bf16 :=
  truncf .bf16 (extractStridedSlice S8x8192x1024 ![0, 0, 0] X slices_S8x8192x2048_S8x8192x1024_0_0_0) bitsLt_bf16_f32
/-- The keys. -/
def ktR (X : FVec Ideal S8x8192x2048 .f32) : FVec Ideal S8x1024x8192 .bf16 :=
  truncf .bf16 (transpose S8x1024x8192 [0, 2, 1] (mulf (extractStridedSlice S8x8192x1024 ![0, 0, 1024] X slices_S8x8192x2048_S8x8192x1024_0_0_1024)
    (broadcastInDim S8x8192x1024 ![] bcast_S_S8x8192x1024 (constant S_ .f32 0x3D800000#32))) transposes_S8x8192x1024_S8x1024x8192_0_2_1) bitsLt_bf16_f32
/-- The other projections. -/
def mainR (h : FVec Ideal S8x8192x1024 .f32) (a4 : FVec Ideal S1024x5248 .bf16) : FVec Ideal S8x8192x5248 .f32 :=
  Host.dotGeneral dot_S8x8192x1024_S1024x5248_S8x8192x5248_2_0_01_1_n_n none h (extf .f32 a4 bitsLt_bf16_f32)

variable (m : (ℓ : Loc nD τ sig) → Buf (Elt Ideal) ℓ) (c : Dev nD)

/-- What the launched arrays hold. -/
def args : Args where
  x b T j := m (c, main_arg0) (ix3 b T j)
  md b k j := m (c, main_arg1) (ix3 b k j)
  g j := m (c, main_arg2) (ix1 j)
  wqk i j := m (c, main_arg3) (ix2 i j)
  wm i j := m (c, main_arg4) (ix2 i j)
  cv k j := m (c, main_arg5) (ix2 k j)

/-- The modulated rows of the launched arrays. -/
def H : FVec Ideal S8x8192x1024 .f32 :=
  hidR (m ((c.tc : Thread nD τ).loc main_arg0)) (m ((c.tc : Thread nD τ).loc main_arg1)) (m ((c.tc : Thread nD τ).loc main_arg2))
/-- Queries and keys of the launched arrays. -/
def QK : FVec Ideal S8x8192x2048 .f32 := qkR (H m c) (m ((c.tc : Thread nD τ).loc main_arg3)) (m ((c.tc : Thread nD τ).loc main_arg5))
/-- The other projections of the launched arrays. -/
def M : FVec Ideal S8x8192x5248 .f32 := mainR (H m c) (m ((c.tc : Thread nD τ).loc main_arg4))

theorem q_eq : res_main_v63 m c = qR (QK m c) := rfl
theorem kt_eq : res_main_v65 m c = ktR (QK m c) := rfl

variable (b : Fin 8) (T : Fin 8192)

theorem hidR_at (a0 a1 a2) (k : Fin 1024) : hidR a0 a1 a2 (ix3 b T k)
    = hid (fun j => a0 (ix3 b T j)) (fun j => a2 (ix1 j)) (fun j => a1 (ix3 b 0 j)) (fun j => a1 (ix3 b 1 j)) k := by
  pointwise [hidR]; rfl
theorem H_at (k : Fin 1024) : H m c (ix3 b T k) = (args m c).h b T k := (hidR_at b T _ _ _ k).trans rfl

theorem alongR_at (v) (j : Fin 2048) : alongR v (ix3 b T j) = v (ix2 0 j) := by pointwise [alongR]
theorem zero_int : FloatOps.sitofp (F := Ideal) FTy.f32 0#32 = (0 : EReal) := by
  show (((0#32 : BitVec 32).toInt : ℝ) : EReal) = 0
  simp
theorem paddedR_at (h a3) (n : Fin 8194) (j : Fin 2048) : paddedR h a3 (ix3 b n j)
    = padded (fun T => ∑ k, h (ix3 b T k) * a3 (ix2 k j)) n.val := by
  pointwise [paddedR]
  unfold padded
  by_cases h0 : 0 < n.val ∧ n.val ≤ 8192
  · rw [dif_pos (show 1 ≤ n.val ∧ n.val - 1 < 8192 by omega), dif_pos h0]
  · rw [dif_neg (show ¬(1 ≤ n.val ∧ n.val - 1 < 8192) by omega), dif_neg h0]
    exact zero_int
theorem siluR_at (X) (j : Fin 2048) : siluR X (ix3 b T j) = silu (X (ix3 b T j)) := by pointwise [siluR]; rfl
theorem convR_at (z a5) (j : Fin 2048) : convR z a5 (ix3 b T j) = a5 (ix2 0 j) * z (ix3 b ⟨T.val, by omega⟩ j)
    + a5 (ix2 1 j) * z (ix3 b ⟨T.val + 1, by omega⟩ j) + a5 (ix2 2 j) * z (ix3 b ⟨T.val + 2, by omega⟩ j) := by
  have e1 : (⟨T.val + 1, by omega⟩ : Fin 8194) = ⟨1 + T.val, by omega⟩ := Fin.ext (Nat.add_comm _ _)
  have e2 : (⟨T.val + 2, by omega⟩ : Fin 8194) = ⟨2 + T.val, by omega⟩ := Fin.ext (Nat.add_comm _ _)
  rw [e1, e2]
  pointwise [convR]; simp only [alongR_at]
  congr 1; congr 1
  all_goals refine congrArg (· * _) ?_; pointwise
theorem QK_at (j : Fin 2048) : QK m c (ix3 b T j) = (args m c).qk b T j := by
  have e : QK m c (ix3 b T j) = silu _ := (siluR_at b T _ j).trans (congrArg silu (convR_at b T _ _ j))
  rw [e]; simp only [paddedR_at, H_at]; rfl
theorem M_at (j : Fin 5248) : M m c (ix3 b T j) = (args m c).z b T j := by
  have e : M m c (ix3 b T j) = ∑ k : Fin 1024, H m c (ix3 b T k) * (m ((c.tc : Thread nD τ).loc main_arg4)) (ix2 k j) := by
    unfold M; pointwise [mainR]
  rw [e]; simp only [H_at]; rfl

theorem qR_at (X) (j : Fin 1024) : qR X (ix3 b T j) = X (ix3 b T ⟨j.val, by omega⟩) := by pointwise [qR]
theorem ktR_at (X) (j : Fin 1024) : ktR X (ix3 b j T) = X (ix3 b T ⟨1024 + j.val, by omega⟩) * Ideal.ofBits .f32 0x3D800000#32 := by pointwise [ktR]

end Cert.Reference3Ideal.ProjR
end
-- ==== Proof.Proj.RefOut.lean ====
module

public import proofs.«01_k».proof.Proof.Proj.Ref
public import proofs.«01_k».proof.Proof.Proj.Layout

/-! The reference's results, from a token's projections. -/

@[expose] public section

set_option maxRecDepth 16384
noncomputable section
namespace Cert.Reference3Ideal.ProjR
open Idealize.ShloMosaic Idealize.ShloMosaic.TcCoe Idealize.SL.Sem Idealize.ShloMosaic.StableHlo
open Cert.Reference3Ideal Cert.Reference3Ideal.Gen Cert.Reference3Ideal.Value
open Cert.Proj

/-- The values. -/
def vR (X : FVec Ideal S8x8192x5248 .f32) : FVec Ideal S8x8192x1024 .bf16 :=
  truncf .bf16 (extractStridedSlice S8x8192x1024 ![0, 0, 0] X slices_S8x8192x5248_S8x8192x1024_0_0_0) bitsLt_bf16_f32
/-- The output gate's projection. -/
def oR (X : FVec Ideal S8x8192x5248 .f32) : FVec Ideal S8x8192x1024 .bf16 :=
  truncf .bf16 (extractStridedSlice S8x8192x1024 ![0, 0, 1024] X slices_S8x8192x5248_S8x8192x1024_0_0_1024) bitsLt_bf16_f32
/-- The inner gate's projection. -/
def zmR (X : FVec Ideal S8x8192x5248 .f32) : FVec Ideal S8x8192x1024 .bf16 :=
  truncf .bf16 (extractStridedSlice S8x8192x1024 ![0, 0, 2048] X slices_S8x8192x5248_S8x8192x1024_0_0_2048) bitsLt_bf16_f32
/-- The gate path of the scan. -/
def zsR (X : FVec Ideal S8x8192x5248 .f32) : FVec Ideal S8x8192x1024 .bf16 :=
  truncf .bf16 (extractStridedSlice S8x8192x1024 ![0, 0, 4096] X slices_S8x8192x5248_S8x8192x1024_0_0_4096) bitsLt_bf16_f32
/-- The scan's input before it is laid out. -/
def rowsR (X : FVec Ideal S8x8192x5248 .f32) : FVec Ideal S8x8192x1024 .f32 :=
  extractStridedSlice S8x8192x1024 ![0, 0, 3072] X slices_S8x8192x5248_S8x8192x1024_0_0_3072
/-- Rows of tokens as panels of sixteen by 64 tokens and groups of sixteen channels, group and panel first. -/
def layR (Y : FVec Ideal S8x8192x1024 .f32) : FVec Ideal S64x4096x256 .f32 :=
  shapeCast _ (transpose S64x8x8x64x16x16 [4, 1, 0, 3, 2, 5] (shapeCast _ Y shapeCasts_S8x8192x1024_S8x8x16x64x64x16)
    transposes_S8x8x16x64x64x16_S64x8x8x64x16x16_4_1_0_3_2_5) shapeCasts_S64x8x8x64x16x16_S64x4096x256
/-- The scan's input. -/
def uR (X : FVec Ideal S8x8192x5248 .f32) : FVec Ideal S64x4096x256 .bf16 := truncf .bf16 (layR (rowsR X)) bitsLt_bf16_f32

variable (m : (ℓ : Loc nD τ sig) → Buf (Elt Ideal) ℓ) (c : Dev nD)

/-- The reference runs and leaves these seven arrays. -/
theorem run_named (ρ : Dev nD → PrngReg) :
    θ_run defs (onTc (τ := τ) (main (F := Ideal))) ⟨m, fun _ => 0, ρ⟩ fun r => ∀ c : Dev nD,
      r.2.mem ((c.tc : Thread nD τ).loc main_v63) = qR (QK m c)
      ∧ r.2.mem ((c.tc : Thread nD τ).loc main_v65) = ktR (QK m c)
      ∧ r.2.mem ((c.tc : Thread nD τ).loc main_v66) = vR (M m c)
      ∧ r.2.mem ((c.tc : Thread nD τ).loc main_v67) = oR (M m c)
      ∧ r.2.mem ((c.tc : Thread nD τ).loc main_v68) = zmR (M m c)
      ∧ r.2.mem ((c.tc : Thread nD τ).loc main_v69) = uR (M m c)
      ∧ r.2.mem ((c.tc : Thread nD τ).loc main_v70) = zsR (M m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference3Ideal.Value.run m ρ

variable (b : Fin 8) (T : Fin 8192) (X : FVec Ideal S8x8192x5248 .f32) (j : Fin 1024)

theorem vR_at : vR X (ix3 b T j) = X (ix3 b T ⟨0 + j.val, by omega⟩) := by pointwise [vR]
theorem oR_at : oR X (ix3 b T j) = X (ix3 b T ⟨1024 + j.val, by omega⟩) := by pointwise [oR]
theorem zmR_at : zmR X (ix3 b T j) = X (ix3 b T ⟨2048 + j.val, by omega⟩) := by pointwise [zmR]
theorem zsR_at : zsR X (ix3 b T j) = X (ix3 b T ⟨4096 + j.val, by omega⟩) := by pointwise [zsR]
theorem rowsR_at : rowsR X (ix3 b T j) = X (ix3 b T ⟨3072 + j.val, by omega⟩) := by pointwise [rowsR]
theorem layR_at (Y : FVec Ideal S8x8192x1024 .f32) (g : Fin 64) (p : Fin 4096) (l : Fin 256) : layR Y (ix3 g p l)
    = Y (ix3 ⟨p.val / 64 % 8, by omega⟩ ⟨p.val / 512 * 1024 + l.val / 16 * 64 + p.val % 64, by omega⟩ ⟨g.val * 16 + l.val % 16, by omega⟩) := by
  pointwise [layR]
theorem uR_at (g : Fin 64) (p : Fin 4096) (l : Fin 256) : uR X (ix3 g p l) = layR (rowsR X) (ix3 g p l) := by pointwise [uR]

theorem q_all : qR (QK m c) = fun j : S8x8192x1024.Idx => cols (args m c).qk 0 (by decide) (j 0) (j 1) (j 2) := by
  funext i; obtain ⟨b, T, j, rfl⟩ : ∃ (b : Fin 8) (T : Fin 8192) (j : Fin 1024), i = ix3 b T j := ⟨i 0, i 1, i 2, eq_ix3 i⟩
  refine (qR_at b T _ j).trans ((QK_at m c b T _).trans (congrArg ((args m c).qk b T) (Fin.ext ?_)))
  show j.val = 0 + j.val; omega
theorem kt_all : ktR (QK m c) = fun j : S8x1024x8192.Idx => keys (args m c).qk (j 0) (j 1) (j 2) := by
  funext i; obtain ⟨b, j, T, rfl⟩ : ∃ (b : Fin 8) (j : Fin 1024) (T : Fin 8192), i = ix3 b j T := ⟨i 0, i 1, i 2, eq_ix3 i⟩
  exact (ktR_at b T _ j).trans (congrArg (· * Ideal.ofBits .f32 0x3D800000#32) (QK_at m c b T _))
theorem v_all : vR (M m c) = fun j : S8x8192x1024.Idx => cols (args m c).z 0 (by decide) (j 0) (j 1) (j 2) := by
  funext i; obtain ⟨b, T, j, rfl⟩ : ∃ (b : Fin 8) (T : Fin 8192) (j : Fin 1024), i = ix3 b T j := ⟨i 0, i 1, i 2, eq_ix3 i⟩
  exact (vR_at b T _ j).trans (M_at m c b T _)
theorem o_all : oR (M m c) = fun j : S8x8192x1024.Idx => cols (args m c).z 1024 (by decide) (j 0) (j 1) (j 2) := by
  funext i; obtain ⟨b, T, j, rfl⟩ : ∃ (b : Fin 8) (T : Fin 8192) (j : Fin 1024), i = ix3 b T j := ⟨i 0, i 1, i 2, eq_ix3 i⟩
  exact (oR_at b T _ j).trans (M_at m c b T _)
theorem zm_all : zmR (M m c) = fun j : S8x8192x1024.Idx => cols (args m c).z 2048 (by decide) (j 0) (j 1) (j 2) := by
  funext i; obtain ⟨b, T, j, rfl⟩ : ∃ (b : Fin 8) (T : Fin 8192) (j : Fin 1024), i = ix3 b T j := ⟨i 0, i 1, i 2, eq_ix3 i⟩
  exact (zmR_at b T _ j).trans (M_at m c b T _)
theorem zs_all : zsR (M m c) = fun j : S8x8192x1024.Idx => cols (args m c).z 4096 (by decide) (j 0) (j 1) (j 2) := by
  funext i; obtain ⟨b, T, j, rfl⟩ : ∃ (b : Fin 8) (T : Fin 8192) (j : Fin 1024), i = ix3 b T j := ⟨i 0, i 1, i 2, eq_ix3 i⟩
  exact (zsR_at b T _ j).trans (M_at m c b T _)
theorem u_all : uR (M m c) = fun j : S64x4096x256.Idx => scanIn (args m c).z (j 0) (j 1) (j 2) := by
  funext i; obtain ⟨g, p, l, rfl⟩ : ∃ (g : Fin 64) (p : Fin 4096) (l : Fin 256), i = ix3 g p l := ⟨i 0, i 1, i 2, eq_ix3 i⟩
  exact (uR_at _ g p l).trans ((layR_at _ g p l).trans ((rowsR_at _ _ _ _).trans (M_at m c _ _ _)))

end Cert.Reference3Ideal.ProjR
end
-- ==== Proof.Proj.Claims.lean ====
module

public import proofs.«01_k».proof.Defs
public import proofs.«01_k».proof.Proof.Gen.Kernel3.Frame
public import proofs.«01_k».proof.Proof.Proj.Out
public import proofs.«01_k».proof.Proof.Proj.RefOut

/-! The claims about the projections: every program runs and leaves its arguments, and the kernel's seven result arrays are the reference's. -/

@[expose] public section

noncomputable section
namespace Cert.ProjClaims
open Idealize.ShloMosaic Idealize.SL.Sem
open Cert.Proj Cert.Reference3Ideal.ProjR Cert.Kernel3Ideal.ProjK

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run m ρ)

theorem algebraic : Cert.algebraic_Kernel3Ideal_Reference3Ideal := by
  intro m g m' g' _ hagree
  refine ⟨fun c => qR (QK m' c), fun c => ktR (QK m' c), fun c => vR (M m' c), fun c => oR (M m' c), fun c => zmR (M m' c),
    fun c => uR (M m' c), fun c => zsR (M m' c), ?_, run_named m' g'⟩
  refine (θ_run Cert.Kernel3Ideal.defs _ _).mono (fun r h c => ?_) (Cert.Kernel3Ideal.Value.run_blocks m g)
  obtain ⟨k9, k10, k11, k12, k13, k14, k15, _, _, kept⟩ := h c
  obtain ⟨a0, a1, a2, a3, a4, a5, _⟩ := hagree c
  have e : Cert.Kernel3Ideal.ProjK.args m c = Cert.Reference3Ideal.ProjR.args m' c := by
    unfold Cert.Kernel3Ideal.ProjK.args Cert.Reference3Ideal.ProjR.args
    congr 1
    · funext b T j; exact (congrFun a0 _).symm
    · funext b k j; exact (congrFun a1 _).symm
    · funext j; exact (congrFun a2 _).symm
    · funext i j; exact (congrFun a3 _).symm
    · funext i j; exact (congrFun a4 _).symm
    · funext k j; exact (congrFun a5 _).symm
  refine ⟨(k9.trans (final9 m c)).trans (Eq.trans ?_ (q_all m' c).symm), (k10.trans (final10 m c)).trans (Eq.trans ?_ (kt_all m' c).symm),
    (k11.trans (final11 m c)).trans (Eq.trans ?_ (v_all m' c).symm), (k12.trans (final12 m c)).trans (Eq.trans ?_ (o_all m' c).symm),
    (k13.trans (final13 m c)).trans (Eq.trans ?_ (zm_all m' c).symm), (k14.trans (final14 m c)).trans (Eq.trans ?_ (u_all m' c).symm),
    (k15.trans (final15 m c)).trans (Eq.trans ?_ (zs_all m' c).symm), kept⟩
  all_goals rw [e]

end Cert.ProjClaims
end
-- ==== Proof.lean ====
module

public import proofs.«01_k».proof.Proof.State.Claims
public import proofs.«01_k».proof.Proof.Merge.Claims
public import proofs.«01_k».proof.Proof.Proj.Claims

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_gates_summed.Gen.facts,
    StateClaims.frame_p, StateClaims.frame_pi, StateClaims.frame_pi_pre, StateClaims.frame_ri, StateClaims.frame_ri_pre,
    MergeClaims.frame_p, MergeClaims.frame_pi, MergeClaims.frame_ri,
    ProjClaims.frame_p, ProjClaims.frame_pi, ProjClaims.frame_ri,
    trivial, StateClaims.algebraic, trivial, MergeClaims.algebraic, trivial, ProjClaims.algebraic⟩

end Cert.Proof

end
